-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Rest (m : (ℓ : Loc Cert.Rest.nD Cert.Rest.τ Cert.Rest.sig) → Buf (Elt Bits) ℓ) : Prop :=
  True

def Pre_RestIdeal (m : (ℓ : Loc Cert.RestIdeal.nD Cert.RestIdeal.τ Cert.RestIdeal.sig) → Buf (Elt Ideal) ℓ) : Prop :=
  True

def Pre_RestReferenceIdeal (m : (ℓ : Loc Cert.RestReferenceIdeal.nD Cert.RestReferenceIdeal.τ Cert.RestReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4))
      ∧ r.2.sem = fun _ => 0)

def quiescent_Rest [hRest : Cert.Rest.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1)
      ∧ r.2.mem ((c.tc : Thread Cert.Rest.nD Cert.Rest.τ).loc Cert.Rest.main_arg2) = m ((c.tc : Thread Cert.Rest.nD Cert.Rest.τ).loc Cert.Rest.main_arg2)
      ∧ r.2.mem ((c.tc : Thread Cert.Rest.nD Cert.Rest.τ).loc Cert.Rest.main_arg3) = m ((c.tc : Thread Cert.Rest.nD Cert.Rest.τ).loc Cert.Rest.main_arg3)
      ∧ r.2.mem ((c.tc : Thread Cert.Rest.nD Cert.Rest.τ).loc Cert.Rest.main_arg4) = m ((c.tc : Thread Cert.Rest.nD Cert.Rest.τ).loc Cert.Rest.main_arg4)
      ∧ r.2.mem ((c.tc : Thread Cert.Rest.nD Cert.Rest.τ).loc Cert.Rest.main_arg5) = m ((c.tc : Thread Cert.Rest.nD Cert.Rest.τ).loc Cert.Rest.main_arg5))
      ∧ r.2.sem = fun _ => 0)

def quiescent_RestIdeal [hRestIdeal : Cert.RestIdeal.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
      ∧ r.2.mem ((c.tc : Thread Cert.RestIdeal.nD Cert.RestIdeal.τ).loc Cert.RestIdeal.main_arg2) = m ((c.tc : Thread Cert.RestIdeal.nD Cert.RestIdeal.τ).loc Cert.RestIdeal.main_arg2)
      ∧ r.2.mem ((c.tc : Thread Cert.RestIdeal.nD Cert.RestIdeal.τ).loc Cert.RestIdeal.main_arg3) = m ((c.tc : Thread Cert.RestIdeal.nD Cert.RestIdeal.τ).loc Cert.RestIdeal.main_arg3)
      ∧ r.2.mem ((c.tc : Thread Cert.RestIdeal.nD Cert.RestIdeal.τ).loc Cert.RestIdeal.main_arg4) = m ((c.tc : Thread Cert.RestIdeal.nD Cert.RestIdeal.τ).loc Cert.RestIdeal.main_arg4)
      ∧ r.2.mem ((c.tc : Thread Cert.RestIdeal.nD Cert.RestIdeal.τ).loc Cert.RestIdeal.main_arg5) = m ((c.tc : Thread Cert.RestIdeal.nD Cert.RestIdeal.τ).loc Cert.RestIdeal.main_arg5))
      ∧ r.2.sem = fun _ => 0)

def quiescent_RestReferenceIdeal [hRestReferenceIdeal : Cert.RestReferenceIdeal.Facts] : Prop :=
  ∀ (m : (ℓ : Loc Cert.RestReferenceIdeal.nD Cert.RestReferenceIdeal.τ Cert.RestReferenceIdeal.sig) → Buf (Elt Ideal) ℓ) (g : Dev Cert.RestReferenceIdeal.nD → PrngReg), Pre_RestReferenceIdeal m →
    θ_run (Cert.RestReferenceIdeal.defs (F := Ideal)) (onTc (τ := Cert.RestReferenceIdeal.τ) (Cert.RestReferenceIdeal.main (F := Ideal))) ⟨m, fun _ => 0, g⟩ (fun r => (∀ c : Dev Cert.RestReferenceIdeal.nD,
      r.2.mem ((c.tc : Thread Cert.RestReferenceIdeal.nD Cert.RestReferenceIdeal.τ).loc Cert.RestReferenceIdeal.main_arg0) = m ((c.tc : Thread Cert.RestReferenceIdeal.nD Cert.RestReferenceIdeal.τ).loc Cert.RestReferenceIdeal.main_arg0)
      ∧ r.2.mem ((c.tc : Thread Cert.RestReferenceIdeal.nD Cert.RestReferenceIdeal.τ).loc Cert.RestReferenceIdeal.main_arg1) = m ((c.tc : Thread Cert.RestReferenceIdeal.nD Cert.RestReferenceIdeal.τ).loc Cert.RestReferenceIdeal.main_arg1)
      ∧ r.2.mem ((c.tc : Thread Cert.RestReferenceIdeal.nD Cert.RestReferenceIdeal.τ).loc Cert.RestReferenceIdeal.main_arg2) = m ((c.tc : Thread Cert.RestReferenceIdeal.nD Cert.RestReferenceIdeal.τ).loc Cert.RestReferenceIdeal.main_arg2)
      ∧ r.2.mem ((c.tc : Thread Cert.RestReferenceIdeal.nD Cert.RestReferenceIdeal.τ).loc Cert.RestReferenceIdeal.main_arg3) = m ((c.tc : Thread Cert.RestReferenceIdeal.nD Cert.RestReferenceIdeal.τ).loc Cert.RestReferenceIdeal.main_arg3)
      ∧ r.2.mem ((c.tc : Thread Cert.RestReferenceIdeal.nD Cert.RestReferenceIdeal.τ).loc Cert.RestReferenceIdeal.main_arg4) = m ((c.tc : Thread Cert.RestReferenceIdeal.nD Cert.RestReferenceIdeal.τ).loc Cert.RestReferenceIdeal.main_arg4)
      ∧ r.2.mem ((c.tc : Thread Cert.RestReferenceIdeal.nD Cert.RestReferenceIdeal.τ).loc Cert.RestReferenceIdeal.main_arg5) = m ((c.tc : Thread Cert.RestReferenceIdeal.nD Cert.RestReferenceIdeal.τ).loc Cert.RestReferenceIdeal.main_arg5))
      ∧ r.2.sem = fun _ => 0)

def preserves_Kernel_KernelIdeal : Prop :=
  IdealRules.named_const.Statement Cert.KernelIdeal.κ "exp2_scale" .f32 0x3E0293EE#32 (((Real.log 2)⁻¹ * (Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)) →
    ∃ (v0 : (c : Dev Cert.TailIdeal.nD) → Buf (Elt Ideal) ((c.tc : Thread Cert.TailIdeal.nD Cert.TailIdeal.τ).loc Cert.TailIdeal.main_v9)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v9) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v19) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4))

def preserves_Rest_RestIdeal : Prop :=
  True

def algebraic_RestIdeal_RestReferenceIdeal [hRestIdeal : Cert.RestIdeal.Facts] [hRestReferenceIdeal : Cert.RestReferenceIdeal.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestReferenceIdeal.nD Cert.RestReferenceIdeal.τ Cert.RestReferenceIdeal.sig) → Buf (Elt Ideal) ℓ) (g' : Dev Cert.RestReferenceIdeal.nD → PrngReg), Pre_RestIdeal m →
    (∀ c : Dev Cert.RestIdeal.nD,
      m' ((c.tc : Thread Cert.RestReferenceIdeal.nD Cert.RestReferenceIdeal.τ).loc Cert.RestReferenceIdeal.main_arg0) = m ((c.tc : Thread Cert.RestIdeal.nD Cert.RestIdeal.τ).loc Cert.RestIdeal.main_arg0)
      ∧ m' ((c.tc : Thread Cert.RestReferenceIdeal.nD Cert.RestReferenceIdeal.τ).loc Cert.RestReferenceIdeal.main_arg1) = m ((c.tc : Thread Cert.RestIdeal.nD Cert.RestIdeal.τ).loc Cert.RestIdeal.main_arg1)
      ∧ m' ((c.tc : Thread Cert.RestReferenceIdeal.nD Cert.RestReferenceIdeal.τ).loc Cert.RestReferenceIdeal.main_arg2) = m ((c.tc : Thread Cert.RestIdeal.nD Cert.RestIdeal.τ).loc Cert.RestIdeal.main_arg2)
      ∧ m' ((c.tc : Thread Cert.RestReferenceIdeal.nD Cert.RestReferenceIdeal.τ).loc Cert.RestReferenceIdeal.main_arg3) = m ((c.tc : Thread Cert.RestIdeal.nD Cert.RestIdeal.τ).loc Cert.RestIdeal.main_arg3)
      ∧ m' ((c.tc : Thread Cert.RestReferenceIdeal.nD Cert.RestReferenceIdeal.τ).loc Cert.RestReferenceIdeal.main_arg4) = m ((c.tc : Thread Cert.RestIdeal.nD Cert.RestIdeal.τ).loc Cert.RestIdeal.main_arg4)
      ∧ m' ((c.tc : Thread Cert.RestReferenceIdeal.nD Cert.RestReferenceIdeal.τ).loc Cert.RestReferenceIdeal.main_arg5) = m ((c.tc : Thread Cert.RestIdeal.nD Cert.RestIdeal.τ).loc Cert.RestIdeal.main_arg5)) →
    ∃ (v0 : (c : Dev Cert.RestIdeal.nD) → Buf (Elt Ideal) ((c.tc : Thread Cert.RestIdeal.nD Cert.RestIdeal.τ).loc Cert.RestIdeal.main_v10_0)),
      θ_run (Cert.RestIdeal.defs (F := Ideal)) (onTc (τ := Cert.RestIdeal.τ) (Cert.RestIdeal.main (F := Ideal))) ⟨m, fun _ => 0, g⟩ (fun r => ∀ c : Dev Cert.RestIdeal.nD,
          r.2.mem ((c.tc : Thread Cert.RestIdeal.nD Cert.RestIdeal.τ).loc Cert.RestIdeal.main_v10_0) = v0 c
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
          ∧ r.2.mem ((c.tc : Thread Cert.RestIdeal.nD Cert.RestIdeal.τ).loc Cert.RestIdeal.main_arg2) = m ((c.tc : Thread Cert.RestIdeal.nD Cert.RestIdeal.τ).loc Cert.RestIdeal.main_arg2)
          ∧ r.2.mem ((c.tc : Thread Cert.RestIdeal.nD Cert.RestIdeal.τ).loc Cert.RestIdeal.main_arg3) = m ((c.tc : Thread Cert.RestIdeal.nD Cert.RestIdeal.τ).loc Cert.RestIdeal.main_arg3)
          ∧ r.2.mem ((c.tc : Thread Cert.RestIdeal.nD Cert.RestIdeal.τ).loc Cert.RestIdeal.main_arg4) = m ((c.tc : Thread Cert.RestIdeal.nD Cert.RestIdeal.τ).loc Cert.RestIdeal.main_arg4)
          ∧ r.2.mem ((c.tc : Thread Cert.RestIdeal.nD Cert.RestIdeal.τ).loc Cert.RestIdeal.main_arg5) = m ((c.tc : Thread Cert.RestIdeal.nD Cert.RestIdeal.τ).loc Cert.RestIdeal.main_arg5))
      ∧ θ_run (Cert.RestReferenceIdeal.defs (F := Ideal)) (onTc (τ := Cert.RestReferenceIdeal.τ) (Cert.RestReferenceIdeal.main (F := Ideal))) ⟨m', fun _ => 0, g'⟩ (fun r => ∀ c : Dev Cert.RestReferenceIdeal.nD,
          r.2.mem ((c.tc : Thread Cert.RestReferenceIdeal.nD Cert.RestReferenceIdeal.τ).loc Cert.RestReferenceIdeal.main_v20) = v0 c
          ∧ r.2.mem ((c.tc : Thread Cert.RestReferenceIdeal.nD Cert.RestReferenceIdeal.τ).loc Cert.RestReferenceIdeal.main_arg0) = m' ((c.tc : Thread Cert.RestReferenceIdeal.nD Cert.RestReferenceIdeal.τ).loc Cert.RestReferenceIdeal.main_arg0)
          ∧ r.2.mem ((c.tc : Thread Cert.RestReferenceIdeal.nD Cert.RestReferenceIdeal.τ).loc Cert.RestReferenceIdeal.main_arg1) = m' ((c.tc : Thread Cert.RestReferenceIdeal.nD Cert.RestReferenceIdeal.τ).loc Cert.RestReferenceIdeal.main_arg1)
          ∧ r.2.mem ((c.tc : Thread Cert.RestReferenceIdeal.nD Cert.RestReferenceIdeal.τ).loc Cert.RestReferenceIdeal.main_arg2) = m' ((c.tc : Thread Cert.RestReferenceIdeal.nD Cert.RestReferenceIdeal.τ).loc Cert.RestReferenceIdeal.main_arg2)
          ∧ r.2.mem ((c.tc : Thread Cert.RestReferenceIdeal.nD Cert.RestReferenceIdeal.τ).loc Cert.RestReferenceIdeal.main_arg3) = m' ((c.tc : Thread Cert.RestReferenceIdeal.nD Cert.RestReferenceIdeal.τ).loc Cert.RestReferenceIdeal.main_arg3)
          ∧ r.2.mem ((c.tc : Thread Cert.RestReferenceIdeal.nD Cert.RestReferenceIdeal.τ).loc Cert.RestReferenceIdeal.main_arg4) = m' ((c.tc : Thread Cert.RestReferenceIdeal.nD Cert.RestReferenceIdeal.τ).loc Cert.RestReferenceIdeal.main_arg4)
          ∧ r.2.mem ((c.tc : Thread Cert.RestReferenceIdeal.nD Cert.RestReferenceIdeal.τ).loc Cert.RestReferenceIdeal.main_arg5) = m' ((c.tc : Thread Cert.RestReferenceIdeal.nD Cert.RestReferenceIdeal.τ).loc Cert.RestReferenceIdeal.main_arg5))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hRest : Cert.Rest.Facts) (hRestIdeal : Cert.RestIdeal.Facts) (hRestReferenceIdeal : Cert.RestReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_TailReferenceIdeal (hTailReferenceIdeal := hTailReferenceIdeal)
    ∧ quiescent_Rest (hRest := hRest)
    ∧ quiescent_RestIdeal (hRestIdeal := hRestIdeal)
    ∧ quiescent_RestReferenceIdeal (hRestReferenceIdeal := hRestReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailReferenceIdeal (hTailIdeal := hTailIdeal) (hTailReferenceIdeal := hTailReferenceIdeal)
    ∧ preserves_Rest_RestIdeal
    ∧ algebraic_RestIdeal_RestReferenceIdeal (hRestIdeal := hRestIdeal) (hRestReferenceIdeal := hRestReferenceIdeal)
-- ==== Pre_finite.lean ====
abbrev S8192x1024 : Shape := ⟨2, ![8192, 1024]⟩
abbrev S16x1024 : Shape := ⟨2, ![16, 1024]⟩
abbrev S4x8x2048 : Shape := ⟨3, ![4, 8, 2048]⟩
abbrev S8x16 : Shape := ⟨2, ![8, 16]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S4x8x2048 : S_.BroadcastsInDim S4x8x2048 (![] : Fin 0 → Fin S4x8x2048.rank)
  reducesTo_S4x8x2048_S_d0_1_2 : S4x8x2048.ReducesTo [0, 1, 2] S_
  bcast_S_S8x16 : S_.BroadcastsInDim S8x16 (![] : Fin 0 → Fin S8x16.rank)
  reducesTo_S8x16_S_d0_1 : S8x16.ReducesTo [0, 1] S_

variable [Facts]

def fn_part1 {F : FTy → Type} [FloatOps F] (main_arg6 : FVec F S8x16 .f32) (main_v16 : IVec S_ 1) (main_v17 : FVec F S4x8x2048 .f32) : IVec S_ 1 :=
  let main_cst_4 : FVec F S_ .f32 := constant S_ .f32 0x7F800000#32
  let main_v18 : FVec F S4x8x2048 .f32 := broadcastInDim S4x8x2048 ![] bcast_S_S4x8x2048 main_cst_4
  let main_v19 : IVec S4x8x2048 1 := cmpf .olt main_v17 main_v18
  let main_c_5 : IVec S_ 1 := constantI S_ 1 1#1
  let main_v20 : IVec S_ 1 := (fun x v => Host.reduce IntOp.andi x v reducesTo_S4x8x2048_S_d0_1_2 h_S_) main_v19 main_c_5
  let main_v21 : IVec S_ 1 := andi main_v16 main_v20
  let main_v22 : FVec F S8x16 .f32 := Host.absf main_arg6
  let main_cst_6 : FVec F S_ .f32 := constant S_ .f32 0x7F800000#32
  let main_v23 : FVec F S8x16 .f32 := broadcastInDim S8x16 ![] bcast_S_S8x16 main_cst_6
  let main_v24 : IVec S8x16 1 := cmpf .olt main_v22 main_v23
  let main_c_7 : IVec S_ 1 := constantI S_ 1 1#1
  let main_v25 : IVec S_ 1 := (fun x v => Host.reduce IntOp.andi x v reducesTo_S8x16_S_d0_1 h_S_) main_v24 main_c_7
  let main_v26 : IVec S_ 1 := andi main_v21 main_v25
  main_v26

def fn {F : FTy → Type} [FloatOps F] (main_arg0 : FVec F S8192x1024 .bf16) (main_arg1 : FVec F S8192x1024 .bf16) (main_arg2 : FVec F S8192x1024 .bf16) (main_arg3 : FVec F S16x1024 .bf16) (main_arg4 : FVec F S16x1024 .bf16) (main_arg5 : FVec F S4x8x2048 .f32) (main_arg6 : FVec F S8x16 .f32) (main_arg7 : FVec F S2048x5632 .f32) (main_arg8 : FVec F S2048x5632 .f32) (main_arg9 : FVec F S5632x2048 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S16x1024 .f32 := (extf .f32 · bitsLt_bf16_f32) main_arg3
  let main_v12 : FVec F S16x1024 .f32 := Host.absf main_v11
  let main_cst_2 : FVec F S_ .f32 := constant S_ .f32 0x7F800000#32
  let main_v13 : FVec F S16x1024 .f32 := broadcastInDim S16x1024 ![] bcast_S_S16x1024 main_cst_2
  let main_v14 : IVec S16x1024 1 := cmpf .olt main_v12 main_v13
  let main_c_3 : IVec S_ 1 := constantI S_ 1 1#1
  let main_v15 : IVec S_ 1 := (fun x v => Host.reduce IntOp.andi x v reducesTo_S16x1024_S_d0_1 h_S_) main_v14 main_c_3
  let main_v16 : IVec S_ 1 := andi main_v10 main_v15
  let main_v17 : FVec F S4x8x2048 .f32 := Host.absf main_arg5
  fn_part1 (F := F) main_arg6 main_v16 main_v17
-- ==== Kernel.lean ====
abbrev S8192x1024 : Shape := ⟨2, ![8192, 1024]⟩
abbrev S16x1024 : Shape := ⟨2, ![16, 1024]⟩
abbrev S4x8x2048 : Shape := ⟨3, ![4, 8, 2048]⟩
abbrev S8x16 : Shape := ⟨2, ![8, 16]⟩
abbrev S2048x5632 : Shape := ⟨2, ![2048, 5632]⟩
abbrev S5632x2048 : Shape := ⟨2, ![5632, 2048]⟩
abbrev S1x8x16 : Shape := ⟨3, ![1, 8, 16]⟩
abbrev S4x8x16 : Shape := ⟨3, ![4, 8, 16]⟩
abbrev S4x8x2064 : Shape := ⟨3, ![4, 8, 2064]⟩
abbrev S_ : Shape := ⟨0, ![]⟩
abbrev S4x2064x8 : Shape := ⟨3, ![4, 2064, 8]⟩
abbrev S4x2048x8 : Shape := ⟨3, ![4, 2048, 8]⟩
abbrev S8192x8 : Shape := ⟨2, ![8192, 8]⟩
abbrev S8192x128 : Shape := ⟨2, ![8192, 128]⟩
abbrev S8192x120 : Shape := ⟨2, ![8192, 120]⟩
abbrev S8192x16 : Shape := ⟨2, ![8192, 16]⟩
abbrev S8192x112 : Shape := ⟨2, ![8192, 112]⟩
abbrev S8192x24 : Shape := ⟨2, ![8192, 24]⟩
abbrev S8192x104 : Shape := ⟨2, ![8192, 104]⟩
abbrev S8192x32 : Shape := ⟨2, ![8192, 32]⟩
abbrev S8192x96 : Shape := ⟨2, ![8192, 96]⟩
abbrev S8192x40 : Shape := ⟨2, ![8192, 40]⟩
abbrev S8192x88 : Shape := ⟨2, ![8192, 88]⟩
abbrev S1x16x8 : Shape := ⟨3, ![1, 16, 8]⟩
abbrev S16x8 : Shape := ⟨2, ![16, 8]⟩
abbrev S128x128 : Shape := ⟨2, ![128, 128]⟩
abbrev S128x8 : Shape := ⟨2, ![128, 8]⟩
abbrev S128x120 : Shape := ⟨2, ![128, 120]⟩
abbrev S128x16 : Shape := ⟨2, ![128, 16]⟩
abbrev S128x112 : Shape := ⟨2, ![128, 112]⟩
abbrev S128x24 : Shape := ⟨2, ![128, 24]⟩
abbrev S128x104 : Shape := ⟨2, ![128, 104]⟩
abbrev S128x32 : Shape := ⟨2, ![128, 32]⟩
abbrev S128x96 : Shape := ⟨2, ![128, 96]⟩
abbrev S128x40 : Shape := ⟨2, ![128, 40]⟩
abbrev S128x88 : Shape := ⟨2, ![128, 88]⟩
abbrev S128x1024 : Shape := ⟨2, ![128, 1024]⟩
abbrev S2048x11264 : Shape := ⟨2, ![2048, 11264]⟩
abbrev S2048x128 : Shape := ⟨2, ![2048, 128]⟩
abbrev S64x5632 : Shape := ⟨2, ![64, 5632]⟩
abbrev S176x2048 : Shape := ⟨2, ![176, 2048]⟩
abbrev S64x11264 : Shape := ⟨2, ![64, 11264]⟩
abbrev S2048x256 : Shape := ⟨2, ![2048, 256]⟩
abbrev S1x128 : Shape := ⟨2, ![1, 128]⟩
abbrev S128x256 : Shape := ⟨2, ![128, 256]⟩
abbrev S256x256 : Shape := ⟨2, ![256, 256]⟩
abbrev S256x512 : Shape := ⟨2, ![256, 512]⟩
abbrev S512x256 : Shape := ⟨2, ![512, 256]⟩
abbrev S512x128 : Shape := ⟨2, ![512, 128]⟩
abbrev S512x512 : Shape := ⟨2, ![512, 512]⟩
abbrev S256x128 : Shape := ⟨2, ![256, 128]⟩
abbrev S256 : Shape := ⟨1, ![256]⟩
abbrev S256x1 : Shape := ⟨2, ![256, 1]⟩
abbrev S64x256 : Shape := ⟨2, ![64, 256]⟩

abbrev nBuf : Space → Nat
  | .hbm => 106
  | .vmem => 28
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S16x1024, .bf16⟩
  | .hbm, ⟨4, _⟩ => ⟨S16x1024, .bf16⟩
  | .hbm, ⟨5, _⟩ => ⟨S4x8x2048, .f32⟩
  | .hbm, ⟨6, _⟩ => ⟨S8x16, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S1x8x16, .f32⟩
  | .hbm, ⟨11, _⟩ => ⟨S4x8x16, .f32⟩
  | .hbm, ⟨12, _⟩ => ⟨S4x8x2064, .f32⟩
  | .hbm, ⟨13, _⟩ => ⟨S_, .f32⟩
  | .hbm, ⟨14, _⟩ => ⟨S_, .f32⟩
  | .hbm, ⟨15, _⟩ => ⟨S4x8x2064, .f32⟩
  | .hbm, ⟨16, _⟩ => ⟨S4x2064x8, .f32⟩
  | .hbm, ⟨17, _⟩ => ⟨S4x2048x8, .f32⟩
  | .hbm, ⟨18, _⟩ => ⟨S8192x8, .f32⟩
  | .hbm, ⟨19, _⟩ => ⟨S_, .i32⟩
  | .hbm, ⟨20, _⟩ => ⟨S_, .f32⟩
  | .hbm, ⟨21, _⟩ => ⟨S8192x128, .f32⟩
  | .hbm, ⟨22, _⟩ => ⟨S_, .f32⟩
  | .hbm, ⟨23, _⟩ => ⟨S_, .f32⟩
  | .hbm, ⟨24, _⟩ => ⟨S8192x128, .f32⟩
  | .hbm, ⟨25, _⟩ => ⟨S8192x128, .f32⟩
  | .hbm, ⟨26, _⟩ => ⟨S8192x128, .bf16⟩
  | .hbm, ⟨27, _⟩ => ⟨S8192x128, .f32⟩
  | .hbm, ⟨28, _⟩ => ⟨S8192x128, .f32⟩
  | .hbm, ⟨29, _⟩ => ⟨S8192x128, .bf16⟩
  | .hbm, ⟨30, _⟩ => ⟨S8192x128, .f32⟩
  | .hbm, ⟨31, _⟩ => ⟨S8192x128, .f32⟩
  | .hbm, ⟨32, _⟩ => ⟨S8192x128, .bf16⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x8, .f32⟩
  | .hbm, ⟨37, _⟩ => ⟨S8192x120, .f32⟩
  | .hbm, ⟨38, _⟩ => ⟨S8192x128, .f32⟩
  | .hbm, ⟨39, _⟩ => ⟨S8192x128, .f32⟩
  | .hbm, ⟨40, _⟩ => ⟨S8192x16, .f32⟩
  | .hbm, ⟨41, _⟩ => ⟨S8192x112, .f32⟩
  | .hbm, ⟨42, _⟩ => ⟨S8192x128, .f32⟩
  | .hbm, ⟨43, _⟩ => ⟨S8192x128, .f32⟩
  | .hbm, ⟨44, _⟩ => ⟨S8192x24, .f32⟩
  | .hbm, ⟨45, _⟩ => ⟨S8192x104, .f32⟩
  | .hbm, ⟨46, _⟩ => ⟨S8192x128, .f32⟩
  | .hbm, ⟨47, _⟩ => ⟨S8192x128, .f32⟩
  | .hbm, ⟨48, _⟩ => ⟨S8192x32, .f32⟩
  | .hbm, ⟨49, _⟩ => ⟨S8192x96, .f32⟩
  | .hbm, ⟨50, _⟩ => ⟨S8192x128, .f32⟩
  | .hbm, ⟨51, _⟩ => ⟨S8192x128, .f32⟩
  | .hbm, ⟨52, _⟩ => ⟨S8192x40, .f32⟩
  | .hbm, ⟨53, _⟩ => ⟨S8192x88, .f32⟩
  | .hbm, ⟨54, _⟩ => ⟨S8192x128, .f32⟩
  | .hbm, ⟨55, _⟩ => ⟨S8192x128, .f32⟩
  | .hbm, ⟨56, _⟩ => ⟨S8192x128, .bf16⟩
  | .hbm, ⟨57, _⟩ => ⟨S1x16x8, .f32⟩
  | .hbm, ⟨58, _⟩ => ⟨S16x8, .f32⟩
  | .hbm, ⟨59, _⟩ => ⟨S_, .i32⟩
  | .hbm, ⟨60, _⟩ => ⟨S_, .f32⟩
  | .hbm, ⟨61, _⟩ => ⟨S128x128, .f32⟩
  | .hbm, ⟨62, _⟩ => ⟨S_, .f32⟩
  | .hbm, ⟨63, _⟩ => ⟨S_, .f32⟩
  | .hbm, ⟨64, _⟩ => ⟨S128x128, .f32⟩
  | .hbm, ⟨65, _⟩ => ⟨S128x128, .f32⟩
  | .hbm, ⟨66, _⟩ => ⟨S128x128, .bf16⟩
  | .hbm, ⟨67, _⟩ => ⟨S128x128, .f32⟩
  | .hbm, ⟨68, _⟩ => ⟨S128x128, .f32⟩
  | .hbm, ⟨69, _⟩ => ⟨S128x128, .bf16⟩
  | .hbm, ⟨70, _⟩ => ⟨S128x128, .f32⟩
  | .hbm, ⟨71, _⟩ => ⟨S128x128, .f32⟩
  | .hbm, ⟨72, _⟩ => ⟨S128x128, .bf16⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S128x8, .f32⟩
  | .hbm, ⟨77, _⟩ => ⟨S128x120, .f32⟩
  | .hbm, ⟨78, _⟩ => ⟨S128x128, .f32⟩
  | .hbm, ⟨79, _⟩ => ⟨S128x128, .f32⟩
  | .hbm, ⟨80, _⟩ => ⟨S128x16, .f32⟩
  | .hbm, ⟨81, _⟩ => ⟨S128x112, .f32⟩
  | .hbm, ⟨82, _⟩ => ⟨S128x128, .f32⟩
  | .hbm, ⟨83, _⟩ => ⟨S128x128, .f32⟩
  | .hbm, ⟨84, _⟩ => ⟨S128x24, .f32⟩
  | .hbm, ⟨85, _⟩ => ⟨S128x104, .f32⟩
  | .hbm, ⟨86, _⟩ => ⟨S128x128, .f32⟩
  | .hbm, ⟨87, _⟩ => ⟨S128x128, .f32⟩
  | .hbm, ⟨88, _⟩ => ⟨S128x32, .f32⟩
  | .hbm, ⟨89, _⟩ => ⟨S128x96, .f32⟩
  | .hbm, ⟨90, _⟩ => ⟨S128x128, .f32⟩
  | .hbm, ⟨91, _⟩ => ⟨S128x128, .f32⟩
  | .hbm, ⟨92, _⟩ => ⟨S128x40, .f32⟩
  | .hbm, ⟨93, _⟩ => ⟨S128x88, .f32⟩
  | .hbm, ⟨94, _⟩ => ⟨S128x128, .f32⟩
  | .hbm, ⟨95, _⟩ => ⟨S128x128, .f32⟩
  | .hbm, ⟨96, _⟩ => ⟨S128x128, .bf16⟩
  | .hbm, ⟨97, _⟩ => ⟨S_, .i32⟩
  | .hbm, ⟨98, _⟩ => ⟨S_, .bf16⟩
  | .hbm, ⟨99, _⟩ => ⟨S128x1024, .bf16⟩
  | .hbm, ⟨100, _⟩ => ⟨S_, .i32⟩
  | .hbm, ⟨101, _⟩ => ⟨S_, .bf16⟩
  | .hbm, ⟨102, _⟩ => ⟨S128x1024, .bf16⟩
  | .hbm, ⟨103, _⟩ => ⟨S8192x1024, .bf16⟩
  | .hbm, ⟨104, _⟩ => ⟨S2048x11264, .bf16⟩
  | .hbm, ⟨105, _⟩ => ⟨S5632x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S2048x128, .bf16⟩
  | .local _ .vmem, ⟨11, _⟩ => ⟨S2048x128, .bf16⟩
  | .local _ .vmem, ⟨12, _⟩ => ⟨S128x128, .bf16⟩
  | .local _ .vmem, ⟨13, _⟩ => ⟨S64x5632, .f32⟩
  | .local _ .vmem, ⟨14, _⟩ => ⟨S64x5632, .f32⟩
  | .local _ .vmem, ⟨15, _⟩ => ⟨S64x5632, .f32⟩
  | .local _ .vmem, ⟨16, _⟩ => ⟨S64x5632, .f32⟩
  | .local _ .vmem, ⟨17, _⟩ => ⟨S176x2048, .f32⟩
  | .local _ .vmem, ⟨18, _⟩ => ⟨S176x2048, .f32⟩
  | .local _ .vmem, ⟨19, _⟩ => ⟨S2048x128, .bf16⟩
  | .local _ .vmem, ⟨20, _⟩ => ⟨S2048x128, .bf16⟩
  | .local _ .vmem, ⟨21, _⟩ => ⟨S64x11264, .bf16⟩
  | .local _ .vmem, ⟨22, _⟩ => ⟨S64x11264, .bf16⟩
  | .local _ .vmem, ⟨23, _⟩ => ⟨S176x2048, .bf16⟩
  | .local _ .vmem, ⟨24, _⟩ => ⟨S176x2048, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_call0_cst : Ref sig .tc := ⟨.hbm, 13, rfl⟩
abbrev main_call0_call0_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call1_v0 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call2_v0 : Ref sig .tc := ⟨.hbm, 36, rfl⟩
abbrev main_call2_v1 : Ref sig .tc := ⟨.hbm, 37, rfl⟩
abbrev main_v21 : Ref sig .tc := ⟨.hbm, 38, rfl⟩
abbrev main_v22 : Ref sig .tc := ⟨.hbm, 39, rfl⟩
abbrev main_call3_v0 : Ref sig .tc := ⟨.hbm, 40, rfl⟩
abbrev main_call3_v1 : Ref sig .tc := ⟨.hbm, 41, rfl⟩
abbrev main_v23 : Ref sig .tc := ⟨.hbm, 42, rfl⟩
abbrev main_v24 : Ref sig .tc := ⟨.hbm, 43, rfl⟩
abbrev main_call4_v0 : Ref sig .tc := ⟨.hbm, 44, rfl⟩
abbrev main_call4_v1 : Ref sig .tc := ⟨.hbm, 45, rfl⟩
abbrev main_v25 : Ref sig .tc := ⟨.hbm, 46, rfl⟩
abbrev main_v26 : Ref sig .tc := ⟨.hbm, 47, rfl⟩
abbrev main_call5_v0 : Ref sig .tc := ⟨.hbm, 48, rfl⟩
abbrev main_call5_v1 : Ref sig .tc := ⟨.hbm, 49, rfl⟩
abbrev main_v27 : Ref sig .tc := ⟨.hbm, 50, rfl⟩
abbrev main_v28 : Ref sig .tc := ⟨.hbm, 51, rfl⟩
abbrev main_call6_v0 : Ref sig .tc := ⟨.hbm, 52, rfl⟩
abbrev main_call6_v1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_0 : Ref sig .tc := ⟨.hbm, 59, rfl⟩
abbrev main_call7_v0 : Ref sig .tc := ⟨.hbm, 60, rfl⟩
abbrev main_v34 : Ref sig .tc := ⟨.hbm, 61, rfl⟩
abbrev main_cst_1 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call8_v0 : Ref sig .tc := ⟨.hbm, 76, rfl⟩
abbrev main_call8_v1 : Ref sig .tc := ⟨.hbm, 77, rfl⟩
abbrev main_v48 : Ref sig .tc := ⟨.hbm, 78, rfl⟩
abbrev main_v49 : Ref sig .tc := ⟨.hbm, 79, rfl⟩
abbrev main_call9_v0 : Ref sig .tc := ⟨.hbm, 80, rfl⟩
abbrev main_call9_v1 : Ref sig .tc := ⟨.hbm, 81, rfl⟩
abbrev main_v50 : Ref sig .tc := ⟨.hbm, 82, rfl⟩
abbrev main_v51 : Ref sig .tc := ⟨.hbm, 83, rfl⟩
abbrev main_call10_v0 : Ref sig .tc := ⟨.hbm, 84, rfl⟩
abbrev main_call10_v1 : Ref sig .tc := ⟨.hbm, 85, rfl⟩
abbrev main_v52 : Ref sig .tc := ⟨.hbm, 86, rfl⟩
abbrev main_v53 : Ref sig .tc := ⟨.hbm, 87, rfl⟩
abbrev main_call11_v0 : Ref sig .tc := ⟨.hbm, 88, rfl⟩
abbrev main_call11_v1 : Ref sig .tc := ⟨.hbm, 89, rfl⟩
abbrev main_v54 : Ref sig .tc := ⟨.hbm, 90, rfl⟩
abbrev main_v55 : Ref sig .tc := ⟨.hbm, 91, rfl⟩
abbrev main_call12_v0 : Ref sig .tc := ⟨.hbm, 92, rfl⟩
abbrev main_call12_v1 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_2 : Ref sig .tc := ⟨.hbm, 97, rfl⟩
abbrev main_call13_v0 : Ref sig .tc := ⟨.hbm, 98, rfl⟩
abbrev main_v59 : Ref sig .tc := ⟨.hbm, 99, rfl⟩
abbrev main_c_3 : Ref sig .tc := ⟨.hbm, 100, rfl⟩
abbrev main_call14_v0 : Ref sig .tc := ⟨.hbm, 101, rfl⟩
abbrev main_v60 : Ref sig .tc := ⟨.hbm, 102, rfl⟩
abbrev main_v61_0 : Ref sig .tc := ⟨.hbm, 103, rfl⟩
abbrev main_v61_1 : Ref sig .tc := ⟨.hbm, 104, rfl⟩
abbrev main_v61_2 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x11264 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S176x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "exp2_scale" => some (((Real.log 2)⁻¹ * (Real.sqrt 128)⁻¹ : ℝ) : EReal)
  | _ => none
-- ==== ReferenceIdeal.lean ====
abbrev S8192x1024 : Shape := ⟨2, ![8192, 1024]⟩
abbrev S16x1024 : Shape := ⟨2, ![16, 1024]⟩
abbrev S4x8x2048 : Shape := ⟨3, ![4, 8, 2048]⟩
abbrev S8x16 : Shape := ⟨2, ![8, 16]⟩
abbrev S2048x5632 : Shape := ⟨2, ![2048, 5632]⟩
abbrev S5632x2048 : Shape := ⟨2, ![5632, 2048]⟩
abbrev S4x2048x8x128 : Shape := ⟨4, ![4, 2048, 8, 128]⟩
abbrev S1x16x8x128 : Shape := ⟨4, ![1, 16, 8, 128]⟩
abbrev S4x16x8x128 : Shape := ⟨4, ![4, 16, 8, 128]⟩
abbrev S4x2064x8x128 : Shape := ⟨4, ![4, 2064, 8, 128]⟩
abbrev S1x8x16 : Shape := ⟨3, ![1, 8, 16]⟩
abbrev S4x8x16 : Shape := ⟨3, ![4, 8, 16]⟩
abbrev S4x8x2064 : Shape := ⟨3, ![4, 8, 2064]⟩
abbrev S_ : Shape := ⟨0, ![]⟩
abbrev S2048 : Shape := ⟨1, ![2048]⟩
abbrev S2064 : Shape := ⟨1, ![2064]⟩
abbrev S4x8x2048x2064 : Shape := ⟨4, ![4, 8, 2048, 2064]⟩
abbrev S4x8x2048x1 : Shape := ⟨4, ![4, 8, 2048, 1]⟩
abbrev S4x8x1x2064 : Shape := ⟨4, ![4, 8, 1, 2064]⟩
abbrev S2048x1 : Shape := ⟨2, ![2048, 1]⟩
abbrev S1x2064 : Shape := ⟨2, ![1, 2064]⟩
abbrev S2048x2064 : Shape := ⟨2, ![2048, 2064]⟩
abbrev S4x8x128x2048 : Shape := ⟨4, ![4, 8, 128, 2048]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S16x1024, .bf16⟩
  | .hbm, ⟨4, _⟩ => ⟨S16x1024, .bf16⟩
  | .hbm, ⟨5, _⟩ => ⟨S4x8x2048, .f32⟩
  | .hbm, ⟨6, _⟩ => ⟨S8x16, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S8192x1024, .f32⟩
  | .hbm, ⟨11, _⟩ => ⟨S4x2048x8x128, .f32⟩
  | .hbm, ⟨12, _⟩ => ⟨S16x1024, .f32⟩
  | .hbm, ⟨13, _⟩ => ⟨S1x16x8x128, .f32⟩
  | .hbm, ⟨14, _⟩ => ⟨S4x16x8x128, .f32⟩
  | .hbm, ⟨15, _⟩ => ⟨S8192x1024, .f32⟩
  | .hbm, ⟨16, _⟩ => ⟨S4x2048x8x128, .f32⟩
  | .hbm, ⟨17, _⟩ => ⟨S4x2064x8x128, .f32⟩
  | .hbm, ⟨18, _⟩ => ⟨S16x1024, .f32⟩
  | .hbm, ⟨19, _⟩ => ⟨S1x16x8x128, .f32⟩
  | .hbm, ⟨20, _⟩ => ⟨S4x16x8x128, .f32⟩
  | .hbm, ⟨21, _⟩ => ⟨S8192x1024, .f32⟩
  | .hbm, ⟨22, _⟩ => ⟨S4x2048x8x128, .f32⟩
  | .hbm, ⟨23, _⟩ => ⟨S4x2064x8x128, .f32⟩
  | .hbm, ⟨24, _⟩ => ⟨S1x8x16, .f32⟩
  | .hbm, ⟨25, _⟩ => ⟨S4x8x16, .f32⟩
  | .hbm, ⟨26, _⟩ => ⟨S4x8x2064, .f32⟩
  | .hbm, ⟨27, _⟩ => ⟨S_, .f32⟩
  | .hbm, ⟨28, _⟩ => ⟨S_, .f32⟩
  | .hbm, ⟨29, _⟩ => ⟨S4x8x2064, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2064, .i32⟩
  | .hbm, ⟨39, _⟩ => ⟨S4x8x2048x2064, .f32⟩
  | .hbm, ⟨40, _⟩ => ⟨S4x8x2048x2064, .f32⟩
  | .hbm, ⟨41, _⟩ => ⟨S4x8x2048x2064, .f32⟩
  | .hbm, ⟨42, _⟩ => ⟨S4x8x2048, .f32⟩
  | .hbm, ⟨43, _⟩ => ⟨S4x8x2048x1, .f32⟩
  | .hbm, ⟨44, _⟩ => ⟨S4x8x1x2064, .f32⟩
  | .hbm, ⟨45, _⟩ => ⟨S4x8x2048x2064, .f32⟩
  | .hbm, ⟨46, _⟩ => ⟨S4x8x2048x2064, .f32⟩
  | .hbm, ⟨47, _⟩ => ⟨S4x8x2048x2064, .f32⟩
  | .hbm, ⟨48, _⟩ => ⟨S4x8x2048x2064, .f32⟩
  | .hbm, ⟨49, _⟩ => ⟨S2048x1, .i32⟩
  | .hbm, ⟨50, _⟩ => ⟨S1x2064, .i32⟩
  | .hbm, ⟨51, _⟩ => ⟨S2048x2064, .i32⟩
  | .hbm, ⟨52, _⟩ => ⟨S2048x2064, .i32⟩
  | .hbm, ⟨53, _⟩ => ⟨S2048x2064, .i1⟩
  | .hbm, ⟨54, _⟩ => ⟨S_, .f32⟩
  | .hbm, ⟨55, _⟩ => ⟨S_, .f32⟩
  | .hbm, ⟨56, _⟩ => ⟨S4x8x2048x2064, .i1⟩
  | .hbm, ⟨57, _⟩ => ⟨S4x8x2048x2064, .f32⟩
  | .hbm, ⟨58, _⟩ => ⟨S4x8x2048x2064, .f32⟩
  | .hbm, ⟨59, _⟩ => ⟨S_, .f32⟩
  | .hbm, ⟨60, _⟩ => ⟨S4x8x2048, .f32⟩
  | .hbm, ⟨61, _⟩ => ⟨S_, .f32⟩
  | .hbm, ⟨62, _⟩ => ⟨S4x8x2048, .f32⟩
  | .hbm, ⟨63, _⟩ => ⟨S4x8x2048, .f32⟩
  | .hbm, ⟨64, _⟩ => ⟨S4x8x2048x1, .f32⟩
  | .hbm, ⟨65, _⟩ => ⟨S4x8x2048x2064, .f32⟩
  | .hbm, ⟨66, _⟩ => ⟨S4x8x2048x2064, .f32⟩
  | .hbm, ⟨67, _⟩ => ⟨S4x8x2048x2064, .f32⟩
  | .hbm, ⟨68, _⟩ => ⟨S_, .f32⟩
  | .hbm, ⟨69, _⟩ => ⟨S4x8x2048, .f32⟩
  | .hbm, ⟨70, _⟩ => ⟨S4x8x2048x1, .f32⟩
  | .hbm, ⟨71, _⟩ => ⟨S4x8x2048x2064, .f32⟩
  | .hbm, ⟨72, _⟩ => ⟨S4x8x2048x2064, .f32⟩
  | .hbm, ⟨73, _⟩ => ⟨S4x8x128x2048, .f32⟩
  | .hbm, ⟨74, _⟩ => ⟨S4x2048x8x128, .f32⟩
  | .hbm, ⟨75, _⟩ => ⟨S8192x1024, .f32⟩
  | .hbm, ⟨76, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_call0_cst : Ref sig .tc := ⟨.hbm, 27, rfl⟩
abbrev main_call0_call0_v0 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Tail.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048x22x1x256 : Shape := ⟨4, ![2048, 22, 1, 256]⟩
abbrev S2048x22x2x256 : Shape := ⟨4, ![2048, 22, 2, 256]⟩
abbrev S2048x11264 : Shape := ⟨2, ![2048, 11264]⟩
abbrev S_ : Shape := ⟨0, ![]⟩
abbrev S1024x2048 : Shape := ⟨2, ![1024, 2048]⟩
abbrev S2048x1024 : Shape := ⟨2, ![2048, 1024]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩
abbrev S1024x512 : Shape := ⟨2, ![1024, 512]⟩
abbrev S512x512 : Shape := ⟨2, ![512, 512]⟩

abbrev nBuf : Space → Nat
  | .hbm => 16
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x22x1x256, .bf16⟩
  | .hbm, ⟨7, _⟩ => ⟨S2048x5632, .bf16⟩
  | .hbm, ⟨8, _⟩ => ⟨S2048x22x1x256, .bf16⟩
  | .hbm, ⟨9, _⟩ => ⟨S2048x22x2x256, .bf16⟩
  | .hbm, ⟨10, _⟩ => ⟨S2048x11264, .bf16⟩
  | .hbm, ⟨11, _⟩ => ⟨S_, .f32⟩
  | .hbm, ⟨12, _⟩ => ⟨S5632x2048, .f32⟩
  | .hbm, ⟨13, _⟩ => ⟨S5632x2048, .f32⟩
  | .hbm, ⟨14, _⟩ => ⟨S5632x2048, .bf16⟩
  | .hbm, ⟨15, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x2048, .bf16⟩
  | .local _ .vmem, ⟨6, _⟩ => ⟨S512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== TailReferenceIdeal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S_, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Rest.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048x4104 : Shape := ⟨2, ![2048, 4104]⟩
abbrev S2048x22x1x256 : Shape := ⟨4, ![2048, 22, 1, 256]⟩
abbrev S2048x22x2x256 : Shape := ⟨4, ![2048, 22, 2, 256]⟩
abbrev S2048x11264 : Shape := ⟨2, ![2048, 11264]⟩
abbrev S_ : Shape := ⟨0, ![]⟩
abbrev S4104x2048 : Shape := ⟨2, ![4104, 2048]⟩
abbrev S7168x2048 : Shape := ⟨2, ![7168, 2048]⟩
abbrev S2048x4224 : Shape := ⟨2, ![2048, 4224]⟩
abbrev S1024x2048 : Shape := ⟨2, ![1024, 2048]⟩
abbrev S2048x1024 : Shape := ⟨2, ![2048, 1024]⟩
abbrev S512x2048 : Shape := ⟨2, ![512, 2048]⟩
abbrev S128x2048 : Shape := ⟨2, ![128, 2048]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩
abbrev S128x1 : Shape := ⟨2, ![128, 1]⟩
abbrev S1024x1024 : Shape := ⟨2, ![1024, 1024]⟩
abbrev S1024x256 : Shape := ⟨2, ![1024, 256]⟩
abbrev S1024x512 : Shape := ⟨2, ![1024, 512]⟩
abbrev S512x512 : Shape := ⟨2, ![512, 512]⟩

abbrev nBuf : Space → Nat
  | .hbm => 19
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x4104, .f32⟩
  | .hbm, ⟨6, _⟩ => ⟨S2048x5632, .bf16⟩
  | .hbm, ⟨7, _⟩ => ⟨S2048x22x1x256, .bf16⟩
  | .hbm, ⟨8, _⟩ => ⟨S2048x5632, .bf16⟩
  | .hbm, ⟨9, _⟩ => ⟨S2048x22x1x256, .bf16⟩
  | .hbm, ⟨10, _⟩ => ⟨S2048x22x2x256, .bf16⟩
  | .hbm, ⟨11, _⟩ => ⟨S2048x11264, .bf16⟩
  | .hbm, ⟨12, _⟩ => ⟨S_, .f32⟩
  | .hbm, ⟨13, _⟩ => ⟨S5632x2048, .f32⟩
  | .hbm, ⟨14, _⟩ => ⟨S5632x2048, .f32⟩
  | .hbm, ⟨15, _⟩ => ⟨S5632x2048, .bf16⟩
  | .hbm, ⟨16, _⟩ => ⟨S4104x2048, .f32⟩
  | .hbm, ⟨17, _⟩ => ⟨S7168x2048, .f32⟩
  | .hbm, ⟨18, _⟩ => ⟨S2048x4224, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x2048, .bf16⟩
  | .local _ .vmem, ⟨6, _⟩ => ⟨S512x2048, .bf16⟩
  | .local _ .vmem, ⟨7, _⟩ => ⟨S128x2048, .f32⟩
  | .local _ .vmem, ⟨8, _⟩ => ⟨S128x2048, .f32⟩
  | .local _ .vmem, ⟨9, _⟩ => ⟨S1024x2048, .f32⟩
  | .local _ .vmem, ⟨10, _⟩ => ⟨S1024x2048, .f32⟩
  | .local _ .vmem, ⟨11, _⟩ => ⟨S2048x128, .bf16⟩
  | .local _ .vmem, ⟨12, _⟩ => ⟨S2048x128, .bf16⟩
  | .local _ .vmem, ⟨13, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![7, 11], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c32_i32 : BitVec 32 := 32#32
  let v2 : BitVec 32 := Scalar.minsi v1 c32_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c32_i32 : BitVec 32 := 32#32
  let v2 : BitVec 32 := Scalar.minsi v1 c32_i32
  let c0_i32 : BitVec 32 := 0#32
  let c0_i32_0 : BitVec 32 := 0#32
  ![c0_i32.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RestReferenceIdeal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S2048x4104 : Shape := ⟨2, ![2048, 4104]⟩
abbrev S7168x2048 : Shape := ⟨2, ![7168, 2048]⟩
abbrev S_ : Shape := ⟨0, ![]⟩
abbrev S7168 : Shape := ⟨1, ![7168]⟩
abbrev S7168x1 : Shape := ⟨2, ![7168, 1]⟩
abbrev S7168x5632 : Shape := ⟨2, ![7168, 5632]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x4104, .f32⟩
  | .hbm, ⟨6, _⟩ => ⟨S7168x2048, .f32⟩
  | .hbm, ⟨7, _⟩ => ⟨S7168x2048, .f32⟩
  | .hbm, ⟨8, _⟩ => ⟨S_, .f32⟩
  | .hbm, ⟨9, _⟩ => ⟨S7168, .f32⟩
  | .hbm, ⟨10, _⟩ => ⟨S7168x1, .f32⟩
  | .hbm, ⟨11, _⟩ => ⟨S_, .f32⟩
  | .hbm, ⟨12, _⟩ => ⟨S7168x1, .f32⟩
  | .hbm, ⟨13, _⟩ => ⟨S7168x1, .f32⟩
  | .hbm, ⟨14, _⟩ => ⟨S_, .f32⟩
  | .hbm, ⟨15, _⟩ => ⟨S7168x1, .f32⟩
  | .hbm, ⟨16, _⟩ => ⟨S7168x1, .f32⟩
  | .hbm, ⟨17, _⟩ => ⟨S7168x1, .f32⟩
  | .hbm, ⟨18, _⟩ => ⟨S7168x2048, .f32⟩
  | .hbm, ⟨19, _⟩ => ⟨S7168x2048, .f32⟩
  | .hbm, ⟨20, _⟩ => ⟨S7168x2048, .f32⟩
  | .hbm, ⟨21, _⟩ => ⟨S7168x2048, .f32⟩
  | .hbm, ⟨22, _⟩ => ⟨S7168x5632, .f32⟩
  | .hbm, ⟨23, _⟩ => ⟨S7168x5632, .f32⟩
  | .hbm, ⟨24, _⟩ => ⟨S7168x5632, .f32⟩
  | .hbm, ⟨25, _⟩ => ⟨S_, .f32⟩
  | .hbm, ⟨26, _⟩ => ⟨S7168x5632, .f32⟩
  | .hbm, ⟨27, _⟩ => ⟨S7168x5632, .f32⟩
  | .hbm, ⟨28, _⟩ => ⟨S_, .f32⟩
  | .hbm, ⟨29, _⟩ => ⟨S7168x5632, .f32⟩
  | .hbm, ⟨30, _⟩ => ⟨S7168x5632, .f32⟩
  | .hbm, ⟨31, _⟩ => ⟨S7168x5632, .f32⟩
  | .hbm, ⟨32, _⟩ => ⟨S7168x5632, .f32⟩
  | .hbm, ⟨33, _⟩ => ⟨S7168x5632, .f32⟩
  | .hbm, ⟨34, _⟩ => ⟨S7168x2048, .f32⟩
  | .hbm, ⟨35, _⟩ => ⟨S_, .f32⟩
  | .hbm, ⟨36, _⟩ => ⟨S7168x2048, .f32⟩
  | .hbm, ⟨37, _⟩ => ⟨S7168x2048, .f32⟩
  | .hbm, ⟨38, _⟩ => ⟨S7168x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Proof.RestIdealSkeleton.lean ====
/- The body of the first feed-forward half-step over the sequence rows, as its memory operations over named values. -/
module

public import proofs.«01_k».proof.Proof.Gen.RestIdeal.Launch
public import proofs.«01_k».proof.Proof.Gen.RestIdeal.Points

@[expose] public section

set_option synthInstance.maxSize 4096

noncomputable section

namespace Cert.RestIdeal.Body

open Cert.RestIdeal.Gen

open Idealize.ShloMosaic Idealize.SL.Sem

variable {F : FTy → Type} [FloatOps F]
/-! ## `cc0_ffn_tail` -/

noncomputable def k0_pay1 (v9 : Vec F S1x2048 .f32) (v44 : Vec F S256x2048 .f32) (v47 : FVec F S256x1 .f32) : FVec F S256x2048 .bf16 :=
  have cst_20 : F .f32 := Scalar.ofBits .f32 0x45000000#32
  have v48 : FVec F S256x1 .f32 := broadcast S256x1 cst_20
  have v49 : FVec F S256x1 .f32 := divf v47 v48
  have cst_21 : F .f32 := Scalar.ofBits .f32 0x358637BD#32
  have v50 : FVec F S256x1 .f32 := broadcast S256x1 cst_21
  have v51 : FVec F S256x1 .f32 := addf v49 v50
  have v52 : FVec F S256x1 .f32 := rsqrt v51
  have v53 : FVec F S256x2048 .f32 := broadcastTo S256x2048 v52 broadcasts_S256x1_S256x2048
  have v54 : FVec F S256x2048 .f32 := mulf v44 v53
  have v55 : FVec F S256x2048 .f32 := broadcastTo S256x2048 v9 broadcasts_S1x2048_S256x2048
  have v56 : FVec F S256x2048 .f32 := mulf v54 v55
  have v57 : FVec F S256x2048 .bf16 := truncf .bf16 v56 bitsLt_bf16_f32
  have v60 : FVec F S256x2048 .bf16 := shapeCast S256x2048 v57 shapeCasts_S256x2048_S256x2048
  v60

noncomputable def k0_pay2 (v9 : Vec F S1x2048 .f32) (v61 : Vec F S256x2048 .f32) : FVec F S256x2048 .bf16 :=
  have v62 : FVec F S256x2048 .f32 := mulf v61 v61
  have v63 : FVec F S256 .f32 := multiReduction .add [1] S256 v62 0x00000000#32 reduces_S256x2048_S256 (.inl rfl) rfl
  have v64 : FVec F S256x1 .f32 := shapeCast S256x1 v63 shapeCasts_S256_S256x1
  have cst_26 : F .f32 := Scalar.ofBits .f32 0x45000000#32
  have v65 : FVec F S256x1 .f32 := broadcast S256x1 cst_26
  have v66 : FVec F S256x1 .f32 := divf v64 v65
  have cst_27 : F .f32 := Scalar.ofBits .f32 0x358637BD#32
  have v67 : FVec F S256x1 .f32 := broadcast S256x1 cst_27
  have v68 : FVec F S256x1 .f32 := addf v66 v67
  have v69 : FVec F S256x1 .f32 := rsqrt v68
  have v70 : FVec F S256x2048 .f32 := broadcastTo S256x2048 v69 broadcasts_S256x1_S256x2048
  have v71 : FVec F S256x2048 .f32 := mulf v61 v70
  have v72 : FVec F S256x2048 .f32 := broadcastTo S256x2048 v9 broadcasts_S1x2048_S256x2048
  have v73 : FVec F S256x2048 .f32 := mulf v71 v72
  have v74 : FVec F S256x2048 .bf16 := truncf .bf16 v73 bitsLt_bf16_f32
  have v77 : FVec F S256x2048 .bf16 := shapeCast S256x2048 v74 shapeCasts_S256x2048_S256x2048
  v77

noncomputable def k0_pay3 (v40 : FVec F S1024x256 .bf16) (v49 : FVec F S1024x256 .f32) : FVec F S1024x512 .bf16 :=
  have v50 : FVec F S1024x256 .bf16 := truncf .bf16 v49 bitsLt_bf16_f32
  have v51 : FVec F S1024x512 .bf16 := concatenate S1024x512 1 [⟨S1024x256, v40⟩, ⟨S1024x256, v50⟩] concatenates_S1024x256_S1024x256_S1024x512_d1
  v51

noncomputable def k0_pay4 (v40 : FVec F S1024x256 .bf16) (v49 : FVec F S1024x256 .f32) (v52 : Vec F S512x512 .bf16) (v55 : Vec F S1024x512 .f32) : FVec F S1024x512 .f32 :=
  have v53 : FVec F S512x512 .bf16 := shapeCast S512x512 v52 shapeCasts_S512x512_S512x512
  have cst_19 : FVec F S1024x512 .f32 := constant S1024x512 .f32 0x00000000#32
  have v54 : FVec F S1024x512 .f32 := matmul dot_S1024x512_S512x512_S1024x512_1_0_0_1_n_n none (k0_pay3 v40 v49) v53 cst_19
  have v56 : FVec F S1024x512 .f32 := addf v55 v54
  v56

noncomputable def k0_pay5 (v40 : FVec F S1024x256 .bf16) (v49 : FVec F S1024x256 .f32) (v58 : Vec F S512x512 .bf16) (v61 : Vec F S1024x512 .f32) : FVec F S1024x512 .f32 :=
  have v59 : FVec F S512x512 .bf16 := shapeCast S512x512 v58 shapeCasts_S512x512_S512x512
  have cst_25 : FVec F S1024x512 .f32 := constant S1024x512 .f32 0x00000000#32
  have v60 : FVec F S1024x512 .f32 := matmul dot_S1024x512_S512x512_S1024x512_1_0_0_1_n_n none (k0_pay3 v40 v49) v59 cst_25
  have v62 : FVec F S1024x512 .f32 := addf v61 v60
  v62

noncomputable def k0_pay6 (v40 : FVec F S1024x256 .bf16) (v49 : FVec F S1024x256 .f32) (v64 : Vec F S512x512 .bf16) (v67 : Vec F S1024x512 .f32) : FVec F S1024x512 .f32 :=
  have v65 : FVec F S512x512 .bf16 := shapeCast S512x512 v64 shapeCasts_S512x512_S512x512
  have cst_31 : FVec F S1024x512 .f32 := constant S1024x512 .f32 0x00000000#32
  have v66 : FVec F S1024x512 .f32 := matmul dot_S1024x512_S512x512_S1024x512_1_0_0_1_n_n none (k0_pay3 v40 v49) v65 cst_31
  have v68 : FVec F S1024x512 .f32 := addf v67 v66
  v68

noncomputable def k0_pay7 (v40 : FVec F S1024x256 .bf16) (v49 : FVec F S1024x256 .f32) (v70 : Vec F S512x512 .bf16) (v73 : Vec F S1024x512 .f32) : FVec F S1024x512 .f32 :=
  have v71 : FVec F S512x512 .bf16 := shapeCast S512x512 v70 shapeCasts_S512x512_S512x512
  have cst_37 : FVec F S1024x512 .f32 := constant S1024x512 .f32 0x00000000#32
  have v72 : FVec F S1024x512 .f32 := matmul dot_S1024x512_S512x512_S1024x512_1_0_0_1_n_n none (k0_pay3 v40 v49) v71 cst_37
  have v74 : FVec F S1024x512 .f32 := addf v73 v72
  v74

noncomputable def k0_pay8 (v9 : Vec F S1x2048 .f32) (v10 : Vec F S256x2048 .f32) : FVec F S256x2048 .bf16 :=
  have v11 : FVec F S256x2048 .f32 := mulf v10 v10
  have v12 : FVec F S256 .f32 := multiReduction .add [1] S256 v11 0x00000000#32 reduces_S256x2048_S256 (.inl rfl) rfl
  have v13 : FVec F S256x1 .f32 := shapeCast S256x1 v12 shapeCasts_S256_S256x1
  have cst_8 : F .f32 := Scalar.ofBits .f32 0x45000000#32
  have v14 : FVec F S256x1 .f32 := broadcast S256x1 cst_8
  have v15 : FVec F S256x1 .f32 := divf v13 v14
  have cst_9 : F .f32 := Scalar.ofBits .f32 0x358637BD#32
  have v16 : FVec F S256x1 .f32 := broadcast S256x1 cst_9
  have v17 : FVec F S256x1 .f32 := addf v15 v16
  have v18 : FVec F S256x1 .f32 := rsqrt v17
  have v19 : FVec F S256x2048 .f32 := broadcastTo S256x2048 v18 broadcasts_S256x1_S256x2048
  have v20 : FVec F S256x2048 .f32 := mulf v10 v19
  have v21 : FVec F S256x2048 .f32 := broadcastTo S256x2048 v9 broadcasts_S1x2048_S256x2048
  have v22 : FVec F S256x2048 .f32 := mulf v20 v21
  have v23 : FVec F S256x2048 .bf16 := truncf .bf16 v22 bitsLt_bf16_f32
  have v26 : FVec F S256x2048 .bf16 := shapeCast S256x2048 v23 shapeCasts_S256x2048_S256x2048
  v26

noncomputable def k0_pay9 (v9 : Vec F S1x2048 .f32) (v27 : Vec F S256x2048 .f32) : FVec F S256x2048 .bf16 :=
  have v28 : FVec F S256x2048 .f32 := mulf v27 v27
  have v29 : FVec F S256 .f32 := multiReduction .add [1] S256 v28 0x00000000#32 reduces_S256x2048_S256 (.inl rfl) rfl
  have v30 : FVec F S256x1 .f32 := shapeCast S256x1 v29 shapeCasts_S256_S256x1
  have cst_14 : F .f32 := Scalar.ofBits .f32 0x45000000#32
  have v31 : FVec F S256x1 .f32 := broadcast S256x1 cst_14
  have v32 : FVec F S256x1 .f32 := divf v30 v31
  have cst_15 : F .f32 := Scalar.ofBits .f32 0x358637BD#32
  have v33 : FVec F S256x1 .f32 := broadcast S256x1 cst_15
  have v34 : FVec F S256x1 .f32 := addf v32 v33
  have v35 : FVec F S256x1 .f32 := rsqrt v34
  have v36 : FVec F S256x2048 .f32 := broadcastTo S256x2048 v35 broadcasts_S256x1_S256x2048
  have v37 : FVec F S256x2048 .f32 := mulf v27 v36
  have v38 : FVec F S256x2048 .f32 := broadcastTo S256x2048 v9 broadcasts_S1x2048_S256x2048
  have v39 : FVec F S256x2048 .f32 := mulf v37 v38
  have v40 : FVec F S256x2048 .bf16 := truncf .bf16 v39 bitsLt_bf16_f32
  have v43 : FVec F S256x2048 .bf16 := shapeCast S256x2048 v40 shapeCasts_S256x2048_S256x2048
  v43

noncomputable def k0_pay10 (v44 : Vec F S256x2048 .f32) : FVec F S256x1 .f32 :=
  have v45 : FVec F S256x2048 .f32 := mulf v44 v44
  have v46 : FVec F S256 .f32 := multiReduction .add [1] S256 v45 0x00000000#32 reduces_S256x2048_S256 (.inl rfl) rfl
  have v47 : FVec F S256x1 .f32 := shapeCast S256x1 v46 shapeCasts_S256_S256x1
  v47

noncomputable def k0_pay11 (arg0 : BitVec 32) (arg1 : BitVec 32) (v18 : Vec F S128x2048 .f32) : FVec F S2048x128 .bf16 :=
  let v9 : BitVec 32 := Scalar.muli arg0 11#32
  let v10 : BitVec 32 := Scalar.addi v9 arg1
  let v11 : BitVec 32 := Scalar.minsi v10 32#32
  let v12 : BitVec 32 := Scalar.muli v11 128#32
  have v13 : IVec S128x1 32 := iota .tc S128x1 32 [0] iota_S128x1_d0_w32
  have v14 : IVec S128x1 32 := broadcast S128x1 v12
  have v15 : IVec S128x1 32 := addi v14 v13
  have v16 : IVec S128x1 32 := broadcast S128x1 4104#32
  have v17 : IVec S128x1 1 := cmpi .slt v15 v16
  have v19 : FVec F S128x2048 .f32 := shapeCast S128x2048 v18 shapeCasts_S128x2048_S128x2048
  have cst : F .f32 := Scalar.ofBits .f32 0x00000000#32
  have v20 : IVec S128x1 1 := shapeCast S128x1 v17 shapeCasts_S128x1_S128x1
  have v21 : IVec S128x2048 1 := broadcastTo S128x2048 v20 broadcasts_S128x1_S128x2048
  have v22 : FVec F S128x2048 .f32 := broadcast S128x2048 cst
  have v23 : FVec F S128x2048 .f32 := select v21 v19 v22
  have v24 : FVec F S2048x128 .f32 := transpose S2048x128 [1, 0] v23 transposes_S128x2048_p1_0_S2048x128
  have v25 : FVec F S2048x128 .bf16 := truncf .bf16 v24 bitsLt_bf16_f32
  v25

noncomputable def k0_pay12 (v27 : Vec F S1024x2048 .bf16) (v28 : Vec F S2048x1024 .bf16) : FVec F S1024x1024 .f32 :=
  have v29 : FVec F S2048x1024 .bf16 := shapeCast S2048x1024 v28 shapeCasts_S2048x1024_S2048x1024
  have cst_12 : FVec F S1024x1024 .f32 := constant S1024x1024 .f32 0x00000000#32
  have v30 : FVec F S1024x1024 .f32 := matmul dot_S1024x2048_S2048x1024_S1024x1024_1_0_0_1_n_n none v27 v29 cst_12
  v30

noncomputable def k0_pay13 (v27 : Vec F S1024x2048 .bf16) (v28 : Vec F S2048x1024 .bf16) : FVec F S1024x256 .bf16 :=
  have v31 : FVec F S1024x256 .f32 := extractStridedSlice S1024x256 ![0, 0] (k0_pay12 v27 v28) slices_S1024x1024_o0_0_S1024x256
  have v32 : FVec F S1024x256 .f32 := extractStridedSlice S1024x256 ![0, 256] (k0_pay12 v27 v28) slices_S1024x1024_o0_256_S1024x256
  have cst_13 : F .f32 := Scalar.ofBits .f32 0x00000000#32
  have v33 : FVec F S1024x256 .f32 := broadcast S1024x256 cst_13
  have v34 : FVec F S1024x256 .f32 := subf v33 v31
  have v35 : FVec F S1024x256 .f32 := exp v34
  have cst_14 : F .f32 := Scalar.ofBits .f32 0x3F800000#32
  have v36 : FVec F S1024x256 .f32 := broadcast S1024x256 cst_14
  have v37 : FVec F S1024x256 .f32 := addf v36 v35
  have v38 : FVec F S1024x256 .f32 := divf v31 v37
  have v39 : FVec F S1024x256 .f32 := mulf v38 v32
  have v40 : FVec F S1024x256 .bf16 := truncf .bf16 v39 bitsLt_bf16_f32
  v40

noncomputable def k0_pay14 (v27 : Vec F S1024x2048 .bf16) (v28 : Vec F S2048x1024 .bf16) : FVec F S1024x256 .f32 :=
  have v41 : FVec F S1024x256 .f32 := extractStridedSlice S1024x256 ![0, 512] (k0_pay12 v27 v28) slices_S1024x1024_o0_512_S1024x256
  have v42 : FVec F S1024x256 .f32 := extractStridedSlice S1024x256 ![0, 768] (k0_pay12 v27 v28) slices_S1024x1024_o0_768_S1024x256
  have cst_15 : F .f32 := Scalar.ofBits .f32 0x00000000#32
  have v43 : FVec F S1024x256 .f32 := broadcast S1024x256 cst_15
  have v44 : FVec F S1024x256 .f32 := subf v43 v41
  have v45 : FVec F S1024x256 .f32 := exp v44
  have cst_16 : F .f32 := Scalar.ofBits .f32 0x3F800000#32
  have v46 : FVec F S1024x256 .f32 := broadcast S1024x256 cst_16
  have v47 : FVec F S1024x256 .f32 := addf v46 v45
  have v48 : FVec F S1024x256 .f32 := divf v41 v47
  have v49 : FVec F S1024x256 .f32 := mulf v48 v42
  v49

noncomputable def k0_pay15 (arg0 : BitVec 32) (arg1 : BitVec 32) (v18 : Vec F S128x2048 .f32) : FVec F S2048x128 .bf16 :=
  let v9 : BitVec 32 := Scalar.muli arg0 11#32
  let v10 : BitVec 32 := Scalar.addi v9 arg1
  let v11 : BitVec 32 := Scalar.minsi v10 32#32
  let v12 : BitVec 32 := Scalar.muli v11 128#32
  have v13 : IVec S128x1 32 := iota .tc S128x1 32 [0] iota_S128x1_d0_w32
  have v14 : IVec S128x1 32 := broadcast S128x1 v12
  have v15 : IVec S128x1 32 := addi v14 v13
  have v16 : IVec S128x1 32 := broadcast S128x1 4104#32
  have v17 : IVec S128x1 1 := cmpi .slt v15 v16
  have v19 : FVec F S128x2048 .f32 := shapeCast S128x2048 v18 shapeCasts_S128x2048_S128x2048
  have cst : F .f32 := Scalar.ofBits .f32 0x00000000#32
  have v20 : IVec S128x1 1 := shapeCast S128x1 v17 shapeCasts_S128x1_S128x1
  have v21 : IVec S128x2048 1 := broadcastTo S128x2048 v20 broadcasts_S128x1_S128x2048
  have v22 : FVec F S128x2048 .f32 := broadcast S128x2048 cst
  have v23 : FVec F S128x2048 .f32 := select v21 v19 v22
  have v24 : FVec F S2048x128 .f32 := transpose S2048x128 [1, 0] v23 transposes_S128x2048_p1_0_S2048x128
  have v25 : FVec F S2048x128 .bf16 := truncf .bf16 v24 bitsLt_bf16_f32
  v25

noncomputable def k0_pay16 (v27 : Vec F S1024x2048 .bf16) (v28 : Vec F S2048x1024 .bf16) : FVec F S1024x1024 .f32 :=
  have v29 : FVec F S2048x1024 .bf16 := shapeCast S2048x1024 v28 shapeCasts_S2048x1024_S2048x1024
  have cst_12 : FVec F S1024x1024 .f32 := constant S1024x1024 .f32 0x00000000#32
  have v30 : FVec F S1024x1024 .f32 := matmul dot_S1024x2048_S2048x1024_S1024x1024_1_0_0_1_n_n none v27 v29 cst_12
  v30

noncomputable def k0_pay17 (v27 : Vec F S1024x2048 .bf16) (v28 : Vec F S2048x1024 .bf16) : FVec F S1024x256 .bf16 :=
  have v31 : FVec F S1024x256 .f32 := extractStridedSlice S1024x256 ![0, 0] (k0_pay16 v27 v28) slices_S1024x1024_o0_0_S1024x256
  have v32 : FVec F S1024x256 .f32 := extractStridedSlice S1024x256 ![0, 256] (k0_pay16 v27 v28) slices_S1024x1024_o0_256_S1024x256
  have cst_13 : F .f32 := Scalar.ofBits .f32 0x00000000#32
  have v33 : FVec F S1024x256 .f32 := broadcast S1024x256 cst_13
  have v34 : FVec F S1024x256 .f32 := subf v33 v31
  have v35 : FVec F S1024x256 .f32 := exp v34
  have cst_14 : F .f32 := Scalar.ofBits .f32 0x3F800000#32
  have v36 : FVec F S1024x256 .f32 := broadcast S1024x256 cst_14
  have v37 : FVec F S1024x256 .f32 := addf v36 v35
  have v38 : FVec F S1024x256 .f32 := divf v31 v37
  have v39 : FVec F S1024x256 .f32 := mulf v38 v32
  have v40 : FVec F S1024x256 .bf16 := truncf .bf16 v39 bitsLt_bf16_f32
  v40

noncomputable def k0_pay18 (v27 : Vec F S1024x2048 .bf16) (v28 : Vec F S2048x1024 .bf16) : FVec F S1024x256 .f32 :=
  have v41 : FVec F S1024x256 .f32 := extractStridedSlice S1024x256 ![0, 512] (k0_pay16 v27 v28) slices_S1024x1024_o0_512_S1024x256
  have v42 : FVec F S1024x256 .f32 := extractStridedSlice S1024x256 ![0, 768] (k0_pay16 v27 v28) slices_S1024x1024_o0_768_S1024x256
  have cst_15 : F .f32 := Scalar.ofBits .f32 0x00000000#32
  have v43 : FVec F S1024x256 .f32 := broadcast S1024x256 cst_15
  have v44 : FVec F S1024x256 .f32 := subf v43 v41
  have v45 : FVec F S1024x256 .f32 := exp v44
  have cst_16 : F .f32 := Scalar.ofBits .f32 0x3F800000#32
  have v46 : FVec F S1024x256 .f32 := broadcast S1024x256 cst_16
  have v47 : FVec F S1024x256 .f32 := addf v46 v45
  have v48 : FVec F S1024x256 .f32 := divf v41 v47
  have v49 : FVec F S1024x256 .f32 := mulf v48 v42
  v49

noncomputable def k0_pay19 (v40 : FVec F S1024x256 .bf16) (v49 : FVec F S1024x256 .f32) : FVec F S1024x512 .bf16 :=
  have v50 : FVec F S1024x256 .bf16 := truncf .bf16 v49 bitsLt_bf16_f32
  have v51 : FVec F S1024x512 .bf16 := concatenate S1024x512 1 [⟨S1024x256, v40⟩, ⟨S1024x256, v50⟩] concatenates_S1024x256_S1024x256_S1024x512_d1
  v51

noncomputable def k0_pay20 (v40 : FVec F S1024x256 .bf16) (v49 : FVec F S1024x256 .f32) (v52 : Vec F S512x512 .bf16) (v55 : Vec F S1024x512 .f32) : FVec F S1024x512 .f32 :=
  have v53 : FVec F S512x512 .bf16 := shapeCast S512x512 v52 shapeCasts_S512x512_S512x512
  have cst_19 : FVec F S1024x512 .f32 := constant S1024x512 .f32 0x00000000#32
  have v54 : FVec F S1024x512 .f32 := matmul dot_S1024x512_S512x512_S1024x512_1_0_0_1_n_n none (k0_pay19 v40 v49) v53 cst_19
  have v56 : FVec F S1024x512 .f32 := shapeCast S1024x512 v55 shapeCasts_S1024x512_S1024x512
  have v57 : FVec F S1024x512 .f32 := addf v56 v54
  v57

noncomputable def k0_pay21 (v40 : FVec F S1024x256 .bf16) (v49 : FVec F S1024x256 .f32) (v59 : Vec F S512x512 .bf16) (v62 : Vec F S1024x512 .f32) : FVec F S1024x512 .f32 :=
  have v60 : FVec F S512x512 .bf16 := shapeCast S512x512 v59 shapeCasts_S512x512_S512x512
  have cst_25 : FVec F S1024x512 .f32 := constant S1024x512 .f32 0x00000000#32
  have v61 : FVec F S1024x512 .f32 := matmul dot_S1024x512_S512x512_S1024x512_1_0_0_1_n_n none (k0_pay19 v40 v49) v60 cst_25
  have v63 : FVec F S1024x512 .f32 := shapeCast S1024x512 v62 shapeCasts_S1024x512_S1024x512
  have v64 : FVec F S1024x512 .f32 := addf v63 v61
  v64

noncomputable def k0_pay22 (v40 : FVec F S1024x256 .bf16) (v49 : FVec F S1024x256 .f32) (v66 : Vec F S512x512 .bf16) (v69 : Vec F S1024x512 .f32) : FVec F S1024x512 .f32 :=
  have v67 : FVec F S512x512 .bf16 := shapeCast S512x512 v66 shapeCasts_S512x512_S512x512
  have cst_31 : FVec F S1024x512 .f32 := constant S1024x512 .f32 0x00000000#32
  have v68 : FVec F S1024x512 .f32 := matmul dot_S1024x512_S512x512_S1024x512_1_0_0_1_n_n none (k0_pay19 v40 v49) v67 cst_31
  have v70 : FVec F S1024x512 .f32 := shapeCast S1024x512 v69 shapeCasts_S1024x512_S1024x512
  have v71 : FVec F S1024x512 .f32 := addf v70 v68
  v71

noncomputable def k0_pay23 (v40 : FVec F S1024x256 .bf16) (v49 : FVec F S1024x256 .f32) (v73 : Vec F S512x512 .bf16) (v76 : Vec F S1024x512 .f32) : FVec F S1024x512 .f32 :=
  have v74 : FVec F S512x512 .bf16 := shapeCast S512x512 v73 shapeCasts_S512x512_S512x512
  have cst_37 : FVec F S1024x512 .f32 := constant S1024x512 .f32 0x00000000#32
  have v75 : FVec F S1024x512 .f32 := matmul dot_S1024x512_S512x512_S1024x512_1_0_0_1_n_n none (k0_pay19 v40 v49) v74 cst_37
  have v77 : FVec F S1024x512 .f32 := shapeCast S1024x512 v76 shapeCasts_S1024x512_S1024x512
  have v78 : FVec F S1024x512 .f32 := addf v77 v75
  v78

noncomputable def cc0_ffn_tail_skel (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) :
    Prog (TpuEff nD τ sig (Elt F) Λ₀ .tc) PUnit := do
  let arg0 : BitVec 32 := BitVec.ofNat 32 (i 0).val
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let ⟨v9, v44, v47⟩ : Σ' (v9 : Vec F S1x2048 .f32) (v44 : Vec F S256x2048 .f32), FVec F S256x1 .f32 ← k0_part1 i arg2 harg2 arg3 harg3 arg4 harg4 arg5 harg5 arg6 harg6 arg7 harg7 arg8 harg8 arg9 harg9 -- statements 1–60 of 104: their part
    let v58 : Vec F S256x2048 .bf16 ← Prog.lift (.load arg9 (Rect.unit (s := S1024x2048) ![512, 0] S256x2048.size inb_S1024x2048_S256x2048_512_0).toLoadRect (View.loadsAt_vmem h_S256x2048))

    Prog.lift (.store arg9 (Rect.unit (s := S1024x2048) ![512, 0] S256x2048.size inb_S1024x2048_S256x2048_512_0) (k0_pay1 v9 v44 v47) Finset.univ (View.stores_vmem h_S256x2048 (harg9.storeExact_slice rfl _ packedbf16_S1024x2048_S256x2048_512_0) (fun _ => rfl)) (.inl rfl))
    let v61 : Vec F S256x2048 .f32 ← Prog.lift (.load arg2 (Rect.unit (s := S1024x2048) ![768, 0] S256x2048.size inb_S1024x2048_S256x2048_768_0).toLoadRect (View.loadsAt_vmem h_S256x2048))

    let v75 : Vec F S256x2048 .bf16 ← Prog.lift (.load arg9 (Rect.unit (s := S1024x2048) ![768, 0] S256x2048.size inb_S1024x2048_S256x2048_768_0).toLoadRect (View.loadsAt_vmem h_S256x2048))

    Prog.lift (.store arg9 (Rect.unit (s := S1024x2048) ![768, 0] S256x2048.size inb_S1024x2048_S256x2048_768_0) (k0_pay2 v9 v61) Finset.univ (View.stores_vmem h_S256x2048 (harg9.storeExact_slice rfl _ packedbf16_S1024x2048_S256x2048_768_0) (fun _ => rfl)) (.inl rfl))
    pure ⟨⟩                                                             -- scf.yield / }
  else do                                                               -- } else {
    pure ⟨⟩                                                             -- scf.yield / }

  if k0_h2 : k0_cond2 i = 1#1 then do
    let ⟨v40, v49⟩ : Σ' (v40 : FVec F S1024x256 .bf16), FVec F S1024x256 .f32 ← k0_part2 i arg2 harg2 arg3 harg3 arg4 harg4 arg5 harg5 arg6 harg6 arg7 harg7 arg8 harg8 arg9 harg9 arg0 arg1 -- statements 1–60 of 119: their part
    let v52 : Vec F S512x512 .bf16 ← Prog.lift (.load arg5 (Rect.unit (s := S512x2048) ![0, 0] S512x512.size inb_S512x2048_S512x512_0_0).toLoadRect (View.loadsAt_vmem h_S512x512))
    let v55 : Vec F S1024x512 .f32 ← Prog.lift (.load arg2 (Rect.unit (s := S1024x2048) ![0, 0] S1024x512.size inb_S1024x2048_S1024x512_0_0).toLoadRect (View.loadsAt_vmem h_S1024x512))
    let v57 : Vec F S1024x512 .f32 ← Prog.lift (.load arg7 (Rect.unit (s := S1024x2048) ![0, 0] S1024x512.size inb_S1024x2048_S1024x512_0_0).toLoadRect (View.loadsAt_vmem h_S1024x512))
    Prog.lift (.store arg7 (Rect.unit (s := S1024x2048) ![0, 0] S1024x512.size inb_S1024x2048_S1024x512_0_0) (k0_pay4 v40 v49 v52 v55) Finset.univ (View.stores_vmem_bits_univ h_S1024x512 rfl) (.inl rfl))
    let v58 : Vec F S512x512 .bf16 ← Prog.lift (.load arg5 (Rect.unit (s := S512x2048) ![0, 512] S512x512.size inb_S512x2048_S512x512_0_512).toLoadRect (View.loadsAt_vmem h_S512x512))
    let v61 : Vec F S1024x512 .f32 ← Prog.lift (.load arg2 (Rect.unit (s := S1024x2048) ![0, 512] S1024x512.size inb_S1024x2048_S1024x512_0_512).toLoadRect (View.loadsAt_vmem h_S1024x512))
    let v63 : Vec F S1024x512 .f32 ← Prog.lift (.load arg7 (Rect.unit (s := S1024x2048) ![0, 512] S1024x512.size inb_S1024x2048_S1024x512_0_512).toLoadRect (View.loadsAt_vmem h_S1024x512))
    Prog.lift (.store arg7 (Rect.unit (s := S1024x2048) ![0, 512] S1024x512.size inb_S1024x2048_S1024x512_0_512) (k0_pay5 v40 v49 v58 v61) Finset.univ (View.stores_vmem_bits_univ h_S1024x512 rfl) (.inl rfl))
    let v64 : Vec F S512x512 .bf16 ← Prog.lift (.load arg5 (Rect.unit (s := S512x2048) ![0, 1024] S512x512.size inb_S512x2048_S512x512_0_1024).toLoadRect (View.loadsAt_vmem h_S512x512))
    let v67 : Vec F S1024x512 .f32 ← Prog.lift (.load arg2 (Rect.unit (s := S1024x2048) ![0, 1024] S1024x512.size inb_S1024x2048_S1024x512_0_1024).toLoadRect (View.loadsAt_vmem h_S1024x512))
    let v69 : Vec F S1024x512 .f32 ← Prog.lift (.load arg7 (Rect.unit (s := S1024x2048) ![0, 1024] S1024x512.size inb_S1024x2048_S1024x512_0_1024).toLoadRect (View.loadsAt_vmem h_S1024x512))
    Prog.lift (.store arg7 (Rect.unit (s := S1024x2048) ![0, 1024] S1024x512.size inb_S1024x2048_S1024x512_0_1024) (k0_pay6 v40 v49 v64 v67) Finset.univ (View.stores_vmem_bits_univ h_S1024x512 rfl) (.inl rfl))
    let v70 : Vec F S512x512 .bf16 ← Prog.lift (.load arg5 (Rect.unit (s := S512x2048) ![0, 1536] S512x512.size inb_S512x2048_S512x512_0_1536).toLoadRect (View.loadsAt_vmem h_S512x512))
    let v73 : Vec F S1024x512 .f32 ← Prog.lift (.load arg2 (Rect.unit (s := S1024x2048) ![0, 1536] S1024x512.size inb_S1024x2048_S1024x512_0_1536).toLoadRect (View.loadsAt_vmem h_S1024x512))
    let v75 : Vec F S1024x512 .f32 ← Prog.lift (.load arg7 (Rect.unit (s := S1024x2048) ![0, 1536] S1024x512.size inb_S1024x2048_S1024x512_0_1536).toLoadRect (View.loadsAt_vmem h_S1024x512))
    Prog.lift (.store arg7 (Rect.unit (s := S1024x2048) ![0, 1536] S1024x512.size inb_S1024x2048_S1024x512_0_1536) (k0_pay7 v40 v49 v70 v73) Finset.univ (View.stores_vmem_bits_univ h_S1024x512 rfl) (.inl rfl))
    pure ⟨⟩                                                             -- scf.yield / }
  else do                                                               -- } else {
    pure ⟨⟩                                                             -- scf.yield / }

  if k0_h3 : k0_cond3 i = 1#1 then do
    let ⟨v40, v49⟩ : Σ' (v40 : FVec F S1024x256 .bf16), FVec F S1024x256 .f32 ← k0_part3 i arg2 harg2 arg3 harg3 arg4 harg4 arg5 harg5 arg6 harg6 arg7 harg7 arg8 harg8 arg9 harg9 arg0 arg1 -- statements 1–60 of 123: their part
    let v78 : FVec F S1024x512 .f32 ← k0_part4 i arg2 harg2 arg3 harg3 arg4 harg4 arg5 harg5 arg6 harg6 arg7 harg7 arg8 harg8 arg9 harg9 v40 v49 -- statements 61–120 of 123: their part
    let v79 : Vec F S1024x512 .f32 ← Prog.lift (.load arg7 (Rect.unit (s := S1024x2048) ![0, 1536] S1024x512.size inb_S1024x2048_S1024x512_0_1536).toLoadRect (View.loadsAt_vmem h_S1024x512))
    Prog.lift (.store arg7 (Rect.unit (s := S1024x2048) ![0, 1536] S1024x512.size inb_S1024x2048_S1024x512_0_1536) v78 Finset.univ (View.stores_vmem_bits_univ h_S1024x512 rfl) (.inl rfl))
    pure ⟨⟩                                                             -- scf.yield / }
  else do                                                               -- } else {
    pure ⟨⟩                                                             -- scf.yield / }
  pure ⟨⟩                                                               -- func.return

set_option maxRecDepth 65536 in
theorem cc0_ffn_tail_eq_skeleton : cc0_ffn_tail (F := F) = cc0_ffn_tail_skel (F := F) := rfl

noncomputable def k0_part1_skel (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) :
    Prog (TpuEff nD τ sig (Elt F) Λ₀ .tc) (Σ' (v9 : Vec F S1x2048 .f32) (v44 : Vec F S256x2048 .f32), FVec F S256x1 .f32) := do
  let v9 : Vec F S1x2048 .f32 ← Prog.lift (.load arg3 (Rect.unit (s := S1x2048) ![0, 0] S1x2048.size inb_S1x2048_S1x2048_0_0).toLoadRect (View.loadsAt_vmem h_S1x2048))
  let v10 : Vec F S256x2048 .f32 ← Prog.lift (.load arg2 (Rect.unit (s := S1024x2048) ![0, 0] S256x2048.size inb_S1024x2048_S256x2048_0_0).toLoadRect (View.loadsAt_vmem h_S256x2048))

  let v24 : Vec F S256x2048 .bf16 ← Prog.lift (.load arg9 (Rect.unit (s := S1024x2048) ![0, 0] S256x2048.size inb_S1024x2048_S256x2048_0_0).toLoadRect (View.loadsAt_vmem h_S256x2048))

  Prog.lift (.store arg9 (Rect.unit (s := S1024x2048) ![0, 0] S256x2048.size inb_S1024x2048_S256x2048_0_0) (k0_pay8 v9 v10) Finset.univ (View.stores_vmem h_S256x2048 (harg9.storeExact_slice rfl _ packedbf16_S1024x2048_S256x2048_0_0) (fun _ => rfl)) (.inl rfl))
  let v27 : Vec F S256x2048 .f32 ← Prog.lift (.load arg2 (Rect.unit (s := S1024x2048) ![256, 0] S256x2048.size inb_S1024x2048_S256x2048_256_0).toLoadRect (View.loadsAt_vmem h_S256x2048))

  let v41 : Vec F S256x2048 .bf16 ← Prog.lift (.load arg9 (Rect.unit (s := S1024x2048) ![256, 0] S256x2048.size inb_S1024x2048_S256x2048_256_0).toLoadRect (View.loadsAt_vmem h_S256x2048))

  Prog.lift (.store arg9 (Rect.unit (s := S1024x2048) ![256, 0] S256x2048.size inb_S1024x2048_S256x2048_256_0) (k0_pay9 v9 v27) Finset.univ (View.stores_vmem h_S256x2048 (harg9.storeExact_slice rfl _ packedbf16_S1024x2048_S256x2048_256_0) (fun _ => rfl)) (.inl rfl))
  let v44 : Vec F S256x2048 .f32 ← Prog.lift (.load arg2 (Rect.unit (s := S1024x2048) ![512, 0] S256x2048.size inb_S1024x2048_S256x2048_512_0).toLoadRect (View.loadsAt_vmem h_S256x2048))

  pure ⟨v9, v44, k0_pay10 v44⟩

set_option maxRecDepth 65536 in
theorem k0_part1_eq_skeleton : k0_part1 (F := F) = k0_part1_skel (F := F) := rfl

noncomputable def k0_part2_skel (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (arg0 : BitVec 32) (arg1 : BitVec 32) :
    Prog (TpuEff nD τ sig (Elt F) Λ₀ .tc) (Σ' (v40 : FVec F S1024x256 .bf16), FVec F S1024x256 .f32) := do
  let v18 : Vec F S128x2048 .f32 ← Prog.lift (.load arg6 (Rect.unit (s := S128x2048) ![0, 0] S128x2048.size inb_S128x2048_S128x2048_0_0).toLoadRect (View.loadsAt_vmem h_S128x2048))
  let v26 : Vec F S2048x128 .bf16 ← Prog.lift (.load arg8 (Rect.unit (s := S2048x128) ![0, 0] S2048x128.size inb_S2048x128_S2048x128_0_0).toLoadRect (View.loadsAt_vmem h_S2048x128))
  Prog.lift (.store arg8 (Rect.unit (s := S2048x128) ![0, 0] S2048x128.size inb_S2048x128_S2048x128_0_0) (k0_pay11 arg0 arg1 v18) Finset.univ (View.stores_vmem h_S2048x128 (harg8.storeExact_slice rfl _ packedbf16_S2048x128_S2048x128_0_0) (fun _ => rfl)) (.inl rfl))
  let v27 : Vec F S1024x2048 .bf16 ← Prog.lift (.load arg9 (Rect.unit (s := S1024x2048) ![0, 0] S1024x2048.size inb_S1024x2048_S1024x2048_0_0).toLoadRect (View.loadsAt_vmem h_S1024x2048))
  let v28 : Vec F S2048x1024 .bf16 ← Prog.lift (.load arg4 (Rect.unit (s := S2048x1024) ![0, 0] S2048x1024.size inb_S2048x1024_S2048x1024_0_0).toLoadRect (View.loadsAt_vmem h_S2048x1024))
  pure ⟨k0_pay13 v27 v28, k0_pay14 v27 v28⟩

set_option maxRecDepth 65536 in
theorem k0_part2_eq_skeleton : k0_part2 (F := F) = k0_part2_skel (F := F) := rfl

noncomputable def k0_part3_skel (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (arg0 : BitVec 32) (arg1 : BitVec 32) :
    Prog (TpuEff nD τ sig (Elt F) Λ₀ .tc) (Σ' (v40 : FVec F S1024x256 .bf16), FVec F S1024x256 .f32) := do
  let v18 : Vec F S128x2048 .f32 ← Prog.lift (.load arg6 (Rect.unit (s := S128x2048) ![0, 0] S128x2048.size inb_S128x2048_S128x2048_0_0).toLoadRect (View.loadsAt_vmem h_S128x2048))
  let v26 : Vec F S2048x128 .bf16 ← Prog.lift (.load arg8 (Rect.unit (s := S2048x128) ![0, 0] S2048x128.size inb_S2048x128_S2048x128_0_0).toLoadRect (View.loadsAt_vmem h_S2048x128))
  Prog.lift (.store arg8 (Rect.unit (s := S2048x128) ![0, 0] S2048x128.size inb_S2048x128_S2048x128_0_0) (k0_pay15 arg0 arg1 v18) Finset.univ (View.stores_vmem h_S2048x128 (harg8.storeExact_slice rfl _ packedbf16_S2048x128_S2048x128_0_0) (fun _ => rfl)) (.inl rfl))
  let v27 : Vec F S1024x2048 .bf16 ← Prog.lift (.load arg9 (Rect.unit (s := S1024x2048) ![0, 0] S1024x2048.size inb_S1024x2048_S1024x2048_0_0).toLoadRect (View.loadsAt_vmem h_S1024x2048))
  let v28 : Vec F S2048x1024 .bf16 ← Prog.lift (.load arg4 (Rect.unit (s := S2048x1024) ![0, 0] S2048x1024.size inb_S2048x1024_S2048x1024_0_0).toLoadRect (View.loadsAt_vmem h_S2048x1024))
  pure ⟨k0_pay17 v27 v28, k0_pay18 v27 v28⟩

set_option maxRecDepth 65536 in
theorem k0_part3_eq_skeleton : k0_part3 (F := F) = k0_part3_skel (F := F) := rfl

noncomputable def k0_part4_skel (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (v40 : FVec F S1024x256 .bf16) (v49 : FVec F S1024x256 .f32) :
    Prog (TpuEff nD τ sig (Elt F) Λ₀ .tc) (FVec F S1024x512 .f32) := do
  let v52 : Vec F S512x512 .bf16 ← Prog.lift (.load arg5 (Rect.unit (s := S512x2048) ![0, 0] S512x512.size inb_S512x2048_S512x512_0_0).toLoadRect (View.loadsAt_vmem h_S512x512))
  let v55 : Vec F S1024x512 .f32 ← Prog.lift (.load arg7 (Rect.unit (s := S1024x2048) ![0, 0] S1024x512.size inb_S1024x2048_S1024x512_0_0).toLoadRect (View.loadsAt_vmem h_S1024x512))
  let v58 : Vec F S1024x512 .f32 ← Prog.lift (.load arg7 (Rect.unit (s := S1024x2048) ![0, 0] S1024x512.size inb_S1024x2048_S1024x512_0_0).toLoadRect (View.loadsAt_vmem h_S1024x512))
  Prog.lift (.store arg7 (Rect.unit (s := S1024x2048) ![0, 0] S1024x512.size inb_S1024x2048_S1024x512_0_0) (k0_pay20 v40 v49 v52 v55) Finset.univ (View.stores_vmem_bits_univ h_S1024x512 rfl) (.inl rfl))
  let v59 : Vec F S512x512 .bf16 ← Prog.lift (.load arg5 (Rect.unit (s := S512x2048) ![0, 512] S512x512.size inb_S512x2048_S512x512_0_512).toLoadRect (View.loadsAt_vmem h_S512x512))
  let v62 : Vec F S1024x512 .f32 ← Prog.lift (.load arg7 (Rect.unit (s := S1024x2048) ![0, 512] S1024x512.size inb_S1024x2048_S1024x512_0_512).toLoadRect (View.loadsAt_vmem h_S1024x512))
  let v65 : Vec F S1024x512 .f32 ← Prog.lift (.load arg7 (Rect.unit (s := S1024x2048) ![0, 512] S1024x512.size inb_S1024x2048_S1024x512_0_512).toLoadRect (View.loadsAt_vmem h_S1024x512))
  Prog.lift (.store arg7 (Rect.unit (s := S1024x2048) ![0, 512] S1024x512.size inb_S1024x2048_S1024x512_0_512) (k0_pay21 v40 v49 v59 v62) Finset.univ (View.stores_vmem_bits_univ h_S1024x512 rfl) (.inl rfl))
  let v66 : Vec F S512x512 .bf16 ← Prog.lift (.load arg5 (Rect.unit (s := S512x2048) ![0, 1024] S512x512.size inb_S512x2048_S512x512_0_1024).toLoadRect (View.loadsAt_vmem h_S512x512))
  let v69 : Vec F S1024x512 .f32 ← Prog.lift (.load arg7 (Rect.unit (s := S1024x2048) ![0, 1024] S1024x512.size inb_S1024x2048_S1024x512_0_1024).toLoadRect (View.loadsAt_vmem h_S1024x512))
  let v72 : Vec F S1024x512 .f32 ← Prog.lift (.load arg7 (Rect.unit (s := S1024x2048) ![0, 1024] S1024x512.size inb_S1024x2048_S1024x512_0_1024).toLoadRect (View.loadsAt_vmem h_S1024x512))
  Prog.lift (.store arg7 (Rect.unit (s := S1024x2048) ![0, 1024] S1024x512.size inb_S1024x2048_S1024x512_0_1024) (k0_pay22 v40 v49 v66 v69) Finset.univ (View.stores_vmem_bits_univ h_S1024x512 rfl) (.inl rfl))
  let v73 : Vec F S512x512 .bf16 ← Prog.lift (.load arg5 (Rect.unit (s := S512x2048) ![0, 1536] S512x512.size inb_S512x2048_S512x512_0_1536).toLoadRect (View.loadsAt_vmem h_S512x512))
  let v76 : Vec F S1024x512 .f32 ← Prog.lift (.load arg7 (Rect.unit (s := S1024x2048) ![0, 1536] S1024x512.size inb_S1024x2048_S1024x512_0_1536).toLoadRect (View.loadsAt_vmem h_S1024x512))
  pure (k0_pay23 v40 v49 v73 v76)

set_option maxRecDepth 65536 in
theorem k0_part4_eq_skeleton : k0_part4 (F := F) = k0_part4_skel (F := F) := rfl

end Cert.RestIdeal.Body

end
-- ==== Proof.RestIdealRuns.lean ====
/- When the branches of the body are taken, and the memory it is handed. -/
module

public import proofs.«01_k».proof.Proof.Gen.RestIdeal.Frame
public import Idealize.ShloMosaic.Lib.Pipeline.TableIdle
public import Idealize.ShloMosaic.Lib.Exec
public import proofs.«01_k».proof.Proof.RestIdealSkeleton

@[expose] public section

-- membership in a rectangle of production extents (`View.cover_of_tiled`): the elaborator's structural look
-- recurses once per coordinate of the long axes
set_option maxRecDepth 16384

noncomputable section

namespace Cert.RestIdeal.Body

open Cert.RestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 11) — by arithmetic of the point. -/
theorem hcond0_0 : ∀ t : Fin cfg0.N, cond0_0 (grid0.coords t) ↔ t.val % 11 = 0 :=
  (fun t => by
    have ht : t.val < 77 := Nat.lt_of_lt_of_eq t.isLt N_0
    have e0 : (grid0.coords t 0).val = t.val / 11 % 7 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := k0_cond2 i = 1#1
/-- It holds at the points ≡ 0 (mod 11) — by arithmetic of the point. -/
theorem hcond0_1 : ∀ t : Fin cfg0.N, cond0_1 (grid0.coords t) ↔ t.val % 11 = 0 :=
  (fun t => by
    have ht : t.val < 77 := Nat.lt_of_lt_of_eq t.isLt N_0
    have e0 : (grid0.coords t 0).val = t.val / 11 % 7 := Pipeline.Grid.coords_val t 0 (by decide) rfl
    have e1 : (grid0.coords t 1).val = t.val / 1 % 11 := Pipeline.Grid.coords_val t 1 (by decide) rfl
    simp only [cond0_1, k0_cond2, e0, e1]
    word_cmp
   : ∀ t : Fin grid0.N, cond0_1 (grid0.coords t) ↔ t.val % 11 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 — decided over the grid. -/
theorem hcond0_2 : ∀ t : Fin cfg0.N, cond0_2 (grid0.coords t) ↔ 1 ≤ t.val % 11 :=
  (by decide +kernel : ∀ t : Fin grid0.N, cond0_2 (grid0.coords t) ↔ 1 ≤ t.val % 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x10020040080100200400 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the printed configuration (`Cfg.idle`) calls output 5 live: the case stores into it. -/
theorem liveAt0_5_A : ∀ t : Fin cfg0.N, cond0_0 (grid0.coords t) → cond0_1 (grid0.coords t) → ¬cond0_2 (grid0.coords t) → cfg0.idle 5 (grid0.coords t) = false := by decide +kernel
/-- At the points of case B the printed configuration (`Cfg.idle`) calls output 5 live: the case stores into it. -/
theorem liveAt0_5_B : ∀ t : Fin cfg0.N, ¬cond0_0 (grid0.coords t) → ¬cond0_1 (grid0.coords t) → cond0_2 (grid0.coords t) → cfg0.idle 5 (grid0.coords t) = false := by decide +kernel
/-- At the points of case B, which keeps output 5's prior contents (reads it before covering, or covers it in part), the
    window's buffer is not FRESH: something was stored into it since the region's entry or its last write-back, idle points
    between or not (Lib/Pipeline/TableIdle.lean `Cfg.fresh`, by the table `freshTab0_5`). -/
theorem notFresh0_5_B : ∀ t : Fin cfg0.N, ¬cond0_0 (grid0.coords t) → ¬cond0_1 (grid0.coords t) → cond0_2 (grid0.coords t) → cfg0.fresh 5 t.val = false := by
  intro t; rw [fresh0_5_eq t]; revert t; decide +kernel
/-- At the points of case A the printed configuration (`Cfg.idle`) calls output 6 live: the case stores into it. -/
theorem liveAt0_6_A : ∀ t : Fin cfg0.N, cond0_0 (grid0.coords t) → cond0_1 (grid0.coords t) → ¬cond0_2 (grid0.coords t) → cfg0.idle 6 (grid0.coords t) = false := by decide +kernel
/-- At the points of case B the printed configuration (`Cfg.idle`) calls output 6 live: the case stores into it. -/
theorem liveAt0_6_B : ∀ t : Fin cfg0.N, ¬cond0_0 (grid0.coords t) → ¬cond0_1 (grid0.coords t) → cond0_2 (grid0.coords t) → cfg0.idle 6 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1024x2048 .f32 := (Memref.whole cc0_stg5_0 : Memref sig .tc .vmem S1024x2048 .f32).view
/-- One staging buffer of output window 6, through which its contents are stated (`View.read_writes_of_cover`: the
    choice does not matter). -/
abbrev VO0_6 : View sig .tc .vmem S2048x128 .bf16 := (Memref.whole cc0_stg6_0 : Memref sig .tc .vmem S2048x128 .bf16).view
/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x2048 .bf16 := Memref.whole cc0_scratch0
/-- The scratch `arg9` the kernel carries between points, as a view: what it holds is stated through it. -/
abbrev VS0_0 : View sig .tc .vmem S1024x2048 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.RestIdeal.Body

end
-- ==== Proof.RestIdealRunA.lean ====
/- One run of the body, case A of its branches. -/
module

public import proofs.«01_k».proof.Proof.RestIdealRuns

@[expose] public section

-- membership in a rectangle of production extents (`View.cover_of_tiled`): the elaborator's structural look
-- recurses once per coordinate of the long axes
set_option maxRecDepth 16384

noncomputable section

namespace Cert.RestIdeal.Body

open Cert.RestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0, 11, … 66: 7 of 77), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : cond0_0 i) (hc1 : cond0_1 i) (hc2 : ¬cond0_2 i)
    (x0 : Vec F S1024x2048 .f32) (x1 : Vec F S1x2048 .f32) (x2 : Vec F S2048x1024 .bf16) (x3 : Vec F S512x2048 .bf16) (x4 : Vec F S128x2048 .f32) :
    Σ' (L5 : List (View.Piece (Elt F) S1024x2048 .f32)), Σ' (L6 : List (View.Piece (Elt F) S2048x128 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_ffn_tail i arg2 harg2 arg3 harg3 arg4 harg4 arg5 harg5 arg6 harg6 arg7 harg7 arg8 harg8 arg9 harg9) K } := by
  refine ⟨?_, ?_, ?_, fun E K => ?run⟩
  case run =>
    simp only [cc0_ffn_tail_eq_skeleton]; unfold cc0_ffn_tail_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.RestIdeal.Body

end
-- ==== Proof.RestIdealRunB.lean ====
/- One run of the body, case B of its branches. -/
module

public import proofs.«01_k».proof.Proof.RestIdealRunA

@[expose] public section

-- membership in a rectangle of production extents (`View.cover_of_tiled`): the elaborator's structural look
-- recurses once per coordinate of the long axes
set_option maxRecDepth 16384

noncomputable section

namespace Cert.RestIdeal.Body

open Cert.RestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 taken: points 1, 2, … 76: 70 of 77), WITH the
    proof that on whole staging memrefs — the inputs' at their contents, the outputs it reads before covering (5) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : ¬cond0_0 i) (hc1 : ¬cond0_1 i) (hc2 : cond0_2 i)
    (x0 : Vec F S1024x2048 .f32) (x1 : Vec F S1x2048 .f32) (x2 : Vec F S2048x1024 .bf16) (x3 : Vec F S512x2048 .bf16) (x4 : Vec F S128x2048 .f32) (xo5 : Vec F S1024x2048 .f32) (xs0 : Vec F S1024x2048 .bf16) :
    Σ' (L5 : List (View.Piece (Elt F) S1024x2048 .f32)), Σ' (L6 : List (View.Piece (Elt F) S2048x128 .bf16)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc0_ffn_tail i arg2 harg2 arg3 harg3 arg4 harg4 arg5 harg5 arg6 harg6 arg7 harg7 arg8 harg8 arg9 harg9) K } := by
  refine ⟨?_, ?_, [], fun E K => ?run⟩
  case run =>
    simp only [cc0_ffn_tail_eq_skeleton]; unfold cc0_ffn_tail_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; isplitr; · ipureintro; exact harg9.read_unread _
    iexact HS0

end Cert.RestIdeal.Body

end
-- ==== Proof.RestIdealOut.lean ====
/- What the body leaves point by point, and the proof data. -/
module

public import proofs.«01_k».proof.Proof.RestIdealRunB
public import Idealize.ShloMosaic.Lib.Claim

@[expose] public section

-- membership in a rectangle of production extents (`View.cover_of_tiled`): the elaborator's structural look
-- recurses once per coordinate of the long axes
set_option maxRecDepth 16384

noncomputable section

namespace Cert.RestIdeal.Body

open Cert.RestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (4 stores of `S1024x512`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : cond0_0 i) (hc1 : cond0_1 i) (hc2 : ¬cond0_2 i)
    (x0 : Vec F S1024x2048 .f32) (x1 : Vec F S1x2048 .f32) (x2 : Vec F S2048x1024 .bf16) (x3 : Vec F S512x2048 .bf16) (x4 : Vec F S128x2048 .f32) (y : S1024x2048.Idx) :
    ∃ pc ∈ (kernelRun0_A c i arg2 harg2 arg3 harg3 arg4 harg4 arg5 harg5 arg6 harg6 arg7 harg7 arg8 harg8 arg9 harg9 hc0 hc1 hc2 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 hc2 x0 x1 x2 x3 x4).1 S1024x512.size (by sl_kernel_rfl) y

/-- What case A leaves in output 5's staging buffer: its pieces read back over junk. -/
def out0_A_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : cond0_0 i) (hc1 : cond0_1 i) (hc2 : ¬cond0_2 i)
    (x0 : Vec F S1024x2048 .f32) (x1 : Vec F S1x2048 .f32) (x2 : Vec F S2048x1024 .bf16) (x3 : Vec F S512x2048 .bf16) (x4 : Vec F S128x2048 .f32) : Vec F S1024x2048 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 hc2 x0 x1 x2 x3 x4).1)

/-- Case A's pieces for scratch `arg9`, which the kernel carries between points, cover it: 4 pieces of `S256x2048` tiling it (Lib/Ring.lean `Piece.tiledL`). -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : cond0_0 i) (hc1 : cond0_1 i) (hc2 : ¬cond0_2 i)
    (x0 : Vec F S1024x2048 .f32) (x1 : Vec F S1x2048 .f32) (x2 : Vec F S2048x1024 .bf16) (x3 : Vec F S512x2048 .bf16) (x4 : Vec F S128x2048 .f32) (y : S1024x2048.Idx) :
    ∃ pc ∈ (kernelRun0_A c i arg2 harg2 arg3 harg3 arg4 harg4 arg5 harg5 arg6 harg6 arg7 harg7 arg8 harg8 arg9 harg9 hc0 hc1 hc2 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 hc2 x0 x1 x2 x3 x4).2.2.1 S256x2048.size (by sl_kernel_rfl) y

/-- What case A leaves in scratch `arg9`: its pieces read back over junk. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : cond0_0 i) (hc1 : cond0_1 i) (hc2 : ¬cond0_2 i)
    (x0 : Vec F S1024x2048 .f32) (x1 : Vec F S1x2048 .f32) (x2 : Vec F S2048x1024 .bf16) (x3 : Vec F S512x2048 .bf16) (x4 : Vec F S128x2048 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 hc1 hc2 x0 x1 x2 x3 x4).2.2.1)

/-- Case B's pieces for output 5 tile its block (4 stores of `S1024x512`, checked by the kernel's evaluation: Lib/Ring.lean `Piece.tiledL`, linear in the pieces, through a loop's `@[irreducible]` trip theorem too), so they cover it. -/
theorem cover0_B_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : ¬cond0_0 i) (hc1 : ¬cond0_1 i) (hc2 : cond0_2 i)
    (x0 : Vec F S1024x2048 .f32) (x1 : Vec F S1x2048 .f32) (x2 : Vec F S2048x1024 .bf16) (x3 : Vec F S512x2048 .bf16) (x4 : Vec F S128x2048 .f32) (xo5 : Vec F S1024x2048 .f32) (xs0 : Vec F S1024x2048 .bf16) (y : S1024x2048.Idx) :
    ∃ pc ∈ (kernelRun0_B c i arg2 harg2 arg3 harg3 arg4 harg4 arg5 harg5 arg6 harg6 arg7 harg7 arg8 harg8 arg9 harg9 hc0 hc1 hc2 x0 x1 x2 x3 x4 xo5 xs0).1, y ∈ pc.1.set :=
  View.cover_of_tiledL (kernelRun0_B c i arg2 harg2 arg3 harg3 arg4 harg4 arg5 harg5 arg6 harg6 arg7 harg7 arg8 harg8 arg9 harg9 hc0 hc1 hc2 x0 x1 x2 x3 x4 xo5 xs0).1 S1024x512.size (by sl_kernel_rfl) y

/-- What case B leaves in output 5's staging buffer: its pieces read back over junk. -/
def out0_B_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : ¬cond0_0 i) (hc1 : ¬cond0_1 i) (hc2 : cond0_2 i)
    (x0 : Vec F S1024x2048 .f32) (x1 : Vec F S1x2048 .f32) (x2 : Vec F S2048x1024 .bf16) (x3 : Vec F S512x2048 .bf16) (x4 : Vec F S128x2048 .f32) (xo5 : Vec F S1024x2048 .f32) (xs0 : Vec F S1024x2048 .bf16) : Vec F S1024x2048 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 hc2 x0 x1 x2 x3 x4 xo5 xs0).1)

/-- Case B stores nothing into scratch `arg9`: it holds what the point before left. -/
def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : ¬cond0_0 i) (hc1 : ¬cond0_1 i) (hc2 : cond0_2 i)
    (x0 : Vec F S1024x2048 .f32) (x1 : Vec F S1x2048 .f32) (x2 : Vec F S2048x1024 .bf16) (x3 : Vec F S512x2048 .bf16) (x4 : Vec F S128x2048 .f32) (xo5 : Vec F S1024x2048 .f32) (xs0 : Vec F S1024x2048 .bf16) : Vec F S1024x2048 .bf16 := xs0

/-! ## What the outputs hold after each point -/

/-- In case A what the body stores of the tile is the same whatever the side block. -/
theorem tile_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : cond0_0 i) (hc1 : cond0_1 i) (hc2 : ¬cond0_2 i)
    (x0 : Vec F S1024x2048 .f32) (x1 : Vec F S1x2048 .f32) (x2 : Vec F S2048x1024 .bf16) (x3 : Vec F S512x2048 .bf16) (x4 : Vec F S128x2048 .f32) (x4' : Vec F S128x2048 .f32) :
    (kernelRun0_A c i arg2 harg2 arg3 harg3 arg4 harg4 arg5 harg5 arg6 harg6 arg7 harg7 arg8 harg8 arg9 harg9 hc0 hc1 hc2 x0 x1 x2 x3 x4).1 = (kernelRun0_A c i arg2 harg2 arg3 harg3 arg4 harg4 arg5 harg5 arg6 harg6 arg7 harg7 arg8 harg8 arg9 harg9 hc0 hc1 hc2 x0 x1 x2 x3 x4').1 := by dsimp only [kernelRun0_A]

/-- So is what it stores of the scratch. -/
theorem scratch_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : cond0_0 i) (hc1 : cond0_1 i) (hc2 : ¬cond0_2 i)
    (x0 : Vec F S1024x2048 .f32) (x1 : Vec F S1x2048 .f32) (x2 : Vec F S2048x1024 .bf16) (x3 : Vec F S512x2048 .bf16) (x4 : Vec F S128x2048 .f32) (x4' : Vec F S128x2048 .f32) :
    (kernelRun0_A c i arg2 harg2 arg3 harg3 arg4 harg4 arg5 harg5 arg6 harg6 arg7 harg7 arg8 harg8 arg9 harg9 hc0 hc1 hc2 x0 x1 x2 x3 x4).2.2.1 = (kernelRun0_A c i arg2 harg2 arg3 harg3 arg4 harg4 arg5 harg5 arg6 harg6 arg7 harg7 arg8 harg8 arg9 harg9 hc0 hc1 hc2 x0 x1 x2 x3 x4').2.2.1 := by dsimp only [kernelRun0_A]

/-- In case B what the body stores of the tile is the same whatever the side block. -/
theorem tile_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x2048 .bf16) (harg5 : arg5.IsWhole) (arg6 : Memref sig .tc .vmem S128x2048 .f32) (harg6 : arg6.IsWhole) (arg7 : Memref sig .tc .vmem S1024x2048 .f32) (harg7 : arg7.IsWhole) (arg8 : Memref sig .tc .vmem S2048x128 .bf16) (harg8 : arg8.IsWhole) (arg9 : Memref sig .tc .vmem S1024x2048 .bf16) (harg9 : arg9.IsWhole) (hc0 : ¬cond0_0 i) (hc1 : ¬cond0_1 i) (hc2 : cond0_2 i)
    (x0 : Vec F S1024x2048 .f32) (x1 : Vec F S1x2048 .f32) (x2 : Vec F S2048x1024 .bf16) (x3 : Vec F S512x2048 .bf16) (x4 : Vec F S128x2048 .f32) (xo5 : Vec F S1024x2048 .f32) (xs0 : Vec F S1024x2048 .bf16) (x4' : Vec F S128x2048 .f32) :
    (kernelRun0_B c i arg2 harg2 arg3 harg3 arg4 harg4 arg5 harg5 arg6 harg6 arg7 harg7 arg8 harg8 arg9 harg9 hc0 hc1 hc2 x0 x1 x2 x3 x4 xo5 xs0).1 = (kernelRun0_B c i arg2 harg2 arg3 harg3 arg4 harg4 arg5 harg5 arg6 harg6 arg7 harg7 arg8 harg8 arg9 harg9 hc0 hc1 hc2 x0 x1 x2 x3 x4' xo5 xs0).1 := by dsimp only [kernelRun0_B]

/-- Some block of the side input: what the tile output and the scratch hold does not depend on it. -/
def side : Vec F S128x2048 .f32 := fun _ => (Scalar.ofBits .f32 0x00000000#32 : F .f32)

/-- The windows of which nothing is said: the side input, whose last block overhangs its array, and the side output. -/
def forgets : Fin 7 → Bool := fun w => w.val == 4 || w.val == 6
theorem forgets_5 : forgets (5 : Fin 7) = false := by decide

/-- A buffer held at some contents of its elements is owned at some block. -/
theorem owns_some (c : Dev nD) {S : Shape} {e : EltTy} (M : Memref sig .tc .vmem S e) (f : Buf (Elt F) (M.view.loc (c : Thread nD τ))) :
    (M.view.loc (c : Thread nD τ) ↦[M.view.set]{fullShare} f : sProp 𝕄) ⊢ iprop(∃ X, owns (c : Thread nD τ) M fullShare X) := by
  iintro H
  iexists (M.view.read (Elt F) f)
  unfold owns
  iexists _
  isplitr
  swap
  · iexact H
  ipureintro; rfl

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1024x2048 .f32 × Vec F S1024x2048 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) side, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) side)
  | n + 1, hn =>
    if h0 : (n + 1) % 11 = 0 then
      if h1 : (n + 1) % 11 = 0 then
        if h2 : 1 ≤ (n + 1) % 11 then
          False.elim (by have hN : n + 1 < 77 := lt_of_lt_of_eq hn (show cfg0.N = 77 from N_0); omega)
        else
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) side, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) side)
      else
        False.elim (by have hN : n + 1 < 77 := lt_of_lt_of_eq hn (show cfg0.N = 77 from N_0); omega)
    else
      if h1 : (n + 1) % 11 = 0 then
        False.elim (by have hN : n + 1 < 77 := lt_of_lt_of_eq hn (show cfg0.N = 77 from N_0); omega)
      else
        if h2 : 1 ≤ (n + 1) % 11 then
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) side (outsAt0 c n (Nat.lt_of_succ_lt hn)).1 (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) side (outsAt0 c n (Nat.lt_of_succ_lt hn)).1 (outsAt0 c n (Nat.lt_of_succ_lt hn)).2)
        else
          False.elim (by have hN : n + 1 < 77 := lt_of_lt_of_eq hn (show cfg0.N = 77 from N_0); omega)

/-- `outsAt0` at a point of case A: that case's contents. -/
theorem outsAt0_A (c : Dev nD) (t : Fin cfg0.N) (h0 : t.val % 11 = 0) (h1 : t.val % 11 = 0) (h2 : ¬1 ≤ t.val % 11) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) side, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) side) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 11 = 0) (h1 : ¬t.val % 11 = 0) (h2 : 1 ≤ t.val % 11) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) side (outsAt0 m c (t.val - 1) (Nat.lt_of_le_of_lt (Nat.sub_le _ _) t.isLt)).1 (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) side (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed (cfg := cfg0) ⟨4, h⟩ t
    | ⟨5, _⟩ => (outsAt0 m c t.val t.isLt).1
    | ⟨6, h⟩ => Dat.unnamed (cfg := cfg0) ⟨6, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_5 (c : Dev nD) (t : Fin cfg0.N) : (dats m 0 c).after 5 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 5's contents CARRY through the points that leave it idle: at such a point, its buffer not fresh, the proof data's
    `after` is the point before's (the case there stores nothing into the window and its term says so; a case that stores
    into it is not idle there by `liveAt0_5_κ`) — the hypothesis of Lib/Pipeline/TableIdle.lean `Dat.before_out_traj`. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 77 := lt_of_lt_of_eq t.isLt (show cfg0.N = 77 from N_0)
  rw [after0_5, after0_5]
  by_cases h0 : t.val % 11 = 0
  · by_cases h1 : t.val % 11 = 0
    · by_cases h2 : 1 ≤ t.val % 11
      · exfalso; omega
      · rw [liveAt0_5_A t ((hcond0_0 t).mpr h0) ((hcond0_1 t).mpr h1) (fun h => h2 ((hcond0_2 t).mp h))] at hi
        exact absurd hi Bool.false_ne_true
    · exfalso; omega
  · by_cases h1 : t.val % 11 = 0
    · exfalso; omega
    · by_cases h2 : 1 ≤ t.val % 11
      · rw [liveAt0_5_B t (fun h => h0 ((hcond0_0 t).mp h)) (fun h => h1 ((hcond0_1 t).mp h)) ((hcond0_2 t).mpr h2)] at hi
        exact absurd hi Bool.false_ne_true
      · exfalso; omega
/-- At a point of case B output 5's current staging buffer holds what the point before left: the buffer is not fresh
    there (`notFresh0_5_B`: stored into since the region's entry or the last write-back, carried through the points that
    leave it idle by `hcarry0_5`; Lib/Pipeline/TableIdle.lean `Dat.before_out_traj`). -/
theorem before0_5_B (c : Dev nD) (t : Fin cfg0.N) (h0 : ¬t.val % 11 = 0) (h1 : ¬t.val % 11 = 0) (h2 : 1 ≤ t.val % 11) (d) :
    (dats m 0 c).before 5 t d = (outsAt0 m c (t.val - 1) (Nat.lt_of_le_of_lt (Nat.sub_le _ _) t.isLt)).1 := by
  rw [Dat.before_out_traj _ 5 rfl (fun _ _ => rfl) (hcarry0_5 m c) t.val t rfl d,
    if_neg (by rw [notFresh0_5_B t (fun h => h0 ((hcond0_0 t).mp h)) (fun h => h1 ((hcond0_1 t).mp h)) ((hcond0_2 t).mpr h2)]; exact Bool.false_ne_true)]
  dsimp only [dats]

end Cert.RestIdeal.Body

end
-- ==== Proof.RestIdealStep.lean ====
/- The body at any point. -/
module

public import proofs.«01_k».proof.Proof.RestIdealOut

@[expose] public section

-- membership in a rectangle of production extents (`View.cover_of_tiled`): the elaborator's structural look
-- recurses once per coordinate of the long axes
set_option maxRecDepth 16384

noncomputable section

namespace Cert.RestIdeal.Body

open Cert.RestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ X, owns (c : Thread nD τ) (ms0_4 t) fullShare X)
    ∗ (∃ d, owns (c : Thread nD τ) (ms0_5 t) fullShare ((dats m 0 c).before 5 t d))
    ∗ (∃ X, owns (c : Thread nD τ) (ms0_6 t) fullShare X))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ X, owns (c : Thread nD τ) (ms0_4 t) fullShare X)
    ∗ (dats m 0 c).leavesExact 5 t
    ∗ (∃ X, owns (c : Thread nD τ) (ms0_6 t) fullShare X))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 77 := lt_of_lt_of_eq t.isLt (show cfg0.N = 77 from N_0)
  by_cases h0 : t.val % 11 = 0
  · by_cases h1 : t.val % 11 = 0
    · by_cases h2 : 1 ≤ t.val % 11
      · exfalso; omega
      · rw [show (dats m 0 c).leavesExact 0 t = owns (c : Thread nD τ) (ms0_0 t) fullShare ((dats m 0 c).after 0 t) from (by unfold Dat.leavesExact; rw [liveAt0_0 t]), after0_0]
        rw [show (dats m 0 c).leavesExact 1 t = owns (c : Thread nD τ) (ms0_1 t) fullShare ((dats m 0 c).after 1 t) from (by unfold Dat.leavesExact; rw [liveAt0_1 t]), after0_1]
        rw [show (dats m 0 c).leavesExact 2 t = owns (c : Thread nD τ) (ms0_2 t) fullShare ((dats m 0 c).after 2 t) from (by unfold Dat.leavesExact; rw [liveAt0_2 t]), after0_2]
        rw [show (dats m 0 c).leavesExact 3 t = owns (c : Thread nD τ) (ms0_3 t) fullShare ((dats m 0 c).after 3 t) from (by unfold Dat.leavesExact; rw [liveAt0_3 t]), after0_3]
        rw [show (dats m 0 c).leavesExact 5 t = owns (c : Thread nD τ) (ms0_5 t) fullShare ((dats m 0 c).after 5 t) from (by unfold Dat.leavesExact; rw [liveAt0_5_A t ((hcond0_0 t).mpr h0) ((hcond0_1 t).mpr h1) (fun h => h2 ((hcond0_2 t).mp h))]), after0_5]
        by_cases hz : t.val = 0
        · rw [PhiS_castSucc m c t, PhiS_zero m c _ _ hz, PhiA0_eq]
          rw [outsAt0_A m c t h0 h1 h2]
          unfold out0_A_5 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) d4).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          iintro ⟨H0, H1, H2, H3, H4, ⟨%e5, H5⟩, ⟨%e6, H6⟩, ⟨%es0, HS0⟩⟩
          isplitl [HS0 Hg]
          · isplitl [HS0]
            · unfold owns; iexists _; isplitr
              swap; · iexact HS0
              ipureintro; rw [scratch_A (x4 := side) (x4' := d4)]; exact View.read_writes_of_cover _ _ _ _ _ (scover0_A_0 c _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexists _; iexact H4
          isplitl [H5]
          · unfold owns; iexists _; isplitr
            swap; · iexact H5
            ipureintro; rw [tile_A (x4 := side) (x4' := d4)]; exact View.read_writes_of_cover _ _ _ _ _ (cover0_A_5 c _ _ _ _ _ _ _ _ _ _ _ _ _ _ _ _ _ _ _ _ _ _ _ _ _)
          iapply owns_some $$ H6
        · rw [PhiS_castSucc m c t, PhiS_pos m c _ _ hz]
          rw [outsAt0_A m c t h0 h1 h2]
          unfold out0_A_5 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) d4).2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexists _; iexact HS0
          iintro ⟨H0, H1, H2, H3, H4, ⟨%e5, H5⟩, ⟨%e6, H6⟩, ⟨%es0, HS0⟩⟩
          isplitl [HS0 Hg]
          · isplitl [HS0]
            · unfold owns; iexists _; isplitr
              swap; · iexact HS0
              ipureintro; rw [scratch_A (x4 := side) (x4' := d4)]; exact View.read_writes_of_cover _ _ _ _ _ (scover0_A_0 c _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexists _; iexact H4
          isplitl [H5]
          · unfold owns; iexists _; isplitr
            swap; · iexact H5
            ipureintro; rw [tile_A (x4 := side) (x4' := d4)]; exact View.read_writes_of_cover _ _ _ _ _ (cover0_A_5 c _ _ _ _ _ _ _ _ _ _ _ _ _ _ _ _ _ _ _ _ _ _ _ _ _)
          iapply owns_some $$ H6
    · exfalso; omega
  · by_cases h1 : t.val % 11 = 0
    · exfalso; omega
    · by_cases h2 : 1 ≤ t.val % 11
      · rw [show (dats m 0 c).leavesExact 0 t = owns (c : Thread nD τ) (ms0_0 t) fullShare ((dats m 0 c).after 0 t) from (by unfold Dat.leavesExact; rw [liveAt0_0 t]), after0_0]
        rw [show (dats m 0 c).leavesExact 1 t = owns (c : Thread nD τ) (ms0_1 t) fullShare ((dats m 0 c).after 1 t) from (by unfold Dat.leavesExact; rw [liveAt0_1 t]), after0_1]
        rw [show (dats m 0 c).leavesExact 2 t = owns (c : Thread nD τ) (ms0_2 t) fullShare ((dats m 0 c).after 2 t) from (by unfold Dat.leavesExact; rw [liveAt0_2 t]), after0_2]
        rw [show (dats m 0 c).leavesExact 3 t = owns (c : Thread nD τ) (ms0_3 t) fullShare ((dats m 0 c).after 3 t) from (by unfold Dat.leavesExact; rw [liveAt0_3 t]), after0_3]
        rw [show (dats m 0 c).leavesExact 5 t = owns (c : Thread nD τ) (ms0_5 t) fullShare ((dats m 0 c).after 5 t) from (by unfold Dat.leavesExact; rw [liveAt0_5_B t (fun h => h0 ((hcond0_0 t).mp h)) (fun h => h1 ((hcond0_1 t).mp h)) ((hcond0_2 t).mpr h2)]), after0_5]
        by_cases hz : t.val = 0
        · exfalso; have hN : t.val < 77 := lt_of_lt_of_eq t.isLt (show cfg0.N = 77 from N_0); omega
        · rw [PhiS_castSucc m c t, PhiS_pos m c _ _ hz]
          rw [outsAt0_B m c t h0 h1 h2]
          simp only [before0_5_B m c t h0 h1 h2]
          unfold out0_B_5 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) d4 _ _).2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [HS0]; · iexact HS0
          iintro ⟨H0, H1, H2, H3, H4, ⟨%e5, H5⟩, ⟨%e6, H6⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexists _; iexact H4
          isplitl [H5]
          · unfold owns; iexists _; isplitr
            swap; · iexact H5
            ipureintro; rw [tile_B (x4 := side) (x4' := d4)]; exact View.read_writes_of_cover _ _ _ _ _ (cover0_B_5 c _ _ _ _ _ _ _ _ _ _ _ _ _ _ _ _ _ _ _ _ _ _ _ _ _ _ _)
          iapply owns_some $$ H6
      · exfalso; omega

end Cert.RestIdeal.Body

end
-- ==== Proof.RestIdealBody.lean ====
/- The obligation of the body, the launch and the frame; the side windows are forgotten. -/
module

public import proofs.«01_k».proof.Proof.RestIdealStep

@[expose] public section

-- membership in a rectangle of production extents (`View.cover_of_tiled`): the elaborator's structural look
-- recurses once per coordinate of the long axes
set_option maxRecDepth 16384

noncomputable section

namespace Cert.RestIdeal.Body

open Cert.RestIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 77 := N_0; omega)

/-! ## The run and the frame -/

set_option backward.isDefEq.respectTransparency.types false in
/-- THE LAUNCH: every final state has every array not forgotten at what the proof data say, and every semaphore counter at zero. -/
theorem run_main_quiescent : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged, and the counters at zero. -/
theorem rest_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.arr_in c 0 rfl).trans ((A_eq m c 0).trans (V_main_arg0 m c)),
      (h.1.arr_in c 1 rfl).trans ((A_eq m c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main_quiescent m ρ)

/-- The tile output's array ends at what the proof data say of it. -/
theorem rest_out : θ_run defs (onTc (τ := τ) (main (F := F))) ⟨m, fun _ => 0, ρ⟩ (fun r => ∀ c : Dev nD,
      r.2.mem ((cfg0.win 5).arr.view.loc (c.tc : Thread nD τ)) = (dats m 0 c).arrAt 5 cfg0.N) :=
  (θ_run defs _ _).mono (fun _ h c => ((dats m 0 c).toRForget_arrAt_iff forgets_5 cfg0.N _).mp ((h.1 c).1 5)) (run_main_quiescent m ρ)

end Cert.RestIdeal.Body

end
-- ==== Proof.RefFrame.lean ====
module

public import proofs.«01_k».proof.Defs
public import proofs.«01_k».proof.Proof.Gen.ReferenceIdeal
public import Idealize.ShloMosaic.Lib.Claim

/-! The reference's run leaves its arguments as they were. -/

@[expose] public section
noncomputable section
namespace Cert.RefAttn
open Idealize.ShloMosaic Idealize.SL.Sem
open Cert.ReferenceIdeal Cert.ReferenceIdeal.Gen

set_option maxHeartbeats 400000 in
/-- The reference runs and leaves its arguments as they were. -/
theorem args (m : (ℓ : Loc Cert.ReferenceIdeal.nD Cert.ReferenceIdeal.τ Cert.ReferenceIdeal.sig) → Buf (Elt Ideal) ℓ) (g : Dev Cert.ReferenceIdeal.nD → PrngReg) :
      θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) := by
  hlo_run
end Cert.RefAttn
end
-- ==== Proof.RefTerm.lean ====
module

public import proofs.«01_k».proof.Defs
public import proofs.«01_k».proof.Proof.Gen.ReferenceIdeal
public import Idealize.ShloMosaic.Lib.Claim
public import Idealize.ShloMosaic.Lib.Pipeline.ValueKit

/-! The reference's result, as a term over its argument arrays, in stages; and its run. -/

@[expose] public section
set_option maxRecDepth 16384
noncomputable section
namespace Cert.RefAttn
open Idealize.ShloMosaic Idealize.SL.Sem
open Cert.ReferenceIdeal Cert.ReferenceIdeal.Gen

/-- The log gates of the meta rows in front of those of the token rows. -/
def gates (lf : FVec Ideal S4x8x2048 .f32) (lfm : FVec Ideal S8x16 .f32) : FVec Ideal S4x8x2064 .f32 :=
  concatenate S4x8x2064 2 [⟨S4x8x16, broadcastInDim S4x8x16 ![0, 1, 2] bcast_S1x8x16_S4x8x16_0_1_2
    (broadcastInDim S1x8x16 ![1, 2] bcast_S8x16_S1x8x16_1_2 lfm)⟩, ⟨S4x8x2048, lf⟩] concatenates_S4x8x16_S4x8x2048_S4x8x2064_d2

/-- The running sum of the log gates. -/
def cum (lf : FVec Ideal S4x8x2048 .f32) (lfm : FVec Ideal S8x16 .f32) : FVec Ideal S4x8x2064 .f32 :=
  Host.reduceWindowAdd ![1, 1, 2064] ![1, 1, 1] ![0, 0, 2063] ![0, 0, 0] (gates lf lfm)
    (broadcastInDim S_ ![] bcast_S_S_ (constant S_ .f32 0x00000000#32))
    reduceWindows_S4x8x2064_S4x8x2064_w1s1p0_0_w1s1p0_0_w2064s1p2063_0 h_S_

/-- The rows of `K` (keys or values) behind the meta rows of `Km`, split into heads. -/
def stack (K : FVec Ideal S8192x1024 .bf16) (Km : FVec Ideal S16x1024 .bf16) : FVec Ideal S4x2064x8x128 .f32 :=
  concatenate S4x2064x8x128 1 [⟨S4x16x8x128, broadcastInDim S4x16x8x128 ![0, 1, 2, 3] bcast_S1x16x8x128_S4x16x8x128_0_1_2_3
      (shapeCast S1x16x8x128 (extf (F := Ideal) .f32 Km bitsLt_bf16_f32) shapeCasts_S16x1024_S1x16x8x128)⟩,
    ⟨S4x2048x8x128, shapeCast S4x2048x8x128 (extf (F := Ideal) .f32 K bitsLt_bf16_f32) shapeCasts_S8192x1024_S4x2048x8x128⟩]
    concatenates_S4x16x8x128_S4x2048x8x128_S4x2064x8x128_d1

/-- 1 over the root of the head size. -/
def scale : FVec Ideal S_ .f32 := Host.divf (constant S_ .f32 0x3F800000#32) (Host.sqrt (constant S_ .f32 0x43000000#32))

/-- The scores before the mask. -/
def score (Q : FVec Ideal S8192x1024 .bf16) (KK : FVec Ideal S4x2064x8x128 .f32) (C : FVec Ideal S4x8x2064 .f32) :
    FVec Ideal S4x8x2048x2064 .f32 :=
  addf (mulf (Host.dotGeneral dot_S4x2048x8x128_S4x2064x8x128_S4x8x2048x2064_3_3_1_1_02_02 none
      (shapeCast S4x2048x8x128 (extf (F := Ideal) .f32 Q bitsLt_bf16_f32) shapeCasts_S8192x1024_S4x2048x8x128) KK)
      (broadcastInDim S4x8x2048x2064 ![] bcast_S_S4x8x2048x2064 scale))
    (subf (broadcastInDim S4x8x2048x2064 ![0, 1, 2, 3] bcast_S4x8x2048x1_S4x8x2048x2064_0_1_2_3
        (broadcastInDim S4x8x2048x1 ![0, 1, 2] bcast_S4x8x2048_S4x8x2048x1_0_1_2
          (extractStridedSlice S4x8x2048 ![0, 0, 16] C slices_S4x8x2064_S4x8x2048_0_0_16)))
      (broadcastInDim S4x8x2048x2064 ![0, 1, 2, 3] bcast_S4x8x1x2064_S4x8x2048x2064_0_1_2_3
        (broadcastInDim S4x8x1x2064 ![0, 1, 3] bcast_S4x8x2064_S4x8x1x2064_0_1_3 C)))

/-- The causal mask, and -∞ where it does not hold. -/
def masked (S : FVec Ideal S4x8x2048x2064 .f32) : FVec Ideal S4x8x2048x2064 .f32 :=
  select (broadcastInDim S4x8x2048x2064 ![2, 3] bcast_S2048x2064_S4x8x2048x2064_2_3
      (cmpi .sge
        (broadcastInDim S2048x2064 ![0, 1] bcast_S2048x1_S2048x2064_0_1 (broadcastInDim S2048x1 ![0] bcast_S2048_S2048x1_0
          (addi (broadcastInDim S2048 ![] bcast_S_S2048 (constantI S_ 32 16#32)) (iotaInDim S2048 32 0))))
        (broadcastInDim S2048x2064 ![0, 1] bcast_S1x2064_S2048x2064_0_1 (broadcastInDim S1x2064 ![1] bcast_S2064_S1x2064_1
          (iotaInDim S2064 32 0)))))
    S (broadcastInDim S4x8x2048x2064 ![] bcast_S_S4x8x2048x2064 (constant S_ .f32 0xFF800000#32))

/-- The row maxima. -/
def rowMax (S : FVec Ideal S4x8x2048x2064 .f32) : FVec Ideal S4x8x2048 .f32 :=
  maximumf (broadcastInDim S4x8x2048 ![] bcast_S_S4x8x2048 (constant S_ .f32 0xFF800000#32))
    (Host.reduce (FloatOps.maximumf (F := Ideal) (φ := .f32)) S (constant S_ .f32 0xFF800000#32) reducesTo_S4x8x2048x2064_S4x8x2048_d3 h_S_)

/-- The exponentials of the scores less their row's maximum. -/
def expo (S : FVec Ideal S4x8x2048x2064 .f32) : FVec Ideal S4x8x2048x2064 .f32 :=
  Host.exp (subf S (broadcastInDim S4x8x2048x2064 ![0, 1, 2, 3] bcast_S4x8x2048x1_S4x8x2048x2064_0_1_2_3
    (broadcastInDim S4x8x2048x1 ![0, 1, 2] bcast_S4x8x2048_S4x8x2048x1_0_1_2 (rowMax S))))

/-- The weights: each row divided by its sum. -/
def weights (E : FVec Ideal S4x8x2048x2064 .f32) : FVec Ideal S4x8x2048x2064 .f32 :=
  Host.divf E (broadcastInDim S4x8x2048x2064 ![0, 1, 2, 3] bcast_S4x8x2048x1_S4x8x2048x2064_0_1_2_3
    (broadcastInDim S4x8x2048x1 ![0, 1, 2] bcast_S4x8x2048_S4x8x2048x1_0_1_2
      (Host.reduceAdd E (constant S_ .f32 0x00000000#32) reducesTo_S4x8x2048x2064_S4x8x2048_d3 h_S_)))

/-- The weighted sum of the values, heads side by side again. -/
def out (VV : FVec Ideal S4x2064x8x128 .f32) (W : FVec Ideal S4x8x2048x2064 .f32) : FVec Ideal S8192x1024 .bf16 :=
  truncf .bf16 (shapeCast S8192x1024 (transpose S4x2048x8x128 [0, 3, 1, 2]
    (Host.dotGeneral dot_S4x2064x8x128_S4x8x2048x2064_S4x8x128x2048_1_3_3_2_02_01 none VV W)
    transposes_S4x8x128x2048_S4x2048x8x128_0_3_1_2) shapeCasts_S4x2048x8x128_S8192x1024) bitsLt_bf16_f32

/-- The reference's result over its arguments. -/
def REF (Q K V : FVec Ideal S8192x1024 .bf16) (Km Vm : FVec Ideal S16x1024 .bf16) (lf : FVec Ideal S4x8x2048 .f32)
    (lfm : FVec Ideal S8x16 .f32) : FVec Ideal S8192x1024 .bf16 :=
  out (stack V Vm) (weights (expo (masked (score Q (stack K Km) (cum lf lfm)))))

set_option maxHeartbeats 4000000 in
/-- The reference runs and its result array ends holding `REF` of its arguments. -/
theorem run (m : (ℓ : Loc Cert.ReferenceIdeal.nD Cert.ReferenceIdeal.τ Cert.ReferenceIdeal.sig) → Buf (Elt Ideal) ℓ) (g : Dev Cert.ReferenceIdeal.nD → PrngReg) :
      θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread Cert.ReferenceIdeal.nD Cert.ReferenceIdeal.τ).loc Cert.ReferenceIdeal.main_v54)
            = REF (m (c.tc.loc main_arg0)) (m (c.tc.loc main_arg1)) (m (c.tc.loc main_arg2)) (m (c.tc.loc main_arg3)) (m (c.tc.loc main_arg4)) (m (c.tc.loc main_arg5)) (m (c.tc.loc main_arg6))) := by
  hlo_run
  simp -implicitDefEqProofs only [StableHlo.TRef.ofBuf_toBuf, StableHlo.TRef.toBuf, StableHlo.TRef.ofBuf, cast_eq, id]
  unfold REF out weights expo rowMax masked score stack cum gates scale
  rfl
end Cert.RefAttn
end
-- ==== Proof.Row.lean ====
module

public import Idealize.ShloMosaic.Lib.Pipeline.ValueKit
public import Mathlib.Algebra.BigOperators.Intervals

/-! One row of a softmax-weighted sum over extended reals: its scores are real, its values are arbitrary.
    Nothing here mentions a program. -/

@[expose] public section
set_option maxRecDepth 16384
noncomputable section
namespace Cert.Attn
open Idealize.ShloMosaic

/-- The weighted mean of `v 0 … v (n-1)` with weights `exp (s i)`: the row every side is brought to. -/
def rowOut (n : ℕ) (s : ℕ → ℝ) (v : ℕ → EReal) : EReal :=
  (∑ i ∈ Finset.range n, ((Real.exp (s i) : ℝ) : EReal) * v i) *
    (((1 / ∑ i ∈ Finset.range n, Real.exp (s i)) : ℝ) : EReal)

/-- A real factor that is not negative comes out of a finite sum of extended reals. -/
theorem mul_sum_coe {ι : Type} (S : Finset ι) (K : ℝ) (hK : 0 ≤ K) (f : ι → EReal) :
    (K : EReal) * ∑ i ∈ S, f i = ∑ i ∈ S, (K : EReal) * f i := by
  classical
  induction S using Finset.induction_on with
  | empty => simp
  | insert a S ha ih =>
    rw [Finset.sum_insert ha, Finset.sum_insert ha, ← ih,
      EReal.left_distrib_of_nonneg_of_ne_top (by exact_mod_cast hK) (EReal.coe_ne_top _)]

theorem sum_mul_coe {ι : Type} (S : Finset ι) (K : ℝ) (hK : 0 ≤ K) (f : ι → EReal) :
    (∑ i ∈ S, f i) * (K : EReal) = ∑ i ∈ S, f i * (K : EReal) := by
  rw [mul_comm, mul_sum_coe S K hK]; exact Finset.sum_congr rfl fun _ _ => mul_comm _ _

/-- A finite sum of reals, read in the extended reals. -/
theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem sum_exp_pos {n : ℕ} (hn : 0 < n) (s : ℕ → ℝ) : 0 < ∑ i ∈ Finset.range n, Real.exp (s i) :=
  Finset.sum_pos (fun _ _ => Real.exp_pos _) ⟨0, Finset.mem_range.2 hn⟩

/-- Weights scaled by one positive real `K`: the quotient of the weighted sum by the sum of the weights is `rowOut`. -/
theorem div_eq_rowOut {n : ℕ} (hn : 0 < n) (s : ℕ → ℝ) (v : ℕ → EReal) {K : ℝ} (hK : 0 < K) :
    Ideal.div (∑ i ∈ Finset.range n, ((Real.exp (s i) * K : ℝ) : EReal) * v i)
      (∑ i ∈ Finset.range n, ((Real.exp (s i) * K : ℝ) : EReal)) = rowOut n s v := by
  have hS := sum_exp_pos hn s
  have h1 : (∑ i ∈ Finset.range n, ((Real.exp (s i) * K : ℝ) : EReal)) = (((∑ i ∈ Finset.range n, Real.exp (s i)) * K : ℝ) : EReal) := by
    rw [Finset.sum_mul, coe_sum]
  have h2 : (∑ i ∈ Finset.range n, ((Real.exp (s i) * K : ℝ) : EReal) * v i)
      = (∑ i ∈ Finset.range n, ((Real.exp (s i) : ℝ) : EReal) * v i) * (K : EReal) := by
    rw [sum_mul_coe _ K hK.le]
    refine Finset.sum_congr rfl fun i _ => ?_
    rw [EReal.coe_mul, mul_assoc, mul_assoc, mul_comm (K : EReal)]
  rw [h1, h2, Ideal.div_coe (mul_pos hS hK).ne', rowOut, mul_assoc, ← EReal.coe_mul]
  congr 2
  field_simp

/-- A sum over a block of `w` lanes of which the first `n` hold the entries `a … a+n-1` and the rest hold 0. -/
theorem sum_block {w : ℕ} (a n : ℕ) (hn : n ≤ w) (F : Fin w → EReal) (G : ℕ → EReal)
    (h1 : ∀ k : Fin w, (k : ℕ) < n → F k = G (a + k)) (h0 : ∀ k : Fin w, n ≤ (k : ℕ) → F k = 0) :
    ∑ k : Fin w, F k = ∑ i ∈ Finset.Ico a (a + n), G i := by
  have hF : ∀ k : Fin w, F k = (fun k : ℕ => if k < n then G (a + k) else 0) k := fun k => by
    by_cases hk : (k : ℕ) < n
    · simp [hk, h1 k hk]
    · simp [hk, h0 k (Nat.le_of_not_lt hk)]
  rw [Finset.sum_congr rfl fun k _ => hF k, Fin.sum_univ_eq_sum_range (fun k : ℕ => if k < n then G (a + k) else 0) w,
    Finset.sum_ite, Finset.sum_const_zero, add_zero, Finset.sum_Ico_eq_sum_range, Nat.add_sub_cancel_left]
  refine Finset.sum_congr ?_ fun _ _ => rfl
  ext k; simp only [Finset.mem_filter, Finset.mem_range]; omega

/-- The reference's row: softmax weights (scaled by `K`) of `L` lanes of which only the first `n` are not 0, each
    divided by their sum, then the weighted sum. -/
theorem softmax_eq_rowOut {L n : ℕ} (hn : 0 < n) (hnL : n ≤ L) (s : ℕ → ℝ) (v : ℕ → EReal) {K : ℝ} (hK : 0 < K)
    (E V : Fin L → EReal) (hE : ∀ k : Fin L, (k : ℕ) < n → E k = ((Real.exp (s k) * K : ℝ) : EReal))
    (h0 : ∀ k : Fin L, n ≤ (k : ℕ) → E k = 0) (hV : ∀ k : Fin L, V k = v k) :
    ∑ k : Fin L, V k * Ideal.div (E k) (∑ j : Fin L, E j) = rowOut n s v := by
  have hS := sum_exp_pos hn s
  have hsum : ∑ j : Fin L, E j = (((∑ i ∈ Finset.range n, Real.exp (s i)) * K : ℝ) : EReal) := by
    rw [sum_block 0 n hnL E (fun i => ((Real.exp (s i) * K : ℝ) : EReal)) (fun k hk => by rw [hE k hk, Nat.zero_add]) h0,
      Finset.sum_mul, coe_sum, Nat.zero_add, Finset.range_eq_Ico]
  have hne : (∑ i ∈ Finset.range n, Real.exp (s i)) * K ≠ 0 := (mul_pos hS hK).ne'
  rw [sum_block 0 n hnL _ (fun i => (((Real.exp (s i) : ℝ) : EReal) * v i) * (((1 / ∑ i ∈ Finset.range n, Real.exp (s i)) : ℝ) : EReal)),
    Nat.zero_add, ← Finset.range_eq_Ico, ← sum_mul_coe _ _ (by positivity)]
  · rfl
  · intro k hk
    rw [hsum, hE k hk, Ideal.div_coe hne, hV, Nat.zero_add, ← EReal.coe_mul, mul_comm (v k), mul_assoc, mul_assoc, mul_comm (v k), ← mul_assoc, ← mul_assoc, ← EReal.coe_mul]
    congr 2
    field_simp
  · intro k hk
    rw [hsum, h0 k hk, Ideal.div_coe hne, zero_mul, mul_zero]

/-- The maximum of lanes none of which is ⊤ and one of which is not ⊥ is a real. -/
theorem fold_max_real {ι : Type} [Fintype ι] (f : ι → EReal) (ht : ∀ i, f i ≠ ⊤) (i₀ : ι) (hb : f i₀ ≠ ⊥) :
    ∃ M : ℝ, Finset.univ.fold max (⊥ : EReal) f = (M : EReal) := by
  have h1 : Finset.univ.fold max (⊥ : EReal) f ≠ ⊤ := by
    intro h
    have : (⊤ : EReal) ≤ Finset.univ.fold max ⊥ f := h.ge
    rcases Finset.le_fold_max (⊤ : EReal) |>.1 this with h | ⟨i, _, h⟩
    · simp at h
    · exact ht i (top_le_iff.1 h)
  have h2 : Finset.univ.fold max (⊥ : EReal) f ≠ ⊥ := by
    intro h
    have : f i₀ ≤ Finset.univ.fold max ⊥ f := (Finset.le_fold_max (f i₀)).2 (Or.inr ⟨i₀, Finset.mem_univ _, le_rfl⟩)
    rw [h] at this
    exact hb (le_bot_iff.1 this)
  exact ⟨_, (EReal.coe_toReal h1 h2).symm⟩

/-- `x` is a real, or -∞. -/
theorem max_ne_top {a b : EReal} (ha : a ≠ ⊤) (hb : b ≠ ⊤) : max a b ≠ ⊤ := by
  rcases max_choice a b with h | h <;> rw [h] <;> assumption

/-- A left fold of sums of reals is a real. -/
theorem foldl_real {α : Type} (l : List α) (f : EReal → α → EReal) (h : ∀ (x : ℝ) (a : α), ∃ y : ℝ, f x a = y) (x : ℝ) :
    ∃ y : ℝ, l.foldl f (x : EReal) = (y : EReal) := by
  induction l generalizing x with
  | nil => exact ⟨x, rfl⟩
  | cons a l ih => obtain ⟨y, hy⟩ := h x a; rw [List.foldl_cons, hy]; exact ih y

end Cert.Attn
end
-- ==== Proof.Cum.lean ====
module

public import proofs.«01_k».proof.Proof.RefTerm
public import proofs.«01_k».proof.Proof.Row
public import Idealize.ShloMosaic.Lib.Pipeline.ValueKit

/-! The running sums of the log gates: real where the gates are, and over the meta rows the same in every batch. -/

@[expose] public section
set_option maxRecDepth 16384
noncomputable section
namespace Cert.RefAttn
open Idealize.ShloMosaic Idealize.SL.Sem
open Cert.ReferenceIdeal Cert.ReferenceIdeal.Gen

theorem gates_at (lf : FVec Ideal S4x8x2048 .f32) (lfm : FVec Ideal S8x16 .f32) (b : Fin 4) (h : Fin 8) (n : Fin 2064) :
    gates lf lfm (ix3 b h n) = if hn : (n : ℕ) < 16 then lfm (ix2 h ⟨n, hn⟩) else lf (ix3 b h ⟨n - 16, by omega⟩) := by
  pointwise [gates]

/-- The running sum as a left fold over the window. -/
theorem cum_eq (lf : FVec Ideal S4x8x2048 .f32) (lfm : FVec Ideal S8x16 .f32) :
    cum lf lfm = Host.reduceWindow (fun x y : EReal => x + y) ![1, 1, 2064] ![1, 1, 1] ![0, 0, 2063] ![0, 0, 0] (gates lf lfm)
      (fun _ : S_.Idx => (0 : EReal)) reduceWindows_S4x8x2064_S4x8x2064_w1s1p0_0_w1s1p0_0_w2064s1p2063_0 h_S_ := by
  have h0 : (broadcastInDim S_ ![] bcast_S_S_ (constant (F := Ideal) S_ .f32 0x00000000#32)) = (fun _ : S_.Idx => (0 : EReal)) := by
    funext j
    pointwise
  unfold cum Host.reduceWindowAdd
  rw [h0, Ideal.hostReduceWindowAdd_def]
  unfold Ideal.hostReduceWindowAdd Host.reduceWindow
  with_reducible rfl

theorem cum_real (lf : FVec Ideal S4x8x2048 .f32) (lfm : FVec Ideal S8x16 .f32)
    (hlf : ∀ j, ∃ y : ℝ, lf j = (y : EReal)) (hlfm : ∀ j, ∃ y : ℝ, lfm j = (y : EReal)) (j : S4x8x2064.Idx) :
    ∃ y : ℝ, cum lf lfm j = (y : EReal) := by
  have hg : ∀ j, ∃ y : ℝ, gates lf lfm j = (y : EReal) := by
    intro j
    idx_vars j
    rw [gates_at]
    split
    · exact hlfm _
    · exact hlf _
  rw [cum_eq]
  unfold Host.reduceWindow
  refine Cert.Attn.foldl_real _ _ (fun x n => ?_) 0
  dsimp only
  split
  · next hin =>
    obtain ⟨y, hy⟩ := hg (fun a => ⟨_, (hin a).2⟩)
    exact ⟨x + y, by rw [hy, EReal.coe_add]⟩
  · exact ⟨x, by rw [add_zero]⟩

/-- One term of the window's sum, at the padded position `p`. -/
def term (X : FVec Ideal S4x8x2064 .f32) (p : Fin 3 → ℕ) : EReal :=
  if hin : ∀ a : Fin 3, (![0, 0, 2063] : Fin 3 → ℕ) a ≤ p a ∧ p a - (![0, 0, 2063] : Fin 3 → ℕ) a < S4x8x2064.size a
    then X (fun a => ⟨p a - (![0, 0, 2063] : Fin 3 → ℕ) a, (hin a).2⟩) else 0

theorem term_congr (lf : FVec Ideal S4x8x2048 .f32) (lfm : FVec Ideal S8x16 .f32) (p p' : Fin 3 → ℕ)
    (h0 : p 0 < 4) (h0' : p' 0 < 4) (h1 : p 1 = p' 1) (h2 : p 2 = p' 2) (hm : p 2 < 2079) : term (gates lf lfm) p = term (gates lf lfm) p' := by
  have key : ∀ q : Fin 3 → ℕ, q 0 < 4 → q 2 < 2079 → term (gates lf lfm) q
      = if h : q 1 < 8 ∧ 2063 ≤ q 2 ∧ q 2 - 2063 < 16 then lfm (ix2 ⟨q 1, h.1⟩ ⟨q 2 - 2063, h.2.2⟩) else 0 := by
    intro q hq hq2
    unfold term
    by_cases h : q 1 < 8 ∧ 2063 ≤ q 2
    · have hin : ∀ a : Fin 3, (![0, 0, 2063] : Fin 3 → ℕ) a ≤ q a ∧ q a - (![0, 0, 2063] : Fin 3 → ℕ) a < S4x8x2064.size a := by
        intro a
        fin_cases a
        · exact ⟨Nat.zero_le _, hq⟩
        · exact ⟨Nat.zero_le _, h.1⟩
        · exact ⟨h.2, show q 2 - 2063 < 2064 by omega⟩
      rw [dif_pos hin, dif_pos ⟨h.1, h.2, by omega⟩]
      have e : (fun a => ⟨q a - (![0, 0, 2063] : Fin 3 → ℕ) a, (hin a).2⟩ : S4x8x2064.Idx)
          = ix3 (⟨q 0, hq⟩ : Fin 4) (⟨q 1, h.1⟩ : Fin 8) (⟨q 2 - 2063, by omega⟩ : Fin 2064) := by
        funext a
        fin_cases a <;> rfl
      rw [e, gates_at, dif_pos (show q 2 - 2063 < 16 by omega)]
    · rw [dif_neg, dif_neg]
      · exact fun hh => h ⟨hh.1, hh.2.1⟩
      · exact fun hin => h ⟨(hin 1).2, (hin 2).1⟩
  rw [key p h0 hm, key p' h0' (h2 ▸ hm)]
  simp only [h1, h2]

theorem cum_meta (lf : FVec Ideal S4x8x2048 .f32) (lfm : FVec Ideal S8x16 .f32) (b b' : Fin 4) (h : Fin 8) (n : Fin 2064) (hn : (n : ℕ) < 16) :
    cum lf lfm (ix3 b h n) = cum lf lfm (ix3 b' h n) := by
  rw [cum_eq]
  unfold Host.reduceWindow
  refine congrArg (fun f => List.foldl f _ _) ?_
  funext x w
  refine congrArg (x + ·) ?_
  have w0 : ((Shape.rowMajor ⟨3, ![1, 1, 2064]⟩).symm w 0 : ℕ) < 1 := ((Shape.rowMajor ⟨3, ![1, 1, 2064]⟩).symm w 0).isLt
  have w2 : ((Shape.rowMajor ⟨3, ![1, 1, 2064]⟩).symm w 2 : ℕ) < 2064 := ((Shape.rowMajor ⟨3, ![1, 1, 2064]⟩).symm w 2).isLt
  have key := term_congr lf lfm
    (fun a => (ix3 b h n (Fin.cast rfl a) : ℕ) * (![1, 1, 1] : Fin 3 → ℕ) a + ((Shape.rowMajor ⟨3, ![1, 1, 2064]⟩).symm w a : ℕ))
    (fun a => (ix3 b' h n (Fin.cast rfl a) : ℕ) * (![1, 1, 1] : Fin 3 → ℕ) a + ((Shape.rowMajor ⟨3, ![1, 1, 2064]⟩).symm w a : ℕ)) ?_ ?_ ?_ ?_ ?_
  · unfold term at key
    convert key
  · show (b : ℕ) * 1 + ((Shape.rowMajor ⟨3, ![1, 1, 2064]⟩).symm w 0 : ℕ) < 4
    omega
  · show (b' : ℕ) * 1 + ((Shape.rowMajor ⟨3, ![1, 1, 2064]⟩).symm w 0 : ℕ) < 4
    omega
  · rfl
  · rfl
  · show (n : ℕ) * 1 + ((Shape.rowMajor ⟨3, ![1, 1, 2064]⟩).symm w 2 : ℕ) < 2079
    omega
end Cert.RefAttn
end
-- ==== Proof.Aug.lean ====
module

public import proofs.«01_k».proof.Defs
public import proofs.«01_k».proof.Proof.Gen.KernelIdeal.Frame
public import proofs.«01_k».proof.Proof.Cum
public import Idealize.ShloMosaic.Lib.Claim
public import Idealize.ShloMosaic.Lib.Pipeline.ValueKit

@[expose] public section
set_option maxRecDepth 16384
noncomputable section
namespace Cert.KV
open Idealize.ShloMosaic Idealize.ShloMosaic.TcCoe Idealize.SL.Sem
open Cert.KernelIdeal Cert.KernelIdeal.Gen Cert.Attn
variable (m : (ℓ : Loc nD τ sig) → Buf (Elt Ideal) ℓ)
open Cert.RefAttn

/-- The lanes of a row holding `p` in its first 8: `p` there, `-p` in lanes 24..31, 0 elsewhere. -/
def lane (p : Fin 128 → ℝ) (l : Fin 128) : ℝ := if (l : ℕ) < 24 then p l else p l - p ⟨(l : ℕ) - 24, by omega⟩

/-! The lanes turned by 8, 16, 24, 32 and 40, over 8192 rows. -/

def roll8 (X : FVec Ideal S8192x128 .f32) : FVec Ideal S8192x128 .f32 :=
  concatenate S8192x128 1 [⟨S8192x8, extractStridedSlice S8192x8 ![0, 120] X slices_S8192x128_S8192x8_0_120⟩,
    ⟨S8192x120, extractStridedSlice S8192x120 ![0, 0] X slices_S8192x128_S8192x120_0_0⟩] concatenates_S8192x8_S8192x120_S8192x128_d1

def roll16 (X : FVec Ideal S8192x128 .f32) : FVec Ideal S8192x128 .f32 :=
  concatenate S8192x128 1 [⟨S8192x16, extractStridedSlice S8192x16 ![0, 112] X slices_S8192x128_S8192x16_0_112⟩,
    ⟨S8192x112, extractStridedSlice S8192x112 ![0, 0] X slices_S8192x128_S8192x112_0_0⟩] concatenates_S8192x16_S8192x112_S8192x128_d1

def roll24 (X : FVec Ideal S8192x128 .f32) : FVec Ideal S8192x128 .f32 :=
  concatenate S8192x128 1 [⟨S8192x24, extractStridedSlice S8192x24 ![0, 104] X slices_S8192x128_S8192x24_0_104⟩,
    ⟨S8192x104, extractStridedSlice S8192x104 ![0, 0] X slices_S8192x128_S8192x104_0_0⟩] concatenates_S8192x24_S8192x104_S8192x128_d1

def roll32 (X : FVec Ideal S8192x128 .f32) : FVec Ideal S8192x128 .f32 :=
  concatenate S8192x128 1 [⟨S8192x32, extractStridedSlice S8192x32 ![0, 96] X slices_S8192x128_S8192x32_0_96⟩,
    ⟨S8192x96, extractStridedSlice S8192x96 ![0, 0] X slices_S8192x128_S8192x96_0_0⟩] concatenates_S8192x32_S8192x96_S8192x128_d1

def roll40 (X : FVec Ideal S8192x128 .f32) : FVec Ideal S8192x128 .f32 :=
  concatenate S8192x128 1 [⟨S8192x40, extractStridedSlice S8192x40 ![0, 88] X slices_S8192x128_S8192x40_0_88⟩,
    ⟨S8192x88, extractStridedSlice S8192x88 ![0, 0] X slices_S8192x128_S8192x88_0_0⟩] concatenates_S8192x40_S8192x88_S8192x128_d1

/-- What rounding leaves of `X`. -/
def rest (X : FVec Ideal S8192x128 .f32) : FVec Ideal S8192x128 .f32 := subf X (extf .f32 (truncf .bf16 X bitsLt_bf16_f32) bitsLt_bf16_f32)

/-- The three parts of the padded running sum at their lanes, and their negatives at theirs. -/
def spread (X : FVec Ideal S8192x128 .f32) : FVec Ideal S8192x128 .bf16 :=
  truncf .bf16 (subf (subf (subf (addf (addf
      (extf (F := Ideal) .f32 (truncf .bf16 X bitsLt_bf16_f32) bitsLt_bf16_f32)
      (roll8 (extf .f32 (truncf .bf16 (rest X) bitsLt_bf16_f32) bitsLt_bf16_f32)))
      (roll16 (extf .f32 (truncf .bf16 (rest (rest X)) bitsLt_bf16_f32) bitsLt_bf16_f32)))
      (roll24 (extf .f32 (truncf .bf16 X bitsLt_bf16_f32) bitsLt_bf16_f32)))
      (roll32 (extf .f32 (truncf .bf16 (rest X) bitsLt_bf16_f32) bitsLt_bf16_f32)))
      (roll40 (extf .f32 (truncf .bf16 (rest (rest X)) bitsLt_bf16_f32) bitsLt_bf16_f32))) bitsLt_bf16_f32

theorem rest_at (X : FVec Ideal S8192x128 .f32) (r : Fin 8192) (p : Fin 128 → ℝ) (hX : ∀ l, X (ix2 r l) = (p l : EReal)) (l : Fin 128) :
    rest X (ix2 r l) = ((0 : ℝ) : EReal) := by
  pointwise [rest]
  rw [hX, ← EReal.coe_sub, sub_self]

/-- Lane by lane: the number itself in lanes 0..7, its negative in lanes 24..31. -/
theorem spread_at (X : FVec Ideal S8192x128 .f32) (r : Fin 8192) (p : Fin 128 → ℝ) (hX : ∀ l, X (ix2 r l) = (p l : EReal))
    (hp : ∀ l : Fin 128, 8 ≤ (l : ℕ) → p l = 0) (l : Fin 128) :
    spread X (ix2 r l) = ((lane p l : ℝ) : EReal) := by
  have h1 := rest_at X r p hX
  have h2 := rest_at (rest X) r (fun _ => 0) h1
  unfold spread
  generalize rest (rest X) = X2 at h2 ⊢
  generalize rest X = X1 at h1 ⊢
  pointwise [roll8, roll16, roll24, roll32, roll40]
  simp only [h1, h2, hX, dite_eq_ite, ite_self, EReal.coe_zero, add_zero, sub_zero]
  unfold lane
  by_cases h24 : (l : ℕ) < 24
  · rw [dif_pos h24, if_pos h24]
    exact (congrArg (fun z : ℝ => (p l : EReal) - (z : EReal)) (hp ⟨104 + l, by omega⟩ (by show 8 ≤ 104 + (l : ℕ); omega))).trans
      (by rw [EReal.coe_zero, sub_zero])
  · rw [dif_neg h24, if_neg h24]
    exact (EReal.coe_sub _ _).symm
/-! The lanes turned by 8, 16, 24, 32 and 40, over 128 rows. -/

def rollm8 (X : FVec Ideal S128x128 .f32) : FVec Ideal S128x128 .f32 :=
  concatenate S128x128 1 [⟨S128x8, extractStridedSlice S128x8 ![0, 120] X slices_S128x128_S128x8_0_120⟩,
    ⟨S128x120, extractStridedSlice S128x120 ![0, 0] X slices_S128x128_S128x120_0_0⟩] concatenates_S128x8_S128x120_S128x128_d1

def rollm16 (X : FVec Ideal S128x128 .f32) : FVec Ideal S128x128 .f32 :=
  concatenate S128x128 1 [⟨S128x16, extractStridedSlice S128x16 ![0, 112] X slices_S128x128_S128x16_0_112⟩,
    ⟨S128x112, extractStridedSlice S128x112 ![0, 0] X slices_S128x128_S128x112_0_0⟩] concatenates_S128x16_S128x112_S128x128_d1

def rollm24 (X : FVec Ideal S128x128 .f32) : FVec Ideal S128x128 .f32 :=
  concatenate S128x128 1 [⟨S128x24, extractStridedSlice S128x24 ![0, 104] X slices_S128x128_S128x24_0_104⟩,
    ⟨S128x104, extractStridedSlice S128x104 ![0, 0] X slices_S128x128_S128x104_0_0⟩] concatenates_S128x24_S128x104_S128x128_d1

def rollm32 (X : FVec Ideal S128x128 .f32) : FVec Ideal S128x128 .f32 :=
  concatenate S128x128 1 [⟨S128x32, extractStridedSlice S128x32 ![0, 96] X slices_S128x128_S128x32_0_96⟩,
    ⟨S128x96, extractStridedSlice S128x96 ![0, 0] X slices_S128x128_S128x96_0_0⟩] concatenates_S128x32_S128x96_S128x128_d1

def rollm40 (X : FVec Ideal S128x128 .f32) : FVec Ideal S128x128 .f32 :=
  concatenate S128x128 1 [⟨S128x40, extractStridedSlice S128x40 ![0, 88] X slices_S128x128_S128x40_0_88⟩,
    ⟨S128x88, extractStridedSlice S128x88 ![0, 0] X slices_S128x128_S128x88_0_0⟩] concatenates_S128x40_S128x88_S128x128_d1

/-- What rounding leaves of `X`. -/
def restm (X : FVec Ideal S128x128 .f32) : FVec Ideal S128x128 .f32 := subf X (extf .f32 (truncf .bf16 X bitsLt_bf16_f32) bitsLt_bf16_f32)

/-- The three parts of the padded running sum at their lanes, and their negatives at theirs. -/
def spreadm (X : FVec Ideal S128x128 .f32) : FVec Ideal S128x128 .bf16 :=
  truncf .bf16 (subf (subf (subf (addf (addf
      (extf (F := Ideal) .f32 (truncf .bf16 X bitsLt_bf16_f32) bitsLt_bf16_f32)
      (rollm8 (extf .f32 (truncf .bf16 (restm X) bitsLt_bf16_f32) bitsLt_bf16_f32)))
      (rollm16 (extf .f32 (truncf .bf16 (restm (restm X)) bitsLt_bf16_f32) bitsLt_bf16_f32)))
      (rollm24 (extf .f32 (truncf .bf16 X bitsLt_bf16_f32) bitsLt_bf16_f32)))
      (rollm32 (extf .f32 (truncf .bf16 (restm X) bitsLt_bf16_f32) bitsLt_bf16_f32)))
      (rollm40 (extf .f32 (truncf .bf16 (restm (restm X)) bitsLt_bf16_f32) bitsLt_bf16_f32))) bitsLt_bf16_f32

theorem restm_at (X : FVec Ideal S128x128 .f32) (r : Fin 128) (p : Fin 128 → ℝ) (hX : ∀ l, X (ix2 r l) = (p l : EReal)) (l : Fin 128) :
    restm X (ix2 r l) = ((0 : ℝ) : EReal) := by
  pointwise [restm]
  rw [hX, ← EReal.coe_sub, sub_self]

/-- Lane by lane: the number itself in lanes 0..7, its negative in lanes 24..31. -/
theorem spreadm_at (X : FVec Ideal S128x128 .f32) (r : Fin 128) (p : Fin 128 → ℝ) (hX : ∀ l, X (ix2 r l) = (p l : EReal))
    (hp : ∀ l : Fin 128, 8 ≤ (l : ℕ) → p l = 0) (l : Fin 128) :
    spreadm X (ix2 r l) = ((lane p l : ℝ) : EReal) := by
  have h1 := restm_at X r p hX
  have h2 := restm_at (restm X) r (fun _ => 0) h1
  unfold spreadm
  generalize restm (restm X) = X2 at h2 ⊢
  generalize restm X = X1 at h1 ⊢
  pointwise [rollm8, rollm16, rollm24, rollm32, rollm40]
  simp only [h1, h2, hX, dite_eq_ite, ite_self, EReal.coe_zero, add_zero, sub_zero]
  unfold lane
  by_cases h24 : (l : ℕ) < 24
  · rw [dif_pos h24, if_pos h24]
    exact (congrArg (fun z : ℝ => (p l : EReal) - (z : EReal)) (hp ⟨104 + l, by omega⟩ (by show 8 ≤ 104 + (l : ℕ); omega))).trans
      (by rw [EReal.coe_zero, sub_zero])
  · rw [dif_neg h24, if_neg h24]
    exact (EReal.coe_sub _ _).symm

/-- The running sum of the tokens' gates, padded to a lane row. -/
def padded (C : FVec Ideal S4x8x2064 .f32) : FVec Ideal S8192x128 .f32 :=
  mulf (pad S8192x128 ![0, 0] ![0, 120] ![0, 0]
    (shapeCast S8192x8 (extractStridedSlice S4x2048x8 ![0, 16, 0] (transpose S4x2064x8 [0, 2, 1] C transposes_S4x8x2064_S4x2064x8_0_2_1)
      slices_S4x2064x8_S4x2048x8_0_16_0) shapeCasts_S4x2048x8_S8192x8)
    (sitofp (F := Ideal) .f32 (constantI S_ 32 0#32)) pads_S8192x8_S8192x128_000_01200 h_S_)
    (broadcastInDim S8192x128 ![] bcast_S_S8192x128 (Host.sqrt (constant S_ .f32 0x43000000#32)))

/-- The running sum of the meta tokens' gates, of batch 0, padded. -/
def paddedm (C : FVec Ideal S4x8x2064 .f32) : FVec Ideal S128x128 .f32 :=
  mulf (pad S128x128 ![0, 0] ![112, 120] ![0, 0]
    (shapeCast S16x8 (extractStridedSlice S1x16x8 ![0, 0, 0] (transpose S4x2064x8 [0, 2, 1] C transposes_S4x8x2064_S4x2064x8_0_2_1)
      slices_S4x2064x8_S1x16x8_0_0_0) shapeCasts_S1x16x8_S16x8)
    (sitofp (F := Ideal) .f32 (constantI S_ 32 0#32)) pads_S16x8_S128x128_01120_01200 h_S_)
    (broadcastInDim S128x128 ![] bcast_S_S128x128 (Host.sqrt (constant S_ .f32 0x43000000#32)))

theorem root128 : Ideal.sqrt (Ideal.ofBits .f32 1124073472#32) = ((√128 : ℝ) : EReal) := by
  have e : Ideal.ofBits .f32 1124073472#32 = ((128 : ℝ) : EReal) := by
    simp [Ideal.ofBits, Ideal.ieee]; rw [← EReal.coe_mul]; norm_num
  rw [e]; simp

theorem zero_int (φ : FTy) : (FloatOps.sitofp (F := Ideal) φ 0#32 : EReal) = ((0 : ℝ) : EReal) := by
  show (((0#32 : BitVec 32).toInt : ℝ) : EReal) = _
  simp

theorem padded_at (C : FVec Ideal S4x8x2064 .f32) (cr : Fin 4 → Fin 8 → Fin 2064 → ℝ) (hC : ∀ b h n, C (ix3 b h n) = (cr b h n : EReal))
    (b : Fin 4) (t : Fin 2048) (l : Fin 128) :
    padded C (ix2 (⟨2048 * b + t, by omega⟩ : Fin 8192) l)
      = ((if h : (l : ℕ) < 8 then cr b ⟨l, h⟩ ⟨16 + t, by omega⟩ * √128 else 0 : ℝ) : EReal) := by
  pointwise [padded]
  rw [root128, zero_int]
  by_cases hl : (l : ℕ) < 8
  · rw [dif_pos ⟨by omega, hl⟩, dif_pos hl, hC, ← EReal.coe_mul]
  · rw [dif_neg (fun h => hl h.2), dif_neg hl, ← EReal.coe_mul, zero_mul]

theorem paddedm_at (C : FVec Ideal S4x8x2064 .f32) (cr : Fin 4 → Fin 8 → Fin 2064 → ℝ) (hC : ∀ b h n, C (ix3 b h n) = (cr b h n : EReal))
    (k : Fin 128) (l : Fin 128) :
    paddedm C (ix2 k l)
      = ((if h : (l : ℕ) < 8 ∧ (k : ℕ) < 16 then cr 0 ⟨l, h.1⟩ ⟨k, by omega⟩ * √128 else 0 : ℝ) : EReal) := by
  pointwise [paddedm]
  rw [root128, zero_int]
  by_cases hl : (l : ℕ) < 8 ∧ (k : ℕ) < 16
  · rw [dif_pos hl.symm, dif_pos hl, hC, ← EReal.coe_mul]
  · rw [dif_neg (fun h => hl h.symm), dif_neg hl, ← EReal.coe_mul, zero_mul]

/-- The meta keys, padded with rows of zeros. -/
def padKm (X : FVec Ideal S16x1024 .bf16) : FVec Ideal S128x1024 .bf16 :=
  pad S128x1024 ![0, 0] ![112, 0] ![0, 0] X (sitofp (F := Ideal) .bf16 (constantI S_ 32 0#32)) pads_S16x1024_S128x1024_01120_000 h_S_

theorem padKm_at (X : FVec Ideal S16x1024 .bf16) (k : Fin 128) (hk : (k : ℕ) < 16) (d : Fin 1024) :
    padKm X (ix2 k d) = X (ix2 (⟨k, hk⟩ : Fin 16) d) := by
  pointwise [padKm]
  rw [dif_pos hk]
end Cert.KV
end
-- ==== Proof.Tile.lean ====
module

public import proofs.«01_k».proof.Proof.Gen.KernelIdeal.Skeleton
public import Idealize.ShloMosaic.Lib.Pipeline.ValueKit
public import Idealize.ShloMosaic.Lib.WordCmp
public import proofs.«01_k».proof.Proof.Row

/-! One tile of 512 query rows: the kernel's operations under names of their own, and what each computes from real scores. -/

@[expose] public section
set_option maxRecDepth 16384
noncomputable section
namespace Cert.Attn
open Idealize.ShloMosaic Idealize.ShloMosaic.TcCoe Idealize.SL.Sem
open Cert.KernelIdeal Cert.KernelIdeal.Gen

/-- The exponents' scale in base 2. -/
def csc : ℝ := (Real.log 2)⁻¹ * (Real.sqrt 128)⁻¹

/-- 1 over the root of the head size. -/
def rs : ℝ := (Real.sqrt 128)⁻¹

theorem csc_pos : 0 < csc := mul_pos (inv_pos.2 (Real.log_pos (by norm_num))) (inv_pos.2 (Real.sqrt_pos.2 (by norm_num)))

theorem negInf : Ideal.ofBits .f32 0xFF800000#32 = (⊥ : EReal) := by
  first | rfl | simp [Ideal.ofBits, Ideal.ieee]

theorem csc_named : Named.named (F := Ideal) Cert.KernelIdeal.κ "exp2_scale" (φ := .f32) 0x3E0293EE#32 = (csc : EReal) := rfl

theorem two_rpow_csc (x : ℝ) : Real.rpow 2 (csc * x) = Real.exp (x * rs) := by
  change (2 : ℝ) ^ (csc * x) = _
  rw [Real.rpow_def_of_pos (by norm_num)]
  have h : Real.log 2 ≠ 0 := (Real.log_pos (by norm_num)).ne'
  congr 1
  unfold csc rs
  field_simp

theorem exp2_real (s μ : ℝ) : Ideal.exp2 ((csc : EReal) * ((s : EReal) - (μ : EReal)))
    = ((Real.exp (s * rs) * Real.exp (-(μ * rs)) : ℝ) : EReal) := by
  rw [← EReal.coe_sub, ← EReal.coe_mul, Ideal.exp2_coe, two_rpow_csc, ← Real.exp_add]
  congr 2
  ring

theorem exp2_masked (μ : ℝ) : Ideal.exp2 ((csc : EReal) * ((⊥ : EReal) - (μ : EReal))) = 0 := by
  rw [EReal.bot_sub, EReal.coe_mul_bot_of_pos csc_pos, Ideal.exp2_bot]

/-! ## The operations -/

/-- The meta columns' scores, the padding masked. -/
def rawM (q : FVec Ideal S512x256 .bf16) (km : FVec Ideal S128x256 .bf16) : FVec Ideal S512x128 .f32 :=
  select (broadcastTo S512x128 (shapeCast S1x128 (cmpi .slt (iota .tc S1x128 32 [1] iota_S1x128_d1_w32) (broadcast S1x128 16#32))
      shapeCasts_S1x128_S1x128) broadcasts_S1x128_S512x128)
    (matmul (F := Ideal) dot_S512x256_S128x256_S512x128_1_1_0_0_n_n none q km (constant S512x128 .f32 0x00000000#32))
    (broadcast S512x128 (Scalar.ofBits (F := Ideal) .f32 0xFF800000#32))

/-- A whole block's scores. -/
def rawF (q k : FVec Ideal S512x256 .bf16) : FVec Ideal S512x512 .f32 :=
  matmul (F := Ideal) dot_S512x256_S512x256_S512x512_1_1_0_0_n_n none q k (constant S512x512 .f32 0x00000000#32)

/-- The diagonal block's scores, upper half of the rows. -/
def rawT (q : FVec Ideal S512x256 .bf16) (k : FVec Ideal S256x256 .bf16) : FVec Ideal S256x256 .f32 :=
  select (cmpi .sle (iota .tc S256x256 32 [1] iota_S256x256_d1_w32) (iota .tc S256x256 32 [0] iota_S256x256_d0_w32))
    (matmul (F := Ideal) dot_S256x256_S256x256_S256x256_1_1_0_0_n_n none (extractStridedSlice S256x256 ![0, 0] q slices_S512x256_o0_0_S256x256) k
      (constant S256x256 .f32 0x00000000#32))
    (broadcast S256x256 (Scalar.ofBits (F := Ideal) .f32 0xFF800000#32))

/-- The diagonal block's scores, lower half of the rows. -/
def rawB (q k : FVec Ideal S512x256 .bf16) : FVec Ideal S256x512 .f32 :=
  select (cmpi .sle (iota .tc S256x512 32 [1] iota_S256x512_d1_w32) (addi (iota .tc S256x512 32 [0] iota_S256x512_d0_w32) (broadcast S256x512 256#32)))
    (matmul (F := Ideal) dot_S256x256_S512x256_S256x512_1_1_0_0_n_n none (extractStridedSlice S256x256 ![256, 0] q slices_S512x256_o256_0_S256x256) k
      (constant S256x512 .f32 0x00000000#32))
    (broadcast S256x512 (Scalar.ofBits (F := Ideal) .f32 0xFF800000#32))

def topM (x : FVec Ideal S512x128 .f32) : FVec Ideal S256x128 .f32 := extractStridedSlice S256x128 ![0, 0] x slices_S512x128_o0_0_S256x128
def botM (x : FVec Ideal S512x128 .f32) : FVec Ideal S256x128 .f32 := extractStridedSlice S256x128 ![256, 0] x slices_S512x128_o256_0_S256x128
def topF (x : FVec Ideal S512x512 .f32) : FVec Ideal S256x512 .f32 := extractStridedSlice S256x512 ![0, 0] x slices_S512x512_o0_0_S256x512
def botF (x : FVec Ideal S512x512 .f32) : FVec Ideal S256x512 .f32 := extractStridedSlice S256x512 ![256, 0] x slices_S512x512_o256_0_S256x512

def mxM (x : FVec Ideal S256x128 .f32) : FVec Ideal S256x1 .f32 :=
  shapeCast S256x1 (multiReduction .maximumf [1] S256 x 0xFF800000#32 reduces_S256x128_S256 (.inl rfl) rfl) shapeCasts_S256_S256x1
def mxT (x : FVec Ideal S256x256 .f32) : FVec Ideal S256x1 .f32 :=
  shapeCast S256x1 (multiReduction .maximumf [1] S256 x 0xFF800000#32 reduces_S256x256_S256 (.inl rfl) rfl) shapeCasts_S256_S256x1
def mxF (x : FVec Ideal S256x512 .f32) : FVec Ideal S256x1 .f32 :=
  shapeCast S256x1 (multiReduction .maximumf [1] S256 x 0xFF800000#32 reduces_S256x512_S256 (.inl rfl) rfl) shapeCasts_S256_S256x1

def exM (x : FVec Ideal S256x128 .f32) (M : FVec Ideal S256x1 .f32) : FVec Ideal S256x128 .f32 :=
  exp2 (mulf (broadcast S256x128 (Named.named (F := Ideal) Cert.KernelIdeal.κ "exp2_scale" (φ := .f32) 0x3E0293EE#32))
    (subf x (broadcastTo S256x128 M broadcasts_S256x1_S256x128)))
def exT (x : FVec Ideal S256x256 .f32) (M : FVec Ideal S256x1 .f32) : FVec Ideal S256x256 .f32 :=
  exp2 (mulf (broadcast S256x256 (Named.named (F := Ideal) Cert.KernelIdeal.κ "exp2_scale" (φ := .f32) 0x3E0293EE#32))
    (subf x (broadcastTo S256x256 M broadcasts_S256x1_S256x256)))
def exF (x : FVec Ideal S256x512 .f32) (M : FVec Ideal S256x1 .f32) : FVec Ideal S256x512 .f32 :=
  exp2 (mulf (broadcast S256x512 (Named.named (F := Ideal) Cert.KernelIdeal.κ "exp2_scale" (φ := .f32) 0x3E0293EE#32))
    (subf x (broadcastTo S256x512 M broadcasts_S256x1_S256x512)))

/-- The meta columns' weights, both halves. -/
def pM (x : FVec Ideal S512x128 .f32) (Mt Mb : FVec Ideal S256x1 .f32) : FVec Ideal S512x128 .f32 :=
  concatenate S512x128 0 [⟨S256x128, exM (topM x) Mt⟩, ⟨S256x128, exM (botM x) Mb⟩] concatenates_S256x128_S256x128_S512x128_d0
/-- A whole block's weights, both halves. -/
def pF (x : FVec Ideal S512x512 .f32) (Mt Mb : FVec Ideal S256x1 .f32) : FVec Ideal S512x512 .f32 :=
  concatenate S512x512 0 [⟨S256x512, exF (topF x) Mt⟩, ⟨S256x512, exF (botF x) Mb⟩] concatenates_S256x512_S256x512_S512x512_d0

/-- The weighted sum over the meta columns. -/
def acc0 (p : FVec Ideal S512x128 .f32) (v : FVec Ideal S128x256 .bf16) : FVec Ideal S512x256 .f32 :=
  matmul (F := Ideal) dot_S512x128_S128x256_S512x256_1_0_0_1_n_n none (truncf (F := Ideal) .bf16 p bitsLt_bf16_f32) v (constant S512x256 .f32 0x00000000#32)
/-- A whole block's weighted sum added. -/
def accF (acc : FVec Ideal S512x256 .f32) (p : FVec Ideal S512x512 .f32) (v : FVec Ideal S512x256 .bf16) : FVec Ideal S512x256 .f32 :=
  addf acc (matmul (F := Ideal) dot_S512x512_S512x256_S512x256_1_0_0_1_n_n none (truncf (F := Ideal) .bf16 p bitsLt_bf16_f32) v (constant S512x256 .f32 0x00000000#32))
/-- The diagonal block's weighted sums added. -/
def accD (acc : FVec Ideal S512x256 .f32) (pt : FVec Ideal S256x256 .f32) (pb : FVec Ideal S256x512 .f32)
    (vt : FVec Ideal S256x256 .bf16) (vb : FVec Ideal S512x256 .bf16) : FVec Ideal S512x256 .f32 :=
  addf acc (concatenate S512x256 0 [
    ⟨S256x256, matmul (F := Ideal) dot_S256x256_S256x256_S256x256_1_0_0_1_n_n none (truncf (F := Ideal) .bf16 pt bitsLt_bf16_f32) vt (constant S256x256 .f32 0x00000000#32)⟩,
    ⟨S256x256, matmul (F := Ideal) dot_S256x512_S512x256_S256x256_1_0_0_1_n_n none (truncf (F := Ideal) .bf16 pb bitsLt_bf16_f32) vb (constant S256x256 .f32 0x00000000#32)⟩]
    concatenates_S256x256_S256x256_S512x256_d0)
/-- The quotient of the two halves of the lanes. -/
def fin (acc : FVec Ideal S512x256 .f32) : FVec Ideal S512x128 .bf16 :=
  truncf (F := Ideal) .bf16 (divf (extractStridedSlice S512x128 ![0, 0] acc slices_S512x256_o0_0_S512x128)
    (extractStridedSlice S512x128 ![0, 128] acc slices_S512x256_o0_128_S512x128)) bitsLt_bf16_f32

/-! ## The scores -/

/-- Row `r` of the upper half, and of the lower half, among the 512. -/
def up (r : Fin 256) : Fin 512 := ⟨r, by omega⟩
def low (r : Fin 256) : Fin 512 := ⟨256 + r, by omega⟩

variable (S : Fin 512 → ℕ → ℝ)

theorem rawM_at (q : FVec Ideal S512x256 .bf16) (km : FVec Ideal S128x256 .bf16)
    (h : ∀ (r : Fin 512) (k : Fin 128), (k : ℕ) < 16 → ∑ l : Fin 256, q (ix2 r l) * km (ix2 k l) = (S r k : EReal)) (r : Fin 512) (k : Fin 128) :
    rawM q km (ix2 r k) = if (k : ℕ) < 16 then (S r k : EReal) else ⊥ := by
  pointwise [rawM]
  rw [WordCmp.cmpi_slt_ofNat (by omega) (by norm_num), WordCmp.select_ofBool, negInf]
  by_cases hk : (k : ℕ) < 16
  · rw [if_pos hk, if_pos (by simpa using hk), h r k hk]
  · rw [if_neg hk, if_neg (by simpa using hk)]

theorem rawF_at (a : ℕ) (q k : FVec Ideal S512x256 .bf16)
    (h : ∀ (r n : Fin 512), ∑ l : Fin 256, q (ix2 r l) * k (ix2 n l) = (S r (a + n) : EReal)) (r n : Fin 512) :
    rawF q k (ix2 r n) = (S r (a + n) : EReal) := by
  pointwise [rawF]
  exact h r n

theorem rawT_at (a : ℕ) (q : FVec Ideal S512x256 .bf16) (k : FVec Ideal S256x256 .bf16)
    (h : ∀ (r : Fin 512) (n : Fin 256), ∑ l : Fin 256, q (ix2 r l) * k (ix2 n l) = (S r (a + n) : EReal)) (r n : Fin 256) :
    rawT q k (ix2 r n) = if (n : ℕ) ≤ r then (S (up r) (a + n) : EReal) else ⊥ := by
  pointwise [rawT]
  rw [WordCmp.cmpi_sle_ofNat (by omega) (by omega), WordCmp.select_ofBool, negInf]
  by_cases hk : (n : ℕ) ≤ r
  · rw [if_pos hk, if_pos (by simpa using hk)]
    exact h (up r) n
  · rw [if_neg hk, if_neg (by simpa using hk)]

theorem rawB_at (a : ℕ) (q k : FVec Ideal S512x256 .bf16)
    (h : ∀ (r n : Fin 512), ∑ l : Fin 256, q (ix2 r l) * k (ix2 n l) = (S r (a + n) : EReal)) (r : Fin 256) (n : Fin 512) :
    rawB q k (ix2 r n) = if (n : ℕ) ≤ 256 + r then (S (low r) (a + n) : EReal) else ⊥ := by
  pointwise [rawB]
  rw [show IntOp.addi (BitVec.ofNat 32 (r : ℕ)) 256#32 = BitVec.ofNat 32 (256 + r) from by
    rw [Nat.add_comm]; exact (BitVec.ofNat_add ..).symm]
  rw [WordCmp.cmpi_sle_ofNat (by omega) (by omega), WordCmp.select_ofBool, negInf]
  by_cases hk : (n : ℕ) ≤ 256 + r
  · rw [if_pos hk, if_pos (by simpa using hk)]
    exact h (low r) n
  · rw [if_neg hk, if_neg (by simpa using hk)]

theorem mxM_at (x : FVec Ideal S256x128 .f32) (r : Fin 256) : mxM x (ix2 r 0) = Finset.univ.fold max ⊥ fun k : Fin 128 => x (ix2 r k) := by
  pointwise [mxM]
  rw [negInf]
theorem mxT_at (x : FVec Ideal S256x256 .f32) (r : Fin 256) : mxT x (ix2 r 0) = Finset.univ.fold max ⊥ fun k : Fin 256 => x (ix2 r k) := by
  pointwise [mxT]
  rw [negInf]
theorem mxF_at (x : FVec Ideal S256x512 .f32) (r : Fin 256) : mxF x (ix2 r 0) = Finset.univ.fold max ⊥ fun k : Fin 512 => x (ix2 r k) := by
  pointwise [mxF]
  rw [negInf]

theorem exM_at (x : FVec Ideal S256x128 .f32) (M : FVec Ideal S256x1 .f32) (r : Fin 256) (k : Fin 128) :
    exM x M (ix2 r k) = Ideal.exp2 ((csc : EReal) * (x (ix2 r k) - M (ix2 r 0))) := by
  pointwise [exM]
  rw [csc_named]; rfl
theorem exT_at (x : FVec Ideal S256x256 .f32) (M : FVec Ideal S256x1 .f32) (r : Fin 256) (k : Fin 256) :
    exT x M (ix2 r k) = Ideal.exp2 ((csc : EReal) * (x (ix2 r k) - M (ix2 r 0))) := by
  pointwise [exT]
  rw [csc_named]; rfl
theorem exF_at (x : FVec Ideal S256x512 .f32) (M : FVec Ideal S256x1 .f32) (r : Fin 256) (k : Fin 512) :
    exF x M (ix2 r k) = Ideal.exp2 ((csc : EReal) * (x (ix2 r k) - M (ix2 r 0))) := by
  pointwise [exF]
  rw [csc_named]; rfl

theorem topM_at (x : FVec Ideal S512x128 .f32) (r : Fin 256) (k : Fin 128) : topM x (ix2 r k) = x (ix2 (up r) k) := by
  pointwise [topM]
  rfl
theorem botM_at (x : FVec Ideal S512x128 .f32) (r : Fin 256) (k : Fin 128) : botM x (ix2 r k) = x (ix2 (low r) k) := by
  pointwise [botM]
  rfl
theorem topF_at (x : FVec Ideal S512x512 .f32) (r : Fin 256) (k : Fin 512) : topF x (ix2 r k) = x (ix2 (up r) k) := by
  pointwise [topF]
  rfl
theorem botF_at (x : FVec Ideal S512x512 .f32) (r : Fin 256) (k : Fin 512) : botF x (ix2 r k) = x (ix2 (low r) k) := by
  pointwise [botF]
  rfl

theorem pM_at (x : FVec Ideal S512x128 .f32) (Mt Mb : FVec Ideal S256x1 .f32) (r : Fin 512) (k : Fin 128) :
    pM x Mt Mb (ix2 r k) = Ideal.exp2 ((csc : EReal) * (x (ix2 r k) - if h : (r : ℕ) < 256 then Mt (ix2 ⟨r, h⟩ 0) else Mb (ix2 ⟨r - 256, by omega⟩ 0))) := by
  pointwise [pM]
  by_cases h : (r : ℕ) < 256
  · simp only [dif_pos h, exM_at, topM_at]; rfl
  · simp only [dif_neg h, exM_at, botM_at]
    have e : low ⟨(r : ℕ) - 256, by omega⟩ = r := Fin.ext (by simp only [low]; omega)
    rw [e]
theorem pF_at (x : FVec Ideal S512x512 .f32) (Mt Mb : FVec Ideal S256x1 .f32) (r : Fin 512) (k : Fin 512) :
    pF x Mt Mb (ix2 r k) = Ideal.exp2 ((csc : EReal) * (x (ix2 r k) - if h : (r : ℕ) < 256 then Mt (ix2 ⟨r, h⟩ 0) else Mb (ix2 ⟨r - 256, by omega⟩ 0))) := by
  pointwise [pF]
  by_cases h : (r : ℕ) < 256
  · simp only [dif_pos h, exF_at, topF_at]; rfl
  · simp only [dif_neg h, exF_at, botF_at]
    have e : low ⟨(r : ℕ) - 256, by omega⟩ = r := Fin.ext (by simp only [low]; omega)
    rw [e]
theorem acc0_at (p : FVec Ideal S512x128 .f32) (v : FVec Ideal S128x256 .bf16) (r : Fin 512) (l : Fin 256) :
    acc0 p v (ix2 r l) = ∑ k : Fin 128, p (ix2 r k) * v (ix2 k l) := by
  pointwise [acc0]
theorem accF_at (acc : FVec Ideal S512x256 .f32) (p : FVec Ideal S512x512 .f32) (v : FVec Ideal S512x256 .bf16) (r : Fin 512) (l : Fin 256) :
    accF acc p v (ix2 r l) = acc (ix2 r l) + ∑ k : Fin 512, p (ix2 r k) * v (ix2 k l) := by
  pointwise [accF]
theorem accD_at (acc : FVec Ideal S512x256 .f32) (pt : FVec Ideal S256x256 .f32) (pb : FVec Ideal S256x512 .f32)
    (vt : FVec Ideal S256x256 .bf16) (vb : FVec Ideal S512x256 .bf16) (r : Fin 512) (l : Fin 256) :
    accD acc pt pb vt vb (ix2 r l) = acc (ix2 r l) + if h : (r : ℕ) < 256 then ∑ k : Fin 256, pt (ix2 ⟨r, h⟩ k) * vt (ix2 k l)
      else ∑ k : Fin 512, pb (ix2 ⟨r - 256, by omega⟩ k) * vb (ix2 k l) := by
  pointwise [accD]
theorem fin_at (acc : FVec Ideal S512x256 .f32) (r : Fin 512) (d : Fin 128) :
    fin acc (ix2 r d) = Ideal.div (acc (ix2 r ⟨d, by omega⟩)) (acc (ix2 r ⟨128 + d, by omega⟩)) := by
  pointwise [fin]

/-! ## Real row maxima -/

/-- A column of reals. -/
def Col (M : FVec Ideal S256x1 .f32) : Prop := ∀ r : Fin 256, ∃ x : ℝ, M (ix2 r 0) = (x : EReal)
/-- A block of reals. -/
def Full (f : FVec Ideal S256x512 .f32) : Prop := ∀ (r : Fin 256) (k : Fin 512), ∃ x : ℝ, f (ix2 r k) = (x : EReal)

theorem max_real (a b : ℝ) : ∃ x : ℝ, max (a : EReal) (b : EReal) = (x : EReal) := by
  rcases max_choice (a : EReal) (b : EReal) with h | h <;> rw [h] <;> exact ⟨_, rfl⟩

theorem fold_masked {n : ℕ} (f : Fin n → EReal) (p : Fin n → Prop) [DecidablePred p] (s : Fin n → ℝ)
    (h : ∀ k, f k = if p k then (s k : EReal) else ⊥) (k₀ : Fin n) (hk : p k₀) : ∃ M : ℝ, Finset.univ.fold max (⊥ : EReal) f = (M : EReal) := by
  refine fold_max_real f (fun k => ?_) k₀ ?_
  · rw [h]; split
    · exact EReal.coe_ne_top _
    · exact bot_ne_top
  · rw [h, if_pos hk]; exact EReal.coe_ne_bot _

theorem col_max {A B : FVec Ideal S256x1 .f32} (hA : Col A) (hB : Col B) : Col (maximumf A B) := fun r => by
  obtain ⟨a, ha⟩ := hA r
  obtain ⟨b, hb⟩ := hB r
  obtain ⟨x, hx⟩ := max_real a b
  refine ⟨x, ?_⟩
  pointwise
  rw [ha, hb, hx]

theorem full_max {A B : FVec Ideal S256x512 .f32} (hA : Full A) (hB : Full B) : Full (maximumf A B) := fun r k => by
  obtain ⟨a, ha⟩ := hA r k
  obtain ⟨b, hb⟩ := hB r k
  obtain ⟨x, hx⟩ := max_real a b
  refine ⟨x, ?_⟩
  pointwise
  rw [ha, hb, hx]

theorem col_full {f : FVec Ideal S256x512 .f32} (hf : Full f) : Col (mxF f) := fun r => by
  choose s hs using hf r
  rw [mxF_at]
  exact fold_masked _ (fun _ => True) s (fun k => by rw [if_pos trivial, hs]) 0 trivial

/-- What the meta columns' scores, a whole block's, and the diagonal block's halves read. -/
def HM (m : FVec Ideal S512x128 .f32) : Prop := ∀ (r : Fin 512) (k : Fin 128), m (ix2 r k) = if (k : ℕ) < 16 then (S r k : EReal) else ⊥
def HF (a : ℕ) (f : FVec Ideal S512x512 .f32) : Prop := ∀ r n : Fin 512, f (ix2 r n) = (S r (a + n) : EReal)
def HT (a : ℕ) (t : FVec Ideal S256x256 .f32) : Prop := ∀ r n : Fin 256, t (ix2 r n) = if (n : ℕ) ≤ r then (S (up r) (a + n) : EReal) else ⊥
def HB (a : ℕ) (b : FVec Ideal S256x512 .f32) : Prop := ∀ (r : Fin 256) (n : Fin 512), b (ix2 r n) = if (n : ℕ) ≤ 256 + r then (S (low r) (a + n) : EReal) else ⊥

variable {S}

theorem col_topM {m : FVec Ideal S512x128 .f32} (h : HM S m) : Col (mxM (topM m)) := fun r => by
  rw [mxM_at]
  exact fold_masked _ (fun k : Fin 128 => (k : ℕ) < 16) (fun k => S (up r) k) (fun k => by rw [topM_at, h]) 0 (by norm_num)
theorem col_botM {m : FVec Ideal S512x128 .f32} (h : HM S m) : Col (mxM (botM m)) := fun r => by
  rw [mxM_at]
  exact fold_masked _ (fun k : Fin 128 => (k : ℕ) < 16) (fun k => S (low r) k) (fun k => by rw [botM_at, h]) 0 (by norm_num)
theorem col_T {a : ℕ} {t : FVec Ideal S256x256 .f32} (h : HT S a t) : Col (mxT t) := fun r => by
  rw [mxT_at]
  exact fold_masked _ (fun k : Fin 256 => (k : ℕ) ≤ r) (fun k => S (up r) (a + k)) (fun k => by rw [h]) 0 (Nat.zero_le _)
theorem col_B {a : ℕ} {b : FVec Ideal S256x512 .f32} (h : HB S a b) : Col (mxF b) := fun r => by
  rw [mxF_at]
  exact fold_masked _ (fun k : Fin 512 => (k : ℕ) ≤ 256 + r) (fun k => S (low r) (a + k)) (fun k => by rw [h]) 0 (Nat.zero_le _)
theorem full_top {a : ℕ} {f : FVec Ideal S512x512 .f32} (h : HF S a f) : Full (topF f) := fun r k => ⟨_, by rw [topF_at, h]⟩
theorem full_bot {a : ℕ} {f : FVec Ideal S512x512 .f32} (h : HF S a f) : Full (botF f) := fun r k => ⟨_, by rw [botF_at, h]⟩

/-! ## The weights -/

/-- The factor all weights of row `r` share: what the row maximum contributes. -/
def Kf (Mt Mb : FVec Ideal S256x1 .f32) (r : Fin 512) : ℝ :=
  Real.exp (-((if h : (r : ℕ) < 256 then Mt (ix2 ⟨r, h⟩ 0) else Mb (ix2 ⟨r - 256, by omega⟩ 0)).toReal * rs))

theorem Kf_up (Mt Mb : FVec Ideal S256x1 .f32) (r : Fin 256) : Kf Mt Mb (up r) = Real.exp (-((Mt (ix2 r 0)).toReal * rs)) := by
  have h : ((up r : Fin 512) : ℕ) < 256 := r.isLt
  unfold Kf
  rw [dif_pos h]
  rfl
theorem Kf_low (Mt Mb : FVec Ideal S256x1 .f32) (r : Fin 256) : Kf Mt Mb (low r) = Real.exp (-((Mb (ix2 r 0)).toReal * rs)) := by
  have h : ¬ ((low r : Fin 512) : ℕ) < 256 := by simp only [low]; omega
  unfold Kf
  rw [dif_neg h]
  have e : (⟨((low r : Fin 512) : ℕ) - 256, by simp only [low]; omega⟩ : Fin 256) = r := Fin.ext (by simp only [low]; omega)
  rw [e]

/-- The weight of column `i` in row `r`. -/
def wt (S : Fin 512 → ℕ → ℝ) (Mt Mb : FVec Ideal S256x1 .f32) (r : Fin 512) (i : ℕ) : EReal := ((Real.exp (S r i * rs) * Kf Mt Mb r : ℝ) : EReal)

theorem masked_exp (p : Prop) [Decidable p] (s : ℝ) (M : EReal) (hM : ∃ x : ℝ, M = (x : EReal)) :
    Ideal.exp2 ((csc : EReal) * ((if p then (s : EReal) else ⊥) - M)) = if p then ((Real.exp (s * rs) * Real.exp (-(M.toReal * rs)) : ℝ) : EReal) else 0 := by
  obtain ⟨x, rfl⟩ := hM
  split
  · rw [exp2_real, EReal.toReal_coe]
  · rw [exp2_masked]

variable {Mt Mb : FVec Ideal S256x1 .f32}

theorem cols_real (ht : Col Mt) (hb : Col Mb) (r : Fin 512) :
    ∃ x : ℝ, (if h : (r : ℕ) < 256 then Mt (ix2 ⟨r, h⟩ 0) else Mb (ix2 ⟨r - 256, by omega⟩ 0)) = (x : EReal) := by
  split
  · exact ht _
  · exact hb _

theorem pM_wt {m : FVec Ideal S512x128 .f32} (h : HM S m) (ht : Col Mt) (hb : Col Mb) (r : Fin 512) (k : Fin 128) :
    pM m Mt Mb (ix2 r k) = if (k : ℕ) < 16 then wt S Mt Mb r k else 0 := by
  rw [pM_at, h, masked_exp _ _ _ (cols_real ht hb r)]
  rfl
theorem pF_wt {a : ℕ} {f : FVec Ideal S512x512 .f32} (h : HF S a f) (ht : Col Mt) (hb : Col Mb) (r k : Fin 512) :
    pF f Mt Mb (ix2 r k) = wt S Mt Mb r (a + k) := by
  have := masked_exp True (S r (a + k)) _ (cols_real ht hb r)
  rw [if_pos trivial, if_pos trivial] at this
  rw [pF_at, h, this]
  rfl
theorem exT_wt {a : ℕ} {t : FVec Ideal S256x256 .f32} (h : HT S a t) (ht : Col Mt) (r k : Fin 256) :
    exT t Mt (ix2 r k) = if (k : ℕ) ≤ r then wt S Mt Mb (up r) (a + k) else 0 := by
  rw [exT_at, h, masked_exp _ _ _ (ht r), ← Kf_up Mt Mb]
  rfl
theorem exB_wt {a : ℕ} {b : FVec Ideal S256x512 .f32} (h : HB S a b) (hb : Col Mb) (r : Fin 256) (k : Fin 512) :
    exF b Mb (ix2 r k) = if (k : ℕ) ≤ 256 + r then wt S Mt Mb (low r) (a + k) else 0 := by
  rw [exF_at, h, masked_exp _ _ _ (hb r), ← Kf_low Mt Mb]
  rfl

/-! ## The weighted sums -/

variable {W : ℕ → Fin 256 → EReal}

/-- `acc` holds each row's weighted sum over the first `n` columns. -/
def Acc (S : Fin 512 → ℕ → ℝ) (Mt Mb : FVec Ideal S256x1 .f32) (W : ℕ → Fin 256 → EReal) (n : ℕ) (acc : FVec Ideal S512x256 .f32) : Prop :=
  ∀ (r : Fin 512) (l : Fin 256), acc (ix2 r l) = ∑ i ∈ Finset.range n, wt S Mt Mb r i * W i l

theorem range_add (g : ℕ → EReal) (a n : ℕ) : ∑ i ∈ Finset.range a, g i + ∑ i ∈ Finset.Ico a (a + n), g i = ∑ i ∈ Finset.range (a + n), g i := by
  rw [Finset.range_eq_Ico, Finset.range_eq_Ico, Finset.sum_Ico_consecutive _ (Nat.zero_le _) (Nat.le_add_right _ _)]

theorem acc_meta {m : FVec Ideal S512x128 .f32} (h : HM S m) (ht : Col Mt) (hb : Col Mb) {v : FVec Ideal S128x256 .bf16}
    (hv : ∀ (k : Fin 128) (l : Fin 256), (k : ℕ) < 16 → v (ix2 k l) = W k l) : Acc S Mt Mb W 16 (acc0 (pM m Mt Mb) v) := fun r l => by
  rw [acc0_at, sum_block 0 16 (by norm_num) _ (fun i => wt S Mt Mb r i * W i l), Nat.zero_add, Finset.range_eq_Ico]
  · intro k hk
    rw [pM_wt h ht hb, if_pos hk, hv k l hk, Nat.zero_add]
  · intro k hk
    rw [pM_wt h ht hb, if_neg (Nat.not_lt.2 hk), zero_mul]

theorem acc_full {a : ℕ} {f : FVec Ideal S512x512 .f32} (h : HF S a f) (ht : Col Mt) (hb : Col Mb) {v : FVec Ideal S512x256 .bf16}
    (hv : ∀ (k : Fin 512) (l : Fin 256), v (ix2 k l) = W (a + k) l) {acc : FVec Ideal S512x256 .f32} (hacc : Acc S Mt Mb W a acc) :
    Acc S Mt Mb W (a + 512) (accF acc (pF f Mt Mb) v) := fun r l => by
  rw [accF_at, hacc, ← range_add]
  congr 1
  refine sum_block a 512 le_rfl _ (fun i => wt S Mt Mb r i * W i l) (fun k _ => ?_) (fun k hk => absurd k.isLt (Nat.not_lt.2 hk))
  rw [pF_wt h ht hb, hv]

theorem acc_diag {a : ℕ} {t : FVec Ideal S256x256 .f32} {b : FVec Ideal S256x512 .f32} (hT : HT S a t) (hB : HB S a b) (ht : Col Mt) (hb : Col Mb)
    {vt : FVec Ideal S256x256 .bf16} {vb : FVec Ideal S512x256 .bf16} (hvt : ∀ (k : Fin 256) (l : Fin 256), vt (ix2 k l) = W (a + k) l)
    (hvb : ∀ (k : Fin 512) (l : Fin 256), vb (ix2 k l) = W (a + k) l) {acc : FVec Ideal S512x256 .f32} (hacc : Acc S Mt Mb W a acc)
    (r : Fin 512) (l : Fin 256) :
    accD acc (exT t Mt) (exF b Mb) vt vb (ix2 r l) = ∑ i ∈ Finset.range (a + (r + 1)), wt S Mt Mb r i * W i l := by
  rw [accD_at, hacc, ← range_add]
  congr 1
  split
  · next h =>
    refine sum_block a (r + 1) (by omega) _ (fun i => wt S Mt Mb r i * W i l) (fun k hk => ?_) (fun k hk => ?_)
    · rw [exT_wt (Mb := Mb) hT ht, if_pos (by simp only; omega), hvt]; rfl
    · rw [exT_wt (Mb := Mb) hT ht, if_neg (by simp only; omega), zero_mul]
  · next h =>
    have e : low ⟨(r : ℕ) - 256, by omega⟩ = r := Fin.ext (by simp only [low]; omega)
    refine sum_block a (r + 1) (by omega) _ (fun i => wt S Mt Mb r i * W i l) (fun k hk => ?_) (fun k hk => ?_)
    · rw [exB_wt (Mt := Mt) hB hb, if_pos (by simp only; omega), hvb, e]
    · rw [exB_wt (Mt := Mt) hB hb, if_neg (by simp only; omega), zero_mul]

theorem fin_row {a : ℕ} {acc : FVec Ideal S512x256 .f32} (r : Fin 512) (d : Fin 128)
    (hacc : ∀ l : Fin 256, acc (ix2 r l) = ∑ i ∈ Finset.range (a + (r + 1)), wt S Mt Mb r i * W i l)
    (hW : ∀ i, W i ⟨128 + d, by omega⟩ = 1) :
    fin acc (ix2 r d) = rowOut (a + (r + 1)) (fun i => S r i * rs) (fun i => W i ⟨d, by omega⟩) := by
  rw [fin_at, hacc, hacc]
  simp only [hW, mul_one]
  exact div_eq_rowOut (by omega) (fun i => S r i * rs) (fun i => W i ⟨d, by omega⟩) (Real.exp_pos _)
end Cert.Attn
end
-- ==== Proof.Compose.lean ====
module

public import proofs.«01_k».proof.Proof.Tile

/-! The four tiles of query rows of one grid point: what each stores, as the weighted mean of the values. -/

@[expose] public section
set_option maxRecDepth 16384
noncomputable section
namespace Cert.Attn
open Idealize.ShloMosaic Idealize.ShloMosaic.TcCoe Idealize.SL.Sem
open Cert.KernelIdeal Cert.KernelIdeal.Gen

/-! ## A tile from its scores -/

/-- The tile of the first 512 rows: the meta columns and the diagonal block. -/
def core0 (m : FVec Ideal S512x128 .f32) (t : FVec Ideal S256x256 .f32) (b : FVec Ideal S256x512 .f32)
    (vm : FVec Ideal S128x256 .bf16) (vt : FVec Ideal S256x256 .bf16) (vb : FVec Ideal S512x256 .bf16) (Mt Mb : FVec Ideal S256x1 .f32) : FVec Ideal S512x128 .bf16 :=
  fin (accD (acc0 (pM m Mt Mb) vm) (exT t Mt) (exF b Mb) vt vb)
/-- The tile with one whole block in front of the diagonal. -/
def core1 (m : FVec Ideal S512x128 .f32) (f0 : FVec Ideal S512x512 .f32) (t : FVec Ideal S256x256 .f32) (b : FVec Ideal S256x512 .f32)
    (vm : FVec Ideal S128x256 .bf16) (v0 : FVec Ideal S512x256 .bf16) (vt : FVec Ideal S256x256 .bf16) (vb : FVec Ideal S512x256 .bf16) (Mt Mb : FVec Ideal S256x1 .f32) : FVec Ideal S512x128 .bf16 :=
  fin (accD (accF (acc0 (pM m Mt Mb) vm) (pF f0 Mt Mb) v0) (exT t Mt) (exF b Mb) vt vb)
/-- The tile with two whole blocks in front of the diagonal. -/
def core2 (m : FVec Ideal S512x128 .f32) (f0 f1 : FVec Ideal S512x512 .f32) (t : FVec Ideal S256x256 .f32) (b : FVec Ideal S256x512 .f32)
    (vm : FVec Ideal S128x256 .bf16) (v0 v1 : FVec Ideal S512x256 .bf16) (vt : FVec Ideal S256x256 .bf16) (vb : FVec Ideal S512x256 .bf16) (Mt Mb : FVec Ideal S256x1 .f32) : FVec Ideal S512x128 .bf16 :=
  fin (accD (accF (accF (acc0 (pM m Mt Mb) vm) (pF f0 Mt Mb) v0) (pF f1 Mt Mb) v1) (exT t Mt) (exF b Mb) vt vb)
/-- The tile with three whole blocks in front of the diagonal. -/
def core3 (m : FVec Ideal S512x128 .f32) (f0 f1 f2 : FVec Ideal S512x512 .f32) (t : FVec Ideal S256x256 .f32) (b : FVec Ideal S256x512 .f32)
    (vm : FVec Ideal S128x256 .bf16) (v0 v1 v2 : FVec Ideal S512x256 .bf16) (vt : FVec Ideal S256x256 .bf16) (vb : FVec Ideal S512x256 .bf16) (Mt Mb : FVec Ideal S256x1 .f32) : FVec Ideal S512x128 .bf16 :=
  fin (accD (accF (accF (accF (acc0 (pM m Mt Mb) vm) (pF f0 Mt Mb) v0) (pF f1 Mt Mb) v1) (pF f2 Mt Mb) v2) (exT t Mt) (exF b Mb) vt vb)

section
variable {S : Fin 512 → ℕ → ℝ} {W : ℕ → Fin 256 → EReal} {m : FVec Ideal S512x128 .f32} {t : FVec Ideal S256x256 .f32} {b : FVec Ideal S256x512 .f32}
  {f0 f1 f2 : FVec Ideal S512x512 .f32} {vm : FVec Ideal S128x256 .bf16} {v0 v1 v2 vb : FVec Ideal S512x256 .bf16} {vt : FVec Ideal S256x256 .bf16}
  {Mt Mb : FVec Ideal S256x1 .f32}

theorem core0_at (ht : Col Mt) (hb : Col Mb) (hm : HM S m) (hT : HT S 16 t) (hB : HB S 16 b)
    (hvm : ∀ (k : Fin 128) (l : Fin 256), (k : ℕ) < 16 → vm (ix2 k l) = W k l)
    (hvt : ∀ (k : Fin 256) (l : Fin 256), vt (ix2 k l) = W (16 + k) l)
    (hvb : ∀ (k : Fin 512) (l : Fin 256), vb (ix2 k l) = W (16 + k) l) (r : Fin 512) (d : Fin 128) (hW : ∀ i, W i ⟨128 + d, by omega⟩ = 1) :
    core0 m t b vm vt vb Mt Mb (ix2 r d) = rowOut (16 + (r + 1)) (fun i => S r i * rs) (fun i => W i ⟨d, by omega⟩) :=
  fin_row r d (fun l => acc_diag hT hB ht hb hvt hvb (acc_meta hm ht hb hvm) r l) hW

theorem core1_at (ht : Col Mt) (hb : Col Mb) (hm : HM S m) (hf0 : HF S 16 f0) (hT : HT S 528 t) (hB : HB S 528 b)
    (hvm : ∀ (k : Fin 128) (l : Fin 256), (k : ℕ) < 16 → vm (ix2 k l) = W k l)
    (hv0 : ∀ (k : Fin 512) (l : Fin 256), v0 (ix2 k l) = W (16 + k) l)
    (hvt : ∀ (k : Fin 256) (l : Fin 256), vt (ix2 k l) = W (528 + k) l)
    (hvb : ∀ (k : Fin 512) (l : Fin 256), vb (ix2 k l) = W (528 + k) l) (r : Fin 512) (d : Fin 128) (hW : ∀ i, W i ⟨128 + d, by omega⟩ = 1) :
    core1 m f0 t b vm v0 vt vb Mt Mb (ix2 r d) = rowOut (528 + (r + 1)) (fun i => S r i * rs) (fun i => W i ⟨d, by omega⟩) :=
  fin_row r d (fun l => acc_diag hT hB ht hb hvt hvb (acc_full hf0 ht hb hv0 (acc_meta hm ht hb hvm)) r l) hW

theorem core2_at (ht : Col Mt) (hb : Col Mb) (hm : HM S m) (hf0 : HF S 16 f0) (hf1 : HF S 528 f1) (hT : HT S 1040 t) (hB : HB S 1040 b)
    (hvm : ∀ (k : Fin 128) (l : Fin 256), (k : ℕ) < 16 → vm (ix2 k l) = W k l)
    (hv0 : ∀ (k : Fin 512) (l : Fin 256), v0 (ix2 k l) = W (16 + k) l)
    (hv1 : ∀ (k : Fin 512) (l : Fin 256), v1 (ix2 k l) = W (528 + k) l)
    (hvt : ∀ (k : Fin 256) (l : Fin 256), vt (ix2 k l) = W (1040 + k) l)
    (hvb : ∀ (k : Fin 512) (l : Fin 256), vb (ix2 k l) = W (1040 + k) l) (r : Fin 512) (d : Fin 128) (hW : ∀ i, W i ⟨128 + d, by omega⟩ = 1) :
    core2 m f0 f1 t b vm v0 v1 vt vb Mt Mb (ix2 r d) = rowOut (1040 + (r + 1)) (fun i => S r i * rs) (fun i => W i ⟨d, by omega⟩) :=
  fin_row r d (fun l => acc_diag hT hB ht hb hvt hvb (acc_full hf1 ht hb hv1 (acc_full hf0 ht hb hv0 (acc_meta hm ht hb hvm))) r l) hW

theorem core3_at (ht : Col Mt) (hb : Col Mb) (hm : HM S m) (hf0 : HF S 16 f0) (hf1 : HF S 528 f1) (hf2 : HF S 1040 f2) (hT : HT S 1552 t) (hB : HB S 1552 b)
    (hvm : ∀ (k : Fin 128) (l : Fin 256), (k : ℕ) < 16 → vm (ix2 k l) = W k l)
    (hv0 : ∀ (k : Fin 512) (l : Fin 256), v0 (ix2 k l) = W (16 + k) l)
    (hv1 : ∀ (k : Fin 512) (l : Fin 256), v1 (ix2 k l) = W (528 + k) l)
    (hv2 : ∀ (k : Fin 512) (l : Fin 256), v2 (ix2 k l) = W (1040 + k) l)
    (hvt : ∀ (k : Fin 256) (l : Fin 256), vt (ix2 k l) = W (1552 + k) l)
    (hvb : ∀ (k : Fin 512) (l : Fin 256), vb (ix2 k l) = W (1552 + k) l) (r : Fin 512) (d : Fin 128) (hW : ∀ i, W i ⟨128 + d, by omega⟩ = 1) :
    core3 m f0 f1 f2 t b vm v0 v1 v2 vt vb Mt Mb (ix2 r d) = rowOut (1552 + (r + 1)) (fun i => S r i * rs) (fun i => W i ⟨d, by omega⟩) :=
  fin_row r d (fun l => acc_diag hT hB ht hb hvt hvb (acc_full hf2 ht hb hv2 (acc_full hf1 ht hb hv1 (acc_full hf0 ht hb hv0 (acc_meta hm ht hb hvm)))) r l) hW
end

/-! ## A tile from the arrays of all rows -/

/-- `x` holds the 512 rows, and the 256 rows, of `y` from row `o` on. -/
def Rows512 (o : ℕ) (x : FVec Ideal S512x256 .bf16) (y : FVec Ideal S2048x256 .bf16) : Prop :=
  ∀ (r : Fin 512) (l : Fin 256) (t : Fin 2048), (t : ℕ) = o + r → x (ix2 r l) = y (ix2 t l)
def Rows256 (o : ℕ) (x : FVec Ideal S256x256 .bf16) (y : FVec Ideal S2048x256 .bf16) : Prop :=
  ∀ (r : Fin 256) (l : Fin 256) (t : Fin 2048), (t : ℕ) = o + r → x (ix2 r l) = y (ix2 t l)

/-- An array of all rows read through a rectangle of 512 rows, and of 256. -/
theorem at512 {f : S2048x256.Idx → EReal} {y : FVec Ideal S2048x256 .bf16} (hf : ∀ z, f z = y z) (o : ℕ) (h) :
    Rows512 o (fun j => f ((Rect.unit (s := S2048x256) ![o, 0] ![512, 256] h).idx j)) y := fun r l t ht => by
  refine (hf _).trans (congrArg y ?_)
  funext a
  fin_cases a <;> exact Fin.ext (by simp [ht])
theorem at256 {f : S2048x256.Idx → EReal} {y : FVec Ideal S2048x256 .bf16} (hf : ∀ z, f z = y z) (o : ℕ) (h) :
    Rows256 o (fun j => f ((Rect.unit (s := S2048x256) ![o, 0] ![256, 256] h).idx j)) y := fun r l t ht => by
  refine (hf _).trans (congrArg y ?_)
  funext a
  fin_cases a <;> exact Fin.ext (by simp [ht])

/-- The widened arrays of one batch entry and head: their products are the scores `S`, their values the rows `W`. -/
structure Data (S : Fin 2048 → ℕ → ℝ) (W : ℕ → Fin 256 → EReal) (qa ka va : FVec Ideal S2048x256 .bf16) (km vm : FVec Ideal S128x256 .bf16) : Prop where
  dot : ∀ t n : Fin 2048, ∑ l : Fin 256, qa (ix2 t l) * ka (ix2 n l) = (S t (16 + n) : EReal)
  dotm : ∀ (t : Fin 2048) (k : Fin 128), (k : ℕ) < 16 → ∑ l : Fin 256, qa (ix2 t l) * km (ix2 k l) = (S t k : EReal)
  val : ∀ (n : Fin 2048) (l : Fin 256), va (ix2 n l) = W (16 + n) l
  valm : ∀ (k : Fin 128) (l : Fin 256), (k : ℕ) < 16 → vm (ix2 k l) = W k l
  one : ∀ (i : ℕ) (d : Fin 128), W i ⟨128 + d, by omega⟩ = 1

section
variable {S : Fin 2048 → ℕ → ℝ} {W : ℕ → Fin 256 → EReal} {qa ka va : FVec Ideal S2048x256 .bf16} {km vm : FVec Ideal S128x256 .bf16}

/-- The scores of the 512 rows from row `o` on. -/
def off (o : ℕ) (ho : o + 512 ≤ 2048) (S : Fin 2048 → ℕ → ℝ) : Fin 512 → ℕ → ℝ := fun r i => S ⟨o + r, by omega⟩ i

theorem Data.m (D : Data S W qa ka va km vm) (o : ℕ) (ho : o + 512 ≤ 2048) {q : FVec Ideal S512x256 .bf16} (hq : Rows512 o q qa) : HM (off o ho S) (rawM q km) :=
  rawM_at _ _ _ fun r k hk => by
    rw [← show _ = ((off o ho S r k : ℝ) : EReal) from D.dotm ⟨o + r, by omega⟩ k hk]
    exact Finset.sum_congr rfl fun l _ => by rw [hq r l ⟨o + r, by omega⟩ rfl]
theorem Data.f (D : Data S W qa ka va km vm) (o : ℕ) (ho : o + 512 ≤ 2048) (p : ℕ) (hp : p + 512 ≤ 2048) {q k : FVec Ideal S512x256 .bf16}
    (hq : Rows512 o q qa) (hk : Rows512 p k ka) : HF (off o ho S) (16 + p) (rawF q k) :=
  rawF_at _ _ _ _ fun r n => by
    rw [Nat.add_assoc, ← show _ = ((off o ho S r (16 + (p + n)) : ℝ) : EReal) from D.dot ⟨o + r, by omega⟩ ⟨p + n, by omega⟩]
    exact Finset.sum_congr rfl fun l _ => by rw [hq r l ⟨o + r, by omega⟩ rfl, hk n l ⟨p + n, by omega⟩ rfl]
theorem Data.t (D : Data S W qa ka va km vm) (o : ℕ) (ho : o + 512 ≤ 2048) {q : FVec Ideal S512x256 .bf16} {k : FVec Ideal S256x256 .bf16}
    (hq : Rows512 o q qa) (hk : Rows256 o k ka) : HT (off o ho S) (16 + o) (rawT q k) :=
  rawT_at _ _ _ _ fun r n => by
    rw [Nat.add_assoc, ← show _ = ((off o ho S r (16 + (o + n)) : ℝ) : EReal) from D.dot ⟨o + r, by omega⟩ ⟨o + n, by omega⟩]
    exact Finset.sum_congr rfl fun l _ => by rw [hq r l ⟨o + r, by omega⟩ rfl, hk n l ⟨o + n, by omega⟩ rfl]
theorem Data.b (D : Data S W qa ka va km vm) (o : ℕ) (ho : o + 512 ≤ 2048) {q k : FVec Ideal S512x256 .bf16}
    (hq : Rows512 o q qa) (hk : Rows512 o k ka) : HB (off o ho S) (16 + o) (rawB q k) :=
  rawB_at _ _ _ _ fun r n => by
    rw [Nat.add_assoc, ← show _ = ((off o ho S r (16 + (o + n)) : ℝ) : EReal) from D.dot ⟨o + r, by omega⟩ ⟨o + n, by omega⟩]
    exact Finset.sum_congr rfl fun l _ => by rw [hq r l ⟨o + r, by omega⟩ rfl, hk n l ⟨o + n, by omega⟩ rfl]
theorem Data.v (D : Data S W qa ka va km vm) (p : ℕ) (hp : p + 512 ≤ 2048) {v : FVec Ideal S512x256 .bf16} (hv : Rows512 p v va) (k : Fin 512) (l : Fin 256) :
    v (ix2 k l) = W (16 + p + k) l := by
  rw [hv k l ⟨p + k, by omega⟩ rfl, D.val, Nat.add_assoc]
theorem Data.vt (D : Data S W qa ka va km vm) (p : ℕ) (hp : p + 512 ≤ 2048) {v : FVec Ideal S256x256 .bf16} (hv : Rows256 p v va) (k : Fin 256) (l : Fin 256) :
    v (ix2 k l) = W (16 + p + k) l := by
  rw [hv k l ⟨p + k, by omega⟩ rfl, D.val, Nat.add_assoc]

variable {q k0 k1 k2 k3 v0 v1 v2 v3 : FVec Ideal S512x256 .bf16} {kt vt : FVec Ideal S256x256 .bf16}

/-- Rows 0 … 511. -/
theorem tile0_at (D : Data S W qa ka va km vm) (hq : Rows512 0 q qa) (hk0 : Rows512 0 k0 ka) (hkt : Rows256 0 kt ka)
    (hv0 : Rows512 0 v0 va) (hvt : Rows256 0 vt va) (r : Fin 512) (d : Fin 128) :
    core0 (rawM q km) (rawT q kt) (rawB q k0)
      vm vt v0
      (maximumf (mxM (topM (rawM q km))) (mxT (rawT q kt)))
      (maximumf (mxM (botM (rawM q km))) (mxF (rawB q k0))) (ix2 r d)
    = rowOut (16 + (r + 1)) (fun i => S ⟨0 + r, by omega⟩ i * rs) (fun i => W i ⟨d, by omega⟩) :=
  have M := D.m 0 (by omega) hq
  have T := D.t 0 (by omega) hq hkt
  have B := D.b 0 (by omega) hq hk0
  core0_at (S := off 0 (by omega) S) (col_max (col_topM M) (col_T T))
    (col_max (col_botM M) (col_B B)) M  T B D.valm
    (D.vt 0 (by omega) hvt) (D.v 0 (by omega) hv0) r d (fun i => D.one i d)

/-- Rows 512 … 1023. -/
theorem tile1_at (D : Data S W qa ka va km vm) (hq : Rows512 512 q qa) (hk0 : Rows512 0 k0 ka) (hk1 : Rows512 512 k1 ka) (hkt : Rows256 512 kt ka)
    (hv0 : Rows512 0 v0 va) (hv1 : Rows512 512 v1 va) (hvt : Rows256 512 vt va) (r : Fin 512) (d : Fin 128) :
    core1 (rawM q km) (rawF q k0) (rawT q kt) (rawB q k1)
      vm v0 vt v1
      (maximumf (maximumf (mxM (topM (rawM q km))) (mxT (rawT q kt))) (mxF (topF (rawF q k0))))
      (maximumf (maximumf (mxM (botM (rawM q km))) (mxF (rawB q k1))) (mxF (botF (rawF q k0)))) (ix2 r d)
    = rowOut (528 + (r + 1)) (fun i => S ⟨512 + r, by omega⟩ i * rs) (fun i => W i ⟨d, by omega⟩) :=
  have M := D.m 512 (by omega) hq
  have F0 := D.f 512 (by omega) 0 (by omega) hq hk0
  have T := D.t 512 (by omega) hq hkt
  have B := D.b 512 (by omega) hq hk1
  core1_at (S := off 512 (by omega) S) (col_max (col_max (col_topM M) (col_T T)) (col_full (full_top F0)))
    (col_max (col_max (col_botM M) (col_B B)) (col_full (full_bot F0))) M F0 T B D.valm (D.v 0 (by omega) hv0)
    (D.vt 512 (by omega) hvt) (D.v 512 (by omega) hv1) r d (fun i => D.one i d)

/-- Rows 1024 … 1535. -/
theorem tile2_at (D : Data S W qa ka va km vm) (hq : Rows512 1024 q qa) (hk0 : Rows512 0 k0 ka) (hk1 : Rows512 512 k1 ka) (hk2 : Rows512 1024 k2 ka) (hkt : Rows256 1024 kt ka)
    (hv0 : Rows512 0 v0 va) (hv1 : Rows512 512 v1 va) (hv2 : Rows512 1024 v2 va) (hvt : Rows256 1024 vt va) (r : Fin 512) (d : Fin 128) :
    core2 (rawM q km) (rawF q k0) (rawF q k1) (rawT q kt) (rawB q k2)
      vm v0 v1 vt v2
      (maximumf (maximumf (mxM (topM (rawM q km))) (mxT (rawT q kt))) (mxF (maximumf (topF (rawF q k0)) (topF (rawF q k1)))))
      (maximumf (maximumf (mxM (botM (rawM q km))) (mxF (rawB q k2))) (mxF (maximumf (botF (rawF q k0)) (botF (rawF q k1))))) (ix2 r d)
    = rowOut (1040 + (r + 1)) (fun i => S ⟨1024 + r, by omega⟩ i * rs) (fun i => W i ⟨d, by omega⟩) :=
  have M := D.m 1024 (by omega) hq
  have F0 := D.f 1024 (by omega) 0 (by omega) hq hk0
  have F1 := D.f 1024 (by omega) 512 (by omega) hq hk1
  have T := D.t 1024 (by omega) hq hkt
  have B := D.b 1024 (by omega) hq hk2
  core2_at (S := off 1024 (by omega) S) (col_max (col_max (col_topM M) (col_T T)) (col_full (full_max (full_top F0) (full_top F1))))
    (col_max (col_max (col_botM M) (col_B B)) (col_full (full_max (full_bot F0) (full_bot F1)))) M F0 F1 T B D.valm (D.v 0 (by omega) hv0) (D.v 512 (by omega) hv1)
    (D.vt 1024 (by omega) hvt) (D.v 1024 (by omega) hv2) r d (fun i => D.one i d)

/-- Rows 1536 … 2047. -/
theorem tile3_at (D : Data S W qa ka va km vm) (hq : Rows512 1536 q qa) (hk0 : Rows512 0 k0 ka) (hk1 : Rows512 512 k1 ka) (hk2 : Rows512 1024 k2 ka) (hk3 : Rows512 1536 k3 ka) (hkt : Rows256 1536 kt ka)
    (hv0 : Rows512 0 v0 va) (hv1 : Rows512 512 v1 va) (hv2 : Rows512 1024 v2 va) (hv3 : Rows512 1536 v3 va) (hvt : Rows256 1536 vt va) (r : Fin 512) (d : Fin 128) :
    core3 (rawM q km) (rawF q k0) (rawF q k1) (rawF q k2) (rawT q kt) (rawB q k3)
      vm v0 v1 v2 vt v3
      (maximumf (maximumf (mxM (topM (rawM q km))) (mxT (rawT q kt))) (mxF (maximumf (maximumf (topF (rawF q k0)) (topF (rawF q k1))) (topF (rawF q k2)))))
      (maximumf (maximumf (mxM (botM (rawM q km))) (mxF (rawB q k3))) (mxF (maximumf (maximumf (botF (rawF q k0)) (botF (rawF q k1))) (botF (rawF q k2))))) (ix2 r d)
    = rowOut (1552 + (r + 1)) (fun i => S ⟨1536 + r, by omega⟩ i * rs) (fun i => W i ⟨d, by omega⟩) :=
  have M := D.m 1536 (by omega) hq
  have F0 := D.f 1536 (by omega) 0 (by omega) hq hk0
  have F1 := D.f 1536 (by omega) 512 (by omega) hq hk1
  have F2 := D.f 1536 (by omega) 1024 (by omega) hq hk2
  have T := D.t 1536 (by omega) hq hkt
  have B := D.b 1536 (by omega) hq hk3
  core3_at (S := off 1536 (by omega) S) (col_max (col_max (col_topM M) (col_T T)) (col_full (full_max (full_max (full_top F0) (full_top F1)) (full_top F2))))
    (col_max (col_max (col_botM M) (col_B B)) (col_full (full_max (full_max (full_bot F0) (full_bot F1)) (full_bot F2)))) M F0 F1 F2 T B D.valm (D.v 0 (by omega) hv0) (D.v 512 (by omega) hv1) (D.v 1024 (by omega) hv2)
    (D.vt 1536 (by omega) hvt) (D.v 1536 (by omega) hv3) r d (fun i => D.one i d)

/-- The data of arrays equal entry by entry. -/
theorem Data.of_eq {qa' ka' va' : FVec Ideal S2048x256 .bf16} {km' vm' : FVec Ideal S128x256 .bf16} (D : Data S W qa ka va km vm)
    (hq : ∀ y, qa' y = qa y) (hk : ∀ y, ka' y = ka y) (hv : ∀ y, va' y = va y) (hkm : ∀ y, km' y = km y) (hvm : ∀ y, vm' y = vm y) :
    Data S W qa' ka' va' km' vm' := by
  obtain rfl : qa' = qa := funext hq
  obtain rfl : ka' = ka := funext hk
  obtain rfl : va' = va := funext hv
  obtain rfl : km' = km := funext hkm
  obtain rfl : vm' = vm := funext hvm
  exact D
end
/-- What the output holds at token row `t` and lane `d`. -/
def rowAt (S : Fin 2048 → ℕ → ℝ) (W : ℕ → Fin 256 → EReal) (t : Fin 2048) (d : Fin 128) : EReal :=
  rowOut (16 + (t + 1)) (fun i => S t i * rs) (fun i => W i ⟨d, by omega⟩)

theorem rowAt_of (S : Fin 2048 → ℕ → ℝ) (W : ℕ → Fin 256 → EReal) {n : ℕ} {t t' : Fin 2048} {d d' : Fin 128} (hn : n = 16 + (t + 1))
    (ht : (t : ℕ) = t') (hd : (d : ℕ) = d') : rowOut n (fun i => S t' i * rs) (fun i => W i ⟨d', by omega⟩) = rowAt S W t d := by
  obtain rfl : t = t' := Fin.ext ht
  obtain rfl : d = d' := Fin.ext hd
  rw [hn]; rfl

/-- Two arrays of 128 lanes side by side. -/
def join (g f : FVec Ideal S2048x128 .bf16) : FVec Ideal S2048x256 .bf16 := fun z =>
  if h : (z 1 : ℕ) < 128 then g (ix2 (z 0) ⟨z 1, h⟩) else f (ix2 (z 0) ⟨z 1 - 128, by have : (z 1 : ℕ) < 256 := (z 1).isLt; omega⟩)

theorem join_lo (g f : FVec Ideal S2048x128 .bf16) {z : S2048x256.Idx} {x : S2048x128.Idx} (h0 : (z 0 : ℕ) = x 0) (h1 : (z 1 : ℕ) = x 1) : g x = join g f z := by
  have hx : (x 1 : ℕ) < 128 := (x 1).isLt
  unfold join
  rw [dif_pos (by omega)]
  congr 1
  funext a
  fin_cases a <;> exact Fin.ext (by simp [h0, h1])
theorem join_hi (g f : FVec Ideal S2048x128 .bf16) {z : S2048x256.Idx} {x : S2048x128.Idx} (h0 : (z 0 : ℕ) = x 0) (h1 : (z 1 : ℕ) = 128 + x 1) : f x = join g f z := by
  unfold join
  rw [dif_neg (by omega)]
  congr 1
  funext a
  fin_cases a <;> exact Fin.ext (by simp [h0, h1])
theorem join_at (g f : FVec Ideal S2048x128 .bf16) (t : Fin 2048) (l : Fin 256) :
    join g f (ix2 t l) = if h : (l : ℕ) < 128 then g (ix2 t ⟨l, h⟩) else f (ix2 t ⟨l - 128, by omega⟩) := rfl
end Cert.Attn
end
-- ==== Proof.Stack.lean ====
module

public import proofs.«01_k».proof.Proof.Cum
public import proofs.«01_k».proof.Proof.Compose
public import Idealize.ShloMosaic.Lib.Pipeline.ValueKit

/-! The scores and the values of one head over the real numbers, and the attention's result over them. -/

@[expose] public section
set_option maxRecDepth 16384
noncomputable section
namespace Cert.RefAttn
open Idealize.ShloMosaic Idealize.SL.Sem
open Cert.ReferenceIdeal Cert.ReferenceIdeal.Gen Cert.Attn

/-- The row of a token in the arrays of all batches, and the column of an array of all heads. -/
def row (b : Fin 4) (t : Fin 2048) : Fin 8192 := ⟨2048 * b + t, by omega⟩
def col (h : Fin 8) (d : Fin 128) : Fin 1024 := ⟨128 * h + d, by omega⟩

theorem stack_tok (K : FVec Ideal S8192x1024 .bf16) (Km : FVec Ideal S16x1024 .bf16) (b : Fin 4) (n : Fin 2048) (h : Fin 8) (d : Fin 128) :
    stack K Km (ix4 b (⟨16 + n, by omega⟩ : Fin 2064) h d) = K (ix2 (row b n) (col h d)) := by
  unfold row col
  pointwise [stack]
  simp only [Nat.mul_comm]

theorem stack_meta (K : FVec Ideal S8192x1024 .bf16) (Km : FVec Ideal S16x1024 .bf16) (b : Fin 4) (n : Fin 2064) (hn : (n : ℕ) < 16) (h : Fin 8) (d : Fin 128) :
    stack K Km (ix4 b n h d) = Km (ix2 (⟨n, hn⟩ : Fin 16) (col h d)) := by
  unfold col
  pointwise [stack]
  rw [dif_pos hn]
  simp only [Nat.mul_comm]

/-- Every element is a real number. -/
def Real' {S : Shape} {φ : FTy} (X : FVec Ideal S φ) : Prop := ∀ z, ∃ y : ℝ, X z = (y : EReal)

theorem Real'.coe {S : Shape} {φ : FTy} {X : FVec Ideal S φ} (h : Real' X) (z : S.Idx) : X z = (((X z : EReal).toReal : ℝ) : EReal) := by
  obtain ⟨y, hy⟩ := h z
  rw [hy, EReal.toReal_coe]

section
variable (Q K : FVec Ideal S8192x1024 .bf16) (Km : FVec Ideal S16x1024 .bf16) (lf : FVec Ideal S4x8x2048 .f32) (lfm : FVec Ideal S8x16 .f32)

/-- A running sum of log gates, as a real number. -/
def cr (b : Fin 4) (h : Fin 8) (n : Fin 2064) : ℝ := (cum lf lfm (ix3 b h n) : EReal).toReal

/-- A query against a key, as a real number. -/
def qk (b : Fin 4) (h : Fin 8) (t : Fin 2048) (i : Fin 2064) : ℝ :=
  ∑ d : Fin 128, (Q (ix2 (row b t) (col h d)) : EReal).toReal * (stack K Km (ix4 b i h d) : EReal).toReal

/-- The scores of a head, times the root of the head size. -/
def sc (b : Fin 4) (h : Fin 8) (t : Fin 2048) (i : ℕ) : ℝ :=
  if hi : i < 2064 then qk Q K Km b h t ⟨i, hi⟩ + √128 * (cr lf lfm b h ⟨16 + t, by omega⟩ - cr lf lfm b h ⟨i, hi⟩) else 0

/-- The values of a head, and lanes of ones behind them. -/
def vals (V : FVec Ideal S8192x1024 .bf16) (Vm : FVec Ideal S16x1024 .bf16) (b : Fin 4) (h : Fin 8) (i : ℕ) (l : Fin 256) : EReal :=
  if hi : i < 2064 ∧ (l : ℕ) < 128 then stack V Vm (ix4 b (⟨i, hi.1⟩ : Fin 2064) h (⟨l, hi.2⟩ : Fin 128)) else 1

/-- The attention's result. -/
def att (V : FVec Ideal S8192x1024 .bf16) (Vm : FVec Ideal S16x1024 .bf16) : FVec Ideal S8192x1024 .bf16 := fun z =>
  let r : Fin 8192 := z 0
  let k : Fin 1024 := z 1
  rowAt (sc Q K Km lf lfm ⟨r / 2048, by omega⟩ ⟨k / 128, by omega⟩) (vals V Vm ⟨r / 2048, by omega⟩ ⟨k / 128, by omega⟩)
    ⟨r % 2048, by omega⟩ ⟨k % 128, by omega⟩

theorem att_at (V : FVec Ideal S8192x1024 .bf16) (Vm : FVec Ideal S16x1024 .bf16) (b : Fin 4) (h : Fin 8) (t : Fin 2048) (d : Fin 128) :
    att Q K Km lf lfm V Vm (ix2 (row b t) (col h d)) = rowAt (sc Q K Km lf lfm b h) (vals V Vm b h) t d := by
  have e1 : (⟨(row b t : ℕ) / 2048, by omega⟩ : Fin 4) = b := Fin.ext (by simp only [row]; omega)
  have e2 : (⟨(col h d : ℕ) / 128, by omega⟩ : Fin 8) = h := Fin.ext (by simp only [col]; omega)
  have e3 : (⟨(row b t : ℕ) % 2048, by omega⟩ : Fin 2048) = t := Fin.ext (by simp only [row]; omega)
  have e4 : (⟨(col h d : ℕ) % 128, by omega⟩ : Fin 128) = d := Fin.ext (by simp only [col]; omega)
  show rowAt (sc Q K Km lf lfm ⟨(row b t : ℕ) / 2048, _⟩ ⟨(col h d : ℕ) / 128, _⟩) (vals V Vm ⟨(row b t : ℕ) / 2048, _⟩ ⟨(col h d : ℕ) / 128, _⟩)
    ⟨(row b t : ℕ) % 2048, _⟩ ⟨(col h d : ℕ) % 128, _⟩ = _
  rw [e1, e2, e3, e4]
end
end Cert.RefAttn
end
-- ==== Proof.RefValue.lean ====
module

public import proofs.«01_k».proof.Proof.Aug
public import proofs.«01_k».proof.Proof.Stack
public import Idealize.ShloMosaic.Lib.WordCmp
public import Idealize.ShloMosaic.Lib.Pipeline.ValueKit

/-! The reference's result over the real numbers. -/

@[expose] public section
set_option maxRecDepth 16384
noncomputable section
namespace Cert.RefAttn
open Idealize.ShloMosaic Idealize.SL.Sem
open Cert.ReferenceIdeal Cert.ReferenceIdeal.Gen Cert.Attn

/-- The score of a query against a key. -/
theorem score_at (Q : FVec Ideal S8192x1024 .bf16) (KK : FVec Ideal S4x2064x8x128 .f32) (C : FVec Ideal S4x8x2064 .f32)
    (b : Fin 4) (h : Fin 8) (t : Fin 2048) (n : Fin 2064) :
    score Q KK C (ix4 b h t n) = (∑ d : Fin 128, Q (ix2 (row b t) (col h d)) * KK (ix4 b n h d)) * ((rs : ℝ) : EReal)
      + (C (ix3 b h ⟨16 + t, by omega⟩) - C (ix3 b h n)) := by
  pointwise [score, scale]
  have e : Ideal.div 1 (Ideal.sqrt (Ideal.ofBits FTy.f32 1124073472#32)) = ((rs : ℝ) : EReal) := by
    rw [Cert.KV.root128, Ideal.div_coe (by positivity), one_mul, one_div, rs]
  rw [e]
  unfold row col
  simp only [Nat.mul_comm]

/-- The mask keeps the keys up to the query's own. -/
theorem masked_at (S : FVec Ideal S4x8x2048x2064 .f32) (b : Fin 4) (h : Fin 8) (t : Fin 2048) (n : Fin 2064) :
    masked S (ix4 b h t n) = if (n : ℕ) ≤ 16 + t then S (ix4 b h t n) else (⊥ : EReal) := by
  pointwise [masked]
  have e : IntOp.addi (16#32) (BitVec.ofNat 32 (t : ℕ)) = BitVec.ofNat 32 (16 + t) := by
    show 16#32 + BitVec.ofNat 32 (t : ℕ) = _
    rw [BitVec.ofNat_add]
  rw [e, WordCmp.cmpi_sge_ofNat (by omega) (by omega), WordCmp.select_decide, negInf]

theorem expo_at (S : FVec Ideal S4x8x2048x2064 .f32) (b : Fin 4) (h : Fin 8) (t : Fin 2048) (n : Fin 2064) :
    expo S (ix4 b h t n) = Ideal.exp (S (ix4 b h t n) - rowMax S (ix3 b h t)) := by
  pointwise [expo]

theorem weights_at (E : FVec Ideal S4x8x2048x2064 .f32) (b : Fin 4) (h : Fin 8) (t : Fin 2048) (n : Fin 2064) :
    weights E (ix4 b h t n) = Ideal.div (E (ix4 b h t n)) (∑ j, E (ix4 b h t j)) := by
  pointwise [weights]

theorem out_at (VV : FVec Ideal S4x2064x8x128 .f32) (W : FVec Ideal S4x8x2048x2064 .f32) (b : Fin 4) (h : Fin 8) (t : Fin 2048) (d : Fin 128) :
    out VV W (ix2 (row b t) (col h d)) = ∑ n, VV (ix4 b n h d) * W (ix4 b h t n) := by
  pointwise [out]
  have e1 : (⟨(row b t : ℕ) / 2048, by omega⟩ : Fin 4) = b := Fin.ext (by simp only [row]; omega)
  have e2 : (⟨(col h d : ℕ) / 128, by omega⟩ : Fin 8) = h := Fin.ext (by simp only [col]; omega)
  have e3 : (⟨(row b t : ℕ) % 2048, by omega⟩ : Fin 2048) = t := Fin.ext (by simp only [row]; omega)
  have e4 : (⟨(col h d : ℕ) % 128, by omega⟩ : Fin 128) = d := Fin.ext (by simp only [col]; omega)
  simp only [e1, e2, e3, e4]

/-- The row maximum takes out the last axis. -/
theorem hRed : Shape.Reduces S4x8x2048x2064 [3] S4x8x2048 := by decide
theorem hlift (b : Fin 4) (h : Fin 8) (t : Fin 2048) (k : Fin 2064) : hRed.lift (ix3 b h t) k = ix4 b h t k := by
  funext a
  refine Fin.ext ?_
  refine (hRed.lift_val (ix3 b h t) k a).trans ?_
  fin_cases a <;> rfl
theorem rowMax_fold (S : FVec Ideal S4x8x2048x2064 .f32) (j : S4x8x2048.Idx) :
    Host.reduce (FloatOps.maximumf (F := Ideal) (φ := .f32)) S (constant S_ .f32 0xFF800000#32) reducesTo_S4x8x2048x2064_S4x8x2048_d3 h_S_ j
     = Finset.univ.fold (FloatOps.maximumf (F := Ideal) (φ := .f32)) (constant (F := Ideal) S_ .f32 0xFF800000#32 (Shape.Idx.first h_S_)) (S ∘ hRed.lift j) :=
  Host.reduce_eq_fold_single (FloatOps.maximumf (F := Ideal) (φ := .f32)) S (constant S_ .f32 0xFF800000#32) reducesTo_S4x8x2048x2064_S4x8x2048_d3 hRed h_S_ j
theorem max_apply {s : Shape} (x y : FVec Ideal s .f32) (j : s.Idx) : maximumf x y j = max (x j : EReal) (y j) := rfl
theorem splat_apply {s t : Shape} {f : Fin s.rank → Fin t.rank} (h : s.BroadcastsInDim t f) (w : BitVec 32) (j : t.Idx) :
    broadcastInDim t f h (constant (F := Ideal) s .f32 w) j = Ideal.ofBits .f32 w := rfl
theorem rowMax_apply (S : FVec Ideal S4x8x2048x2064 .f32) (j : S4x8x2048.Idx) :
    rowMax S j = max (Ideal.ofBits .f32 0xFF800000#32) (Host.reduce (FloatOps.maximumf (F := Ideal) (φ := .f32)) S (constant S_ .f32 0xFF800000#32) reducesTo_S4x8x2048x2064_S4x8x2048_d3 h_S_ j) := by
  unfold rowMax
  rw [max_apply, splat_apply]
/-- A row's maximum is a real number when no score of it is +∞ and one of them is not -∞. -/
theorem rowMax_real (S : FVec Ideal S4x8x2048x2064 .f32) (b : Fin 4) (h : Fin 8) (t : Fin 2048) (ht : ∀ n, S (ix4 b h t n) ≠ (⊤ : EReal))
    (n₀ : Fin 2064) (hb : S (ix4 b h t n₀) ≠ (⊥ : EReal)) : ∃ M : ℝ, rowMax S (ix3 b h t) = (M : EReal) := by
  obtain ⟨M, hM⟩ := fold_max_real (fun k : Fin 2064 => (S (ix4 b h t k) : EReal)) ht n₀ hb
  refine ⟨M, ?_⟩
  rw [rowMax_apply, rowMax_fold]
  have e : (S ∘ hRed.lift (ix3 b h t)) = (fun k : Fin 2064 => (S (ix4 b h t k) : EReal)) := funext fun k => congrArg S (hlift b h t k)
  rw [e]
  have e0 : constant (F := Ideal) S_ .f32 0xFF800000#32 (Shape.Idx.first h_S_) = (⊥ : EReal) := negInf
  rw [e0, negInf, max_eq_right bot_le]
  exact hM
/-- Over real arguments the reference computes the attention's result. -/
theorem ref_eq (Q K V : FVec Ideal S8192x1024 .bf16) (Km Vm : FVec Ideal S16x1024 .bf16) (lf : FVec Ideal S4x8x2048 .f32) (lfm : FVec Ideal S8x16 .f32)
    (hQ : Real' Q) (hK : Real' K) (hKm : Real' Km) (hL : Real' lf) (hLm : Real' lfm) :
    REF Q K V Km Vm lf lfm = att Q K Km lf lfm V Vm := by
  funext z
  obtain ⟨b, t, h, d, rfl⟩ : ∃ (b : Fin 4) (t : Fin 2048) (h : Fin 8) (d : Fin 128), z = ix2 (row b t) (col h d) := by
    have h0 : (z 0 : ℕ) < 8192 := (z 0).isLt
    have h1 : (z 1 : ℕ) < 1024 := (z 1).isLt
    refine ⟨⟨z 0 / 2048, by omega⟩, ⟨z 0 % 2048, by omega⟩, ⟨z 1 / 128, by omega⟩, ⟨z 1 % 128, by omega⟩, ?_⟩
    funext a
    fin_cases a
    · exact Fin.ext (by show (z 0 : ℕ) = 2048 * ((z 0 : ℕ) / 2048) + (z 0 : ℕ) % 2048; omega)
    · exact Fin.ext (by show (z 1 : ℕ) = 128 * ((z 1 : ℕ) / 128) + (z 1 : ℕ) % 128; omega)
  rw [att_at]
  unfold REF
  rw [out_at]
  have hC : ∀ n, cum lf lfm (ix3 b h n) = ((cr lf lfm b h n : ℝ) : EReal) := fun n => Real'.coe (fun z => cum_real _ _ hL hLm z) _
  have hKK : ∀ n d, stack K Km (ix4 b n h d) = (((stack K Km (ix4 b n h d) : EReal).toReal : ℝ) : EReal) := by
    intro n d
    by_cases hn : (n : ℕ) < 16
    · rw [stack_meta K Km b n hn h d]; exact hKm.coe _
    · have e := stack_tok K Km b ⟨n - 16, by omega⟩ h d
      have en : (⟨16 + (n - 16), by omega⟩ : Fin 2064) = n := Fin.ext (by simp only; omega)
      rw [en] at e
      rw [e]; exact hK.coe _
  -- the scores are real
  have hS : ∀ n : Fin 2064, score Q (stack K Km) (cum lf lfm) (ix4 b h t n) = ((sc Q K Km lf lfm b h t n * rs : ℝ) : EReal) := by
    intro n
    have e : ∑ d : Fin 128, Q (ix2 (row b t) (col h d)) * stack K Km (ix4 b n h d) = ((qk Q K Km b h t n : ℝ) : EReal) := by
      unfold qk
      rw [coe_sum]
      refine Finset.sum_congr rfl fun d _ => ?_
      rw [EReal.coe_mul, ← hKK, ← hQ.coe]
    rw [score_at, e, hC, hC, ← EReal.coe_sub, ← EReal.coe_mul, ← EReal.coe_add]
    unfold sc
    rw [dif_pos n.2]
    have hr : √128 * rs = 1 := by unfold rs; exact mul_inv_cancel₀ (by positivity)
    congr 1
    linear_combination (cr lf lfm b h n - cr lf lfm b h ⟨16 + t, by omega⟩) * hr
  generalize score Q (stack K Km) (cum lf lfm) = S at hS
  obtain ⟨M, hM⟩ := rowMax_real (masked S) b h t (fun n => by
      rw [masked_at, hS]; split_ifs
      · exact EReal.coe_ne_top _
      · exact bot_ne_top) ⟨0, by omega⟩ (by rw [masked_at, hS, if_pos (Nat.zero_le _)]; exact EReal.coe_ne_bot _)
  simp only [weights_at]
  have key := softmax_eq_rowOut (n := 16 + (t + 1)) (L := 2064) (by omega) (by omega) (fun i => sc Q K Km lf lfm b h t i * rs)
    (fun i => vals V Vm b h i ⟨d, by omega⟩) (K := Real.exp (-M)) (Real.exp_pos _)
    (fun n => expo (masked S) (ix4 b h t n)) (fun n => stack V Vm (ix4 b n h d))
    (fun n hn => by
      rw [expo_at, hM, masked_at, hS, if_pos (by omega), ← EReal.coe_sub]
      simp only [Ideal.exp_coe]
      rw [← Real.exp_add, sub_eq_add_neg])
    (fun n hn => by
      rw [expo_at, hM, masked_at, if_neg (by omega)]
      simp)
    (fun n => by unfold vals; rw [dif_pos ⟨n.2, d.2⟩])
  exact key
end Cert.RefAttn
end
-- ==== Proof.Pre.lean ====
module

public import proofs.«01_k».proof.Proof.Stack
public import proofs.«01_k».proof.Defs
public import Idealize.ShloMosaic.Lib.ReduceAll

/-! The precondition `finite` opened: the arrays it speaks of hold real numbers. -/

@[expose] public section
set_option maxRecDepth 16384
noncomputable section
namespace Cert.Attn
open Idealize.ShloMosaic Cert.RefAttn Cert.Pre_finite

/-- The side conditions of `finite`. -/
theorem finiteFacts : Cert.Pre_finite.Facts where
  bitsLt_bf16_f32 := by decide
  bcast_S_S8192x1024 := by decide
  reducesTo_S8192x1024_S_d0_1 := by decide
  h_S_ := by decide
  bcast_S_S16x1024 := by decide
  reducesTo_S16x1024_S_d0_1 := by decide
  bcast_S_S4x8x2048 := by decide
  reducesTo_S4x8x2048_S_d0_1_2 := by decide
  bcast_S_S8x16 := by decide
  reducesTo_S8x16_S_d0_1 := by decide

theorem posInf : Ideal.ofBits .f32 0x7F800000#32 = (⊤ : EReal) := by
  first | rfl | simp [Ideal.ofBits, Ideal.ieee]

/-- An extended real whose absolute value is below +∞ is a real number. -/
theorem real_of_abs {x : EReal} (h : Ideal.cmp .olt (max x (-x)) (Ideal.ofBits .f32 0x7F800000#32) = 1#1) : ∃ y : ℝ, x = y := by
  rw [posInf] at h
  induction x with
  | bot => simp [Ideal.cmp] at h
  | top => simp [Ideal.cmp] at h
  | coe y => exact ⟨y, rfl⟩

theorem andi_one {a b : BitVec 1} (h : IntOp.andi a b = 1#1) : a = 1#1 ∧ b = 1#1 := by
  revert a b; decide

instance : Subsingleton S_.Idx := ⟨fun a b => funext fun k => k.elim0⟩

/-- An array every element of which passes the test holds real numbers. -/
theorem real_of_all {s : Shape} {axes : List (Fin s.rank)} {f : Fin S_.rank → Fin s.rank} (X : FVec Ideal s .f32) (hb : S_.BroadcastsInDim s f) (hr : s.ReducesTo axes S_)
    (hu : 0 < S_.numel) (j : S_.Idx)
    (h : Host.reduce IntOp.andi (cmpf .olt (Host.absf X) (broadcastInDim s f hb (constant (F := Ideal) S_ .f32 0x7F800000#32))) (constantI S_ 1 1#1) hr hu j = 1#1)
    (i : s.Idx) : ∃ y : ℝ, (X i : EReal) = y :=
  real_of_abs (Host.reduce_andi_all _ _ hr hu j h i)

/-- `finite`, array by array. -/
theorem real_of_finite [Cert.Pre_finite.Facts] (q k v : FVec Ideal S8192x1024 .bf16) (km vm : FVec Ideal S16x1024 .bf16) (l : FVec Ideal S4x8x2048 .f32) (lm : FVec Ideal S8x16 .f32)
    (wg wu : FVec Ideal S2048x5632 .f32) (wd : FVec Ideal S5632x2048 .f32) (h : Cert.Pre_finite.fn (F := Ideal) q k v km vm l lm wg wu wd = (fun _ => 1#1)) :
    Real' q ∧ Real' k ∧ Real' km ∧ Real' l ∧ Real' lm := by
  have h0 := congrFun h (fun k => k.elim0)
  unfold Cert.Pre_finite.fn Cert.Pre_finite.fn_part1 at h0
  dsimp only at h0
  obtain ⟨h0, h5⟩ := andi_one h0
  obtain ⟨h0, h4⟩ := andi_one h0
  obtain ⟨h0, h3⟩ := andi_one h0
  obtain ⟨h1, h2⟩ := andi_one h0
  exact ⟨real_of_all _ _ _ _ _ h1, real_of_all _ _ _ _ _ h2, real_of_all _ _ _ _ _ h3, real_of_all _ _ _ _ _ h4, real_of_all _ _ _ _ _ h5⟩
end Cert.Attn
end
-- ==== Proof.Bridge.lean ====
module

public import proofs.«01_k».proof.Defs
public import proofs.«01_k».proof.Proof.Gen.KernelIdeal.Frame
public import proofs.«01_k».proof.Proof.Compose
public import Idealize.ShloMosaic.Lib.Claim
public import Idealize.ShloMosaic.Lib.Pipeline.ValueKit

@[expose] public section
set_option maxRecDepth 16384
noncomputable section
namespace Cert.KV
open Idealize.ShloMosaic Idealize.ShloMosaic.TcCoe Idealize.SL.Sem
open Cert.KernelIdeal Cert.KernelIdeal.Gen Cert.Attn

variable (m : (ℓ : Loc nD τ sig) → Buf (Elt Ideal) ℓ)

/-- The widened queries, keys and values of a grid point, and its widened meta keys and values. -/
def QA (c : Dev nD) (t : Fin cfg0.N) : FVec Ideal S2048x256 .bf16 := join (k0_pay4 (F := Ideal) (iblk m c 0 t)) (k0_pay5 (F := Ideal) (grid0.coords t) (iblk m c 5 t))
def KA (c : Dev nD) (t : Fin cfg0.N) : FVec Ideal S2048x256 .bf16 := join (k0_pay6 (F := Ideal) (iblk m c 1 t)) (k0_pay7 (F := Ideal) k0_pay2 (k0_pay3 (grid0.coords t)) (iblk m c 5 t))
def VA (c : Dev nD) (t : Fin cfg0.N) : FVec Ideal S2048x256 .bf16 := join (k0_pay11 (F := Ideal) (iblk m c 2 t)) (k0_pay12 (F := Ideal))
def KMA (c : Dev nD) (t : Fin cfg0.N) : FVec Ideal S128x256 .bf16 := k0_pay10 (F := Ideal) k0_pay2 (k0_pay3 (grid0.coords t)) (k0_pay8 (F := Ideal) (iblk m c 3 t)) (k0_pay9 (F := Ideal) (iblk m c 6 t)) 0#32
def VMA (c : Dev nD) (t : Fin cfg0.N) : FVec Ideal S128x256 .bf16 := k0_pay13 (F := Ideal) (iblk m c 4 t)

set_option pp.deepTerms false in
set_option pp.deepTerms.threshold 6 in
set_option maxHeartbeats 4000000 in
theorem out_at (c) (t) (S : Fin 2048 → ℕ → ℝ) (W : ℕ → Fin 256 → EReal) (D : Data S W (QA m c t) (KA m c t) (VA m c t) (KMA m c t) (VMA m c t)) (y : S2048x128.Idx) :
    (outsAt0 m c t).1 y = rowAt S W (y 0) (y 1) := by
  unfold Gen.outsAt0
  frame_open
  generalize hG : rowAt S W (y 0) (y 1) = G
  dsimp only
  rw [View.read_writes_junk_apply_eq_canon]
  canon_tiles y hh
  all_goals
    obtain ⟨r, d, rfl⟩ : ∃ (r : Fin 512) (d : Fin 128), y = ix2 r d := ⟨y 0, y 1, by funext a; fin_cases a <;> rfl⟩
  case piece0 =>
    refine (tile0_at (S := S) (W := W) (D.of_eq (fun _ => rfl) (fun _ => rfl) (fun _ => rfl) (fun y => ?km) (fun y => ?vm)) ?_ ?_ ?_ ?_ ?_ r d).trans
      ?fin
    case fin =>
      have a0 : _ = (r : ℕ) := hh0
      have a1 : _ = (d : ℕ) := hh1
      exact hG ▸ rowAt_of S W (by omega) (by first | exact a0 | exact a0.trans (Nat.zero_add _).symm) a1
    case km =>
      generalize e3 : View.readAt (Elt Ideal) (ms0_3 t).view _ _ = A3
      generalize e6 : View.readAt (Elt Ideal) (ms0_6 t).view _ _ = A6
      simp (disch := decide) only [View.readAt_eq_ld, View.ld_unit_lit', Memref.IsWhole.read_unread] at e3 e6
      subst e3 e6
      rfl
    case vm =>
      generalize e3 : View.readAt (Elt Ideal) (ms0_4 t).view _ _ = A3
      simp (disch := decide) only [View.readAt_eq_ld, View.ld_unit_lit', Memref.IsWhole.read_unread] at e3
      subst e3
      rfl
    all_goals
      rw [View.readCov_eq_canon']
      first | refine at512 (fun z => ?_) _ _ | refine at256 (fun z => ?_) _ _
      canon_tiles z hz
      all_goals try simp (disch := decide) only [View.readAt_eq_ld, View.ld_unit_lit', Memref.IsWhole.read_unread]
      · exact join_hi _ _ hz0 hz1
      · exact join_lo _ _ hz0 hz1
  case piece1 =>
    refine (tile1_at (S := S) (W := W) (D.of_eq (fun _ => rfl) (fun _ => rfl) (fun _ => rfl) (fun y => ?km) (fun y => ?vm)) ?_ ?_ ?_ ?_ ?_ ?_ ?_ r d).trans
      ?fin
    case fin =>
      have a0 : _ = 512 + (r : ℕ) := hh0
      have a1 : _ = (d : ℕ) := hh1
      exact hG ▸ rowAt_of S W (by omega) (by first | exact a0 | exact a0.trans (Nat.zero_add _).symm) a1
    case km =>
      generalize e3 : View.readAt (Elt Ideal) (ms0_3 t).view _ _ = A3
      generalize e6 : View.readAt (Elt Ideal) (ms0_6 t).view _ _ = A6
      simp (disch := decide) only [View.readAt_eq_ld, View.ld_unit_lit', Memref.IsWhole.read_unread] at e3 e6
      subst e3 e6
      rfl
    case vm =>
      generalize e3 : View.readAt (Elt Ideal) (ms0_4 t).view _ _ = A3
      simp (disch := decide) only [View.readAt_eq_ld, View.ld_unit_lit', Memref.IsWhole.read_unread] at e3
      subst e3
      rfl
    all_goals
      rw [View.readCov_eq_canon']
      first | refine at512 (fun z => ?_) _ _ | refine at256 (fun z => ?_) _ _
      canon_tiles z hz
      all_goals try simp (disch := decide) only [View.readAt_eq_ld, View.ld_unit_lit', Memref.IsWhole.read_unread]
      · exact join_hi _ _ hz0 hz1
      · exact join_lo _ _ hz0 hz1
  case piece2 =>
    refine (tile2_at (S := S) (W := W) (D.of_eq (fun _ => rfl) (fun _ => rfl) (fun _ => rfl) (fun y => ?km) (fun y => ?vm)) ?_ ?_ ?_ ?_ ?_ ?_ ?_ ?_ ?_ r d).trans
      ?fin
    case fin =>
      have a0 : _ = 1024 + (r : ℕ) := hh0
      have a1 : _ = (d : ℕ) := hh1
      exact hG ▸ rowAt_of S W (by omega) (by first | exact a0 | exact a0.trans (Nat.zero_add _).symm) a1
    case km =>
      generalize e3 : View.readAt (Elt Ideal) (ms0_3 t).view _ _ = A3
      generalize e6 : View.readAt (Elt Ideal) (ms0_6 t).view _ _ = A6
      simp (disch := decide) only [View.readAt_eq_ld, View.ld_unit_lit', Memref.IsWhole.read_unread] at e3 e6
      subst e3 e6
      rfl
    case vm =>
      generalize e3 : View.readAt (Elt Ideal) (ms0_4 t).view _ _ = A3
      simp (disch := decide) only [View.readAt_eq_ld, View.ld_unit_lit', Memref.IsWhole.read_unread] at e3
      subst e3
      rfl
    all_goals
      rw [View.readCov_eq_canon']
      first | refine at512 (fun z => ?_) _ _ | refine at256 (fun z => ?_) _ _
      canon_tiles z hz
      all_goals try simp (disch := decide) only [View.readAt_eq_ld, View.ld_unit_lit', Memref.IsWhole.read_unread]
      · exact join_hi _ _ hz0 hz1
      · exact join_lo _ _ hz0 hz1
  case piece3 =>
    refine (tile3_at (S := S) (W := W) (D.of_eq (fun _ => rfl) (fun _ => rfl) (fun _ => rfl) (fun y => ?km) (fun y => ?vm)) ?_ ?_ ?_ ?_ ?_ ?_ ?_ ?_ ?_ ?_ ?_ r d).trans
      ?fin
    case fin =>
      have a0 : _ = 1536 + (r : ℕ) := hh0
      have a1 : _ = (d : ℕ) := hh1
      exact hG ▸ rowAt_of S W (by omega) (by first | exact a0 | exact a0.trans (Nat.zero_add _).symm) a1
    case km =>
      generalize e3 : View.readAt (Elt Ideal) (ms0_3 t).view _ _ = A3
      generalize e6 : View.readAt (Elt Ideal) (ms0_6 t).view _ _ = A6
      simp (disch := decide) only [View.readAt_eq_ld, View.ld_unit_lit', Memref.IsWhole.read_unread] at e3 e6
      subst e3 e6
      rfl
    case vm =>
      generalize e3 : View.readAt (Elt Ideal) (ms0_4 t).view _ _ = A3
      simp (disch := decide) only [View.readAt_eq_ld, View.ld_unit_lit', Memref.IsWhole.read_unread] at e3
      subst e3
      rfl
    all_goals
      rw [View.readCov_eq_canon']
      first | refine at512 (fun z => ?_) _ _ | refine at256 (fun z => ?_) _ _
      canon_tiles z hz
      all_goals try simp (disch := decide) only [View.readAt_eq_ld, View.ld_unit_lit', Memref.IsWhole.read_unread]
      · exact join_hi _ _ hz0 hz1
      · exact join_lo _ _ hz0 hz1
end Cert.KV
end
-- ==== Proof.Score.lean ====
module

public import proofs.«01_k».proof.Defs
public import proofs.«01_k».proof.Proof.Gen.KernelIdeal.Frame
public import proofs.«01_k».proof.Proof.Aug
public import proofs.«01_k».proof.Proof.Compose
public import Idealize.ShloMosaic.Lib.WordCmp
public import Idealize.ShloMosaic.Lib.Claim
public import Idealize.ShloMosaic.Lib.Pipeline.ValueKit

@[expose] public section
set_option maxRecDepth 16384
noncomputable section
namespace Cert.KV
open Idealize.ShloMosaic Idealize.ShloMosaic.TcCoe Idealize.SL.Sem
open Cert.KernelIdeal Cert.KernelIdeal.Gen Cert.Attn

/-! Which lanes a widened row takes from the decays, and which lane it sets to 1. -/
theorem keepQ : ∀ l : Fin 128, IntOp.andi (IntOp.cmpi CmpIPredicate.sge (IntOp.shrsi ArithUnit.vector (BitVec.ofNat 32 l) 3#32) 3#32)
    (IntOp.cmpi CmpIPredicate.slt (IntOp.shrsi ArithUnit.vector (BitVec.ofNat 32 l) 3#32) 6#32)
      = BitVec.ofBool (decide (24 ≤ (l : ℕ) ∧ (l : ℕ) < 48)) := by decide +kernel

theorem hotQ : ∀ (h : Fin 8) (l : Fin 128), IntOp.andi (IntOp.andi (IntOp.cmpi CmpIPredicate.eq (IntOp.andi (BitVec.ofNat 32 l) 7#32) (BitVec.ofNat 32 h))
      (IntOp.cmpi CmpIPredicate.sge (IntOp.shrsi ArithUnit.vector (BitVec.ofNat 32 l) 3#32) 3#32))
    (IntOp.cmpi CmpIPredicate.slt (IntOp.shrsi ArithUnit.vector (BitVec.ofNat 32 l) 3#32) 6#32)
      = BitVec.ofBool (decide ((24 ≤ (l : ℕ) ∧ (l : ℕ) < 48) ∧ (l : ℕ) % 8 = h)) := by decide +kernel

theorem keepK : ∀ l : Fin 128, IntOp.andi (IntOp.cmpi CmpIPredicate.sge (IntOp.shrsi ArithUnit.vector (BitVec.ofNat 32 l) 3#32) 0#32)
    (IntOp.cmpi CmpIPredicate.slt (IntOp.shrsi ArithUnit.vector (BitVec.ofNat 32 l) 3#32) 3#32)
      = BitVec.ofBool (decide ((l : ℕ) < 24)) := by decide +kernel

theorem hotK : ∀ (h : Fin 8) (l : Fin 128), IntOp.andi (IntOp.andi (IntOp.cmpi CmpIPredicate.eq (IntOp.andi (BitVec.ofNat 32 l) 7#32) (BitVec.ofNat 32 h))
      (IntOp.cmpi CmpIPredicate.sge (IntOp.shrsi ArithUnit.vector (BitVec.ofNat 32 l) 3#32) 0#32))
    (IntOp.cmpi CmpIPredicate.slt (IntOp.shrsi ArithUnit.vector (BitVec.ofNat 32 l) 3#32) 3#32)
      = BitVec.ofBool (decide ((l : ℕ) < 24 ∧ (l : ℕ) % 8 = h)) := by decide +kernel

/-- The lanes a query row is widened by. -/
def laneQ (h : Fin 8) (p : Fin 128 → ℝ) (l : Fin 128) : ℝ :=
  if 24 ≤ (l : ℕ) ∧ (l : ℕ) < 48 then (if (l : ℕ) % 8 = h then 1 else 0) else lane p l

/-- The lanes a key row is widened by. -/
def laneK (h : Fin 8) (p : Fin 128 → ℝ) (l : Fin 128) : ℝ :=
  if (l : ℕ) < 24 then (if (l : ℕ) % 8 = h then 1 else 0) else lane p l

/-- Their product sums to the difference of the two decays of head `h`. -/
theorem sum_lanes (h : Fin 8) (p p' : Fin 128 → ℝ) (hp : ∀ l : Fin 128, 8 ≤ (l : ℕ) → p l = 0) (hp' : ∀ l : Fin 128, 8 ≤ (l : ℕ) → p' l = 0) :
    ∑ l, laneQ h p l * laneK h p' l = p ⟨h, by omega⟩ - p' ⟨h, by omega⟩ := by
  have key : ∀ l : Fin 128, laneQ h p l * laneK h p' l
      = (if l = ⟨h, by omega⟩ then p l else 0) - (if l = ⟨24 + h, by omega⟩ then p' ⟨h, by omega⟩ else 0) := by
    intro l
    obtain ⟨l, hl⟩ := l
    obtain ⟨h, hh⟩ := h
    simp only [laneQ, laneK, lane, Fin.mk.injEq]
    rcases Nat.lt_or_ge l 24 with h24 | h24
    · rw [if_neg (by omega), if_pos h24, if_pos h24, if_neg (show ¬ l = 24 + h by omega)]
      rcases Nat.lt_or_ge l 8 with h8 | h8
      · simp only [Nat.mod_eq_of_lt h8, mul_ite, mul_one, mul_zero, sub_zero]
      · rw [hp ⟨l, hl⟩ h8, if_neg (show ¬ l = h by omega)]; simp
    · have hn : ¬ l < 24 := by omega
      simp only [hn, if_false]
      rw [if_neg (show ¬ l = h by omega), hp' ⟨l, hl⟩ (by simp only; omega), hp ⟨l, hl⟩ (by simp only; omega)]
      rcases Nat.lt_or_ge l 48 with h48 | h48
      · rw [if_pos ⟨h24, h48⟩]
        by_cases e : l = 24 + h
        · subst e
          rw [if_pos (by omega), if_pos rfl]
          have : (⟨24 + h - 24, by omega⟩ : Fin 128) = ⟨h, by omega⟩ := by apply Fin.ext; simp
          rw [this]; ring
        · rw [if_neg e]
          rcases Nat.lt_or_ge (l - 24) 8 with h8 | h8
          · rw [if_neg (by omega)]; ring
          · rw [hp' ⟨l - 24, by omega⟩ h8]; ring
      · rw [if_neg (by omega), if_neg (show ¬ l = 24 + h by omega), hp ⟨l - 24, by omega⟩ (by simp only; omega)]; ring
  rw [Finset.sum_congr rfl (fun l _ => key l), Finset.sum_sub_distrib, Finset.sum_ite_eq', Finset.sum_ite_eq']
  simp

theorem pay5_at (i : grid0.Coords) (h : Fin 8) (hi : (i 1 : ℕ) = h) (A : FVec Ideal S2048x128 .bf16) (t : Fin 2048) (p : Fin 128 → ℝ)
    (hA : ∀ l, A (ix2 t l) = ((lane p l : ℝ) : EReal)) (l : Fin 128) :
    k0_pay5 (F := Ideal) i A (ix2 t l) = ((laneQ h p l : ℝ) : EReal) := by
  pointwise [k0_pay5, k0_pay2, k0_pay3]
  rw [hi, keepQ, hotQ, WordCmp.select_decide, WordCmp.select_decide, hA]
  unfold laneQ
  split_ifs <;> simp_all

theorem pay7_at (i : grid0.Coords) (h : Fin 8) (hi : (i 1 : ℕ) = h) (A : FVec Ideal S2048x128 .bf16) (t : Fin 2048) (p : Fin 128 → ℝ)
    (hA : ∀ l, A (ix2 t l) = ((lane p l : ℝ) : EReal)) (l : Fin 128) :
    k0_pay7 (F := Ideal) k0_pay2 (k0_pay3 i) A (ix2 t l) = ((laneK h p l : ℝ) : EReal) := by
  pointwise [k0_pay7, k0_pay2, k0_pay3]
  rw [hi, keepK, hotK, WordCmp.select_decide, WordCmp.select_decide, hA]
  unfold laneK
  split_ifs <;> simp_all

theorem pay10_at (i : grid0.Coords) (h : Fin 8) (hi : (i 1 : ℕ) = h) (K A : FVec Ideal S128x128 .bf16) (t : Fin 128) (p : Fin 128 → ℝ)
    (hA : ∀ l, A (ix2 t l) = ((lane p l : ℝ) : EReal)) (l : Fin 256) :
    k0_pay10 (F := Ideal) k0_pay2 (k0_pay3 i) (k0_pay8 (F := Ideal) K) (k0_pay9 (F := Ideal) A) 0#32 (ix2 t l)
      = if hl : (l : ℕ) < 128 then K (ix2 t ⟨l, hl⟩) else ((laneK h p ⟨l - 128, by omega⟩ : ℝ) : EReal) := by
  pointwise [k0_pay8, k0_pay9, k0_pay10, k0_pay2, k0_pay3]
  by_cases hl : (l : ℕ) < 128
  · rw [dif_pos hl, dif_pos hl]
  · rw [dif_neg hl, dif_neg hl, hi]
    have e := keepK ⟨l - 128, by omega⟩
    have e' := hotK h ⟨l - 128, by omega⟩
    simp only at e e'
    rw [e, e', WordCmp.select_decide, WordCmp.select_decide, hA]
    unfold laneK
    by_cases a : (l : ℕ) - 128 < 24
    · by_cases b : ((l : ℕ) - 128) % 8 = h <;> simp [a, b]
    · simp [a]

theorem pay13_at (V : FVec Ideal S128x128 .bf16) (k : Fin 128) (l : Fin 256) :
    k0_pay13 (F := Ideal) V (ix2 k l) = if hl : (l : ℕ) < 128 then V (ix2 k ⟨l, hl⟩) else 1 := by
  pointwise [k0_pay13]

theorem pay12_at (k : Fin 2048) (l : Fin 128) : k0_pay12 (F := Ideal) (ix2 k l) = 1 := by
  pointwise [k0_pay12]

theorem pay4_at (V : FVec Ideal S2048x128 .bf16) (k : Fin 2048) (l : Fin 128) : k0_pay4 (F := Ideal) V (ix2 k l) = V (ix2 k l) := by
  pointwise [k0_pay4]
theorem pay6_at (V : FVec Ideal S2048x128 .bf16) (k : Fin 2048) (l : Fin 128) : k0_pay6 (F := Ideal) V (ix2 k l) = V (ix2 k l) := by
  pointwise [k0_pay6]
theorem pay11_at (V : FVec Ideal S2048x128 .bf16) (k : Fin 2048) (l : Fin 128) : k0_pay11 (F := Ideal) V (ix2 k l) = V (ix2 k l) := by
  pointwise [k0_pay11]

/-- A sum over the 256 lanes, by halves. -/
theorem sum_halves (f : Fin 256 → EReal) :
    ∑ l, f l = ∑ l : Fin 128, f ⟨l, by omega⟩ + ∑ l : Fin 128, f ⟨128 + l, by omega⟩ :=
  Fin.sum_univ_add (a := 128) (b := 128) f

/-- A widened query against a widened key: their product plus the difference of their decays. -/
theorem dot_at (i : grid0.Coords) (h : Fin 8) (hi : (i 1 : ℕ) = h) (Q K A : FVec Ideal S2048x128 .bf16) (q k p : Fin 2048 → Fin 128 → ℝ)
    (hQ : ∀ t d, Q (ix2 t d) = (q t d : EReal)) (hK : ∀ t d, K (ix2 t d) = (k t d : EReal))
    (hA : ∀ t l, A (ix2 t l) = ((lane (p t) l : ℝ) : EReal)) (hp : ∀ t (l : Fin 128), 8 ≤ (l : ℕ) → p t l = 0) (t n : Fin 2048) :
    ∑ l, join (k0_pay4 (F := Ideal) Q) (k0_pay5 (F := Ideal) i A) (ix2 t l) * join (k0_pay6 (F := Ideal) K) (k0_pay7 (F := Ideal) k0_pay2 (k0_pay3 i) A) (ix2 n l)
      = ((∑ d, q t d * k n d + (p t ⟨h, by omega⟩ - p n ⟨h, by omega⟩) : ℝ) : EReal) := by
  rw [sum_halves, EReal.coe_add, ← sum_lanes h (p t) (p n) (hp t) (hp n), coe_sum, coe_sum]
  congr 1
  · refine Finset.sum_congr rfl fun l _ => ?_
    rw [← join_lo (x := ix2 t l) (z := ix2 t ⟨l, by omega⟩) _ _ rfl rfl, ← join_lo (x := ix2 n l) (z := ix2 n ⟨l, by omega⟩) _ _ rfl rfl,
      pay4_at, pay6_at, hQ, hK, EReal.coe_mul]
  · refine Finset.sum_congr rfl fun l _ => ?_
    rw [← join_hi (x := ix2 t l) (z := ix2 t ⟨128 + l, by omega⟩) _ _ rfl rfl, ← join_hi (x := ix2 n l) (z := ix2 n ⟨128 + l, by omega⟩) _ _ rfl rfl,
      pay5_at i h hi A t (p t) (hA t), pay7_at i h hi A n (p n) (hA n), EReal.coe_mul]

/-- The same against a widened meta key. -/
theorem dotm_at (i : grid0.Coords) (h : Fin 8) (hi : (i 1 : ℕ) = h) (Q A : FVec Ideal S2048x128 .bf16) (K Am : FVec Ideal S128x128 .bf16)
    (q p : Fin 2048 → Fin 128 → ℝ) (t : Fin 2048) (n : Fin 128) (k pm : Fin 128 → ℝ)
    (hQ : ∀ t d, Q (ix2 t d) = (q t d : EReal)) (hK : ∀ d, K (ix2 n d) = (k d : EReal))
    (hA : ∀ t l, A (ix2 t l) = ((lane (p t) l : ℝ) : EReal)) (hp : ∀ t (l : Fin 128), 8 ≤ (l : ℕ) → p t l = 0)
    (hAm : ∀ l, Am (ix2 n l) = ((lane pm l : ℝ) : EReal)) (hpm : ∀ (l : Fin 128), 8 ≤ (l : ℕ) → pm l = 0) :
    ∑ l, join (k0_pay4 (F := Ideal) Q) (k0_pay5 (F := Ideal) i A) (ix2 t l)
        * k0_pay10 (F := Ideal) k0_pay2 (k0_pay3 i) (k0_pay8 (F := Ideal) K) (k0_pay9 (F := Ideal) Am) 0#32 (ix2 n l)
      = ((∑ d, q t d * k d + (p t ⟨h, by omega⟩ - pm ⟨h, by omega⟩) : ℝ) : EReal) := by
  rw [sum_halves, EReal.coe_add, ← sum_lanes h (p t) pm (hp t) hpm, coe_sum, coe_sum]
  congr 1
  · refine Finset.sum_congr rfl fun l _ => ?_
    rw [← join_lo (x := ix2 t l) (z := ix2 t ⟨l, by omega⟩) _ _ rfl rfl, pay10_at i h hi K Am n pm hAm, dif_pos l.2,
      pay4_at, hQ, hK, EReal.coe_mul]
  · refine Finset.sum_congr rfl fun l _ => ?_
    rw [← join_hi (x := ix2 t l) (z := ix2 t ⟨128 + l, by omega⟩) _ _ rfl rfl, pay10_at i h hi K Am n pm hAm, dif_neg (by simp only; omega),
      pay5_at i h hi A t (p t) (hA t), EReal.coe_mul]
    have e : (⟨128 + l - 128, by omega⟩ : Fin 128) = l := Fin.ext (by simp)
    simp only [e]
end Cert.KV
end
-- ==== Proof.Entry.lean ====
module

public import proofs.«01_k».proof.Defs
public import proofs.«01_k».proof.Proof.Gen.KernelIdeal.Frame
public import proofs.«01_k».proof.Proof.Aug
public import Idealize.ShloMosaic.Lib.Claim
public import Idealize.ShloMosaic.Lib.Pipeline.ValueKit

@[expose] public section
set_option maxRecDepth 16384
noncomputable section
namespace Cert.KV
open Idealize.ShloMosaic Idealize.ShloMosaic.TcCoe Idealize.SL.Sem
open Cert.KernelIdeal Cert.KernelIdeal.Gen Cert.Attn
variable (m : (ℓ : Loc nD τ sig) → Buf (Elt Ideal) ℓ)
open Cert.RefAttn

/-- What the launch finds in its operand of decays. -/
theorem entry31 (c : Dev nD) : V m c main_v31 = spread (padded (cum (m (c.tc.loc main_arg5)) (m (c.tc.loc main_arg6)))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.cons_append, List.nil_append, List.append_nil]
  entry_read
  generalize hX : mulf (F := Ideal) (φ := .f32) _ (broadcastInDim S8192x128 ![] bcast_S_S8192x128 (Host.sqrt (constant S_ .f32 0x43000000#32))) = X
  have e : padded (cum (m (c.tc.loc main_arg5)) (m (c.tc.loc main_arg6))) = X := by
    rw [← hX]
    unfold padded cum gates
    simp -implicitDefEqProofs only [StableHlo.TRef.ofBuf_toBuf, StableHlo.TRef.toBuf, StableHlo.TRef.ofBuf, cast_eq, id]
    rfl
  rw [e]
  clear e hX
  unfold spread rest roll8 roll16 roll24 roll32 roll40
  rfl

/-- What the launch finds in its operand of the meta tokens' decays. -/
theorem entry58 (c : Dev nD) : V m c main_v58 = spreadm (paddedm (cum (m (c.tc.loc main_arg5)) (m (c.tc.loc main_arg6)))) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.cons_append, List.nil_append, List.append_nil]
  entry_read
  generalize hX : mulf (F := Ideal) (φ := .f32) _ (broadcastInDim S128x128 ![] bcast_S_S128x128 (Host.sqrt (constant S_ .f32 0x43000000#32))) = X
  have e : paddedm (cum (m (c.tc.loc main_arg5)) (m (c.tc.loc main_arg6))) = X := by
    rw [← hX]
    unfold paddedm cum gates
    simp -implicitDefEqProofs only [StableHlo.TRef.ofBuf_toBuf, StableHlo.TRef.toBuf, StableHlo.TRef.ofBuf, cast_eq, id]
    rfl
  rw [e]
  clear e hX
  unfold spreadm restm rollm8 rollm16 rollm24 rollm32 rollm40
  rfl

/-- What the launch finds in its operand of meta keys. -/
theorem entry59 (c : Dev nD) : V m c main_v59 = padKm (m (c.tc.loc main_arg3)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.cons_append, List.nil_append, List.append_nil]
  entry_read
  rfl

/-- What the launch finds in its operand of meta values. -/
theorem entry60 (c : Dev nD) : V m c main_v60 = padKm (m (c.tc.loc main_arg4)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, List.flatten_cons, List.flatten_nil, List.cons_append, List.nil_append, List.append_nil]
  entry_read
  rfl

end Cert.KV
end
-- ==== Proof.Point.lean ====
module

public import proofs.«01_k».proof.Defs
public import proofs.«01_k».proof.Proof.Gen.KernelIdeal.Frame
public import proofs.«01_k».proof.Proof.Bridge
public import proofs.«01_k».proof.Proof.Score
public import proofs.«01_k».proof.Proof.Entry
public import proofs.«01_k».proof.Proof.Stack
public import Idealize.ShloMosaic.Lib.Claim
public import Idealize.ShloMosaic.Lib.Pipeline.ValueKit

@[expose] public section
set_option maxRecDepth 16384
noncomputable section
namespace Cert.KV
open Idealize.ShloMosaic Idealize.ShloMosaic.TcCoe Idealize.SL.Sem
open Cert.KernelIdeal Cert.KernelIdeal.Gen Cert.Attn
variable (m : (ℓ : Loc nD τ sig) → Buf (Elt Ideal) ℓ)
open Cert.RefAttn

/-- The batch and the head of a grid point. -/
def bOf (t : Fin cfg0.N) : Fin 4 := ⟨(grid0.coords t 0).val, (grid0.coords t 0).isLt⟩
def hOf (t : Fin cfg0.N) : Fin 8 := ⟨(grid0.coords t 1).val, (grid0.coords t 1).isLt⟩

theorem idx : ∀ t : Fin cfg0.N, win0_0.index t = ![(bOf t).val, (hOf t).val] ∧ win0_1.index t = ![(bOf t).val, (hOf t).val]
    ∧ win0_2.index t = ![(bOf t).val, (hOf t).val] ∧ win0_3.index t = ![0, (hOf t).val] ∧ win0_4.index t = ![0, (hOf t).val]
    ∧ win0_5.index t = ![(bOf t).val, 0] ∧ win0_6.index t = ![0, 0] ∧ win0_10.index t = ![(bOf t).val, (hOf t).val] :=
  (by decide +kernel : ∀ t : Fin grid0.N, _)

theorem blk0 (c : Dev nD) (t : Fin cfg0.N) (r : Fin 2048) (d : Fin 128) :
    (iblk m c 0 t : FVec Ideal S2048x128 .bf16) (ix2 r d) = m (c.tc.loc main_arg0) (ix2 (row (bOf t) r) (col (hOf t) d)) := by
  unfold row col
  blk_ext [iblk, V, idx t]

theorem blk1 (c : Dev nD) (t : Fin cfg0.N) (r : Fin 2048) (d : Fin 128) :
    (iblk m c 1 t : FVec Ideal S2048x128 .bf16) (ix2 r d) = m (c.tc.loc main_arg1) (ix2 (row (bOf t) r) (col (hOf t) d)) := by
  unfold row col
  blk_ext [iblk, V, idx t]

theorem blk2 (c : Dev nD) (t : Fin cfg0.N) (r : Fin 2048) (d : Fin 128) :
    (iblk m c 2 t : FVec Ideal S2048x128 .bf16) (ix2 r d) = m (c.tc.loc main_arg2) (ix2 (row (bOf t) r) (col (hOf t) d)) := by
  unfold row col
  blk_ext [iblk, V, idx t]

theorem blk3 (c : Dev nD) (t : Fin cfg0.N) (k : Fin 128) (d : Fin 128) :
    (iblk m c 3 t : FVec Ideal S128x128 .bf16) (ix2 k d) = padKm (m (c.tc.loc main_arg3)) (ix2 k (col (hOf t) d)) := by
  unfold col
  rw [← entry59]
  blk_ext [iblk, idx t]

theorem blk4 (c : Dev nD) (t : Fin cfg0.N) (k : Fin 128) (d : Fin 128) :
    (iblk m c 4 t : FVec Ideal S128x128 .bf16) (ix2 k d) = padKm (m (c.tc.loc main_arg4)) (ix2 k (col (hOf t) d)) := by
  unfold col
  rw [← entry60]
  blk_ext [iblk, idx t]

theorem blk5 (c : Dev nD) (t : Fin cfg0.N) (r : Fin 2048) (l : Fin 128) :
    (iblk m c 5 t : FVec Ideal S2048x128 .bf16) (ix2 r l)
      = spread (padded (cum (m (c.tc.loc main_arg5)) (m (c.tc.loc main_arg6)))) (ix2 (row (bOf t) r) l) := by
  unfold row
  rw [← entry31]
  blk_ext [iblk, idx t]

theorem blk6 (c : Dev nD) (t : Fin cfg0.N) (k : Fin 128) (l : Fin 128) :
    (iblk m c 6 t : FVec Ideal S128x128 .bf16) (ix2 k l)
      = spreadm (paddedm (cum (m (c.tc.loc main_arg5)) (m (c.tc.loc main_arg6)))) (ix2 k l) := by
  rw [← entry58]
  blk_ext [iblk, idx t]

section
variable (c : Dev nD)
/-! The arguments of the claim, at their types. -/
abbrev aQ : FVec Ideal S8192x1024 .bf16 := m (c.tc.loc main_arg0)
abbrev aK : FVec Ideal S8192x1024 .bf16 := m (c.tc.loc main_arg1)
abbrev aV : FVec Ideal S8192x1024 .bf16 := m (c.tc.loc main_arg2)
abbrev aKm : FVec Ideal S16x1024 .bf16 := m (c.tc.loc main_arg3)
abbrev aVm : FVec Ideal S16x1024 .bf16 := m (c.tc.loc main_arg4)
abbrev aL : FVec Ideal S4x8x2048 .f32 := m (c.tc.loc main_arg5)
abbrev aLm : FVec Ideal S8x16 .f32 := m (c.tc.loc main_arg6)

/-- The decays of a token's lanes, and of a meta token's. -/
def dec (b : Fin 4) (r : Fin 2048) (l : Fin 128) : ℝ :=
  if h : (l : ℕ) < 8 then cr (aL m c) (aLm m c) b ⟨l, h⟩ ⟨16 + r, by omega⟩ * √128 else 0
def decm (k l : Fin 128) : ℝ :=
  if h : (l : ℕ) < 8 ∧ (k : ℕ) < 16 then cr (aL m c) (aLm m c) 0 ⟨l, h.1⟩ ⟨k, by omega⟩ * √128 else 0

variable (hL : Real' (aL m c)) (hLm : Real' (aLm m c))
include hL hLm

theorem cum_cr (b : Fin 4) (h : Fin 8) (n : Fin 2064) :
    cum (aL m c) (aLm m c) (ix3 b h n) = ((cr (aL m c) (aLm m c) b h n : ℝ) : EReal) :=
  Real'.coe (fun z => cum_real _ _ hL hLm z) _

theorem blk5_at (t : Fin cfg0.N) (r : Fin 2048) (l : Fin 128) :
    (iblk m c 5 t : FVec Ideal S2048x128 .bf16) (ix2 r l) = ((lane (dec m c (bOf t) r) l : ℝ) : EReal) := by
  rw [blk5]
  exact spread_at _ _ _ (fun l => padded_at _ _ (cum_cr m c hL hLm) (bOf t) r l) (fun l hl => dif_neg (by omega)) l

theorem blk6_at (t : Fin cfg0.N) (k l : Fin 128) :
    (iblk m c 6 t : FVec Ideal S128x128 .bf16) (ix2 k l) = ((lane (decm m c k) l : ℝ) : EReal) := by
  rw [blk6]
  exact spreadm_at _ _ _ (fun l => paddedm_at _ _ (cum_cr m c hL hLm) k l) (fun l hl => dif_neg (by omega)) l

/-- What the arrays of a grid point hold. -/
theorem data (hQ : Real' (aQ m c)) (hK : Real' (aK m c)) (hKm : Real' (aKm m c)) (t : Fin cfg0.N) :
    Data (sc (aQ m c) (aK m c) (aKm m c) (aL m c) (aLm m c) (bOf t) (hOf t)) (vals (aV m c) (aVm m c) (bOf t) (hOf t))
      (QA m c t) (KA m c t) (VA m c t) (KMA m c t) (VMA m c t) where
  dot r n := by
    refine (dot_at (grid0.coords t) (hOf t) rfl _ _ _
      (fun r d => (aQ m c (ix2 (row (bOf t) r) (col (hOf t) d)) : EReal).toReal)
      (fun r d => (aK m c (ix2 (row (bOf t) r) (col (hOf t) d)) : EReal).toReal) (dec m c (bOf t))
      (fun r d => (blk0 m c t r d).trans (hQ.coe _)) (fun r d => (blk1 m c t r d).trans (hK.coe _))
      (fun r l => blk5_at m c hL hLm t r l) (fun r l hl => dif_neg (by omega)) r n).trans ?_
    congr 1
    unfold sc qk dec
    rw [dif_pos (show 16 + (n : ℕ) < 2064 by omega), dif_pos (hOf t).2, dif_pos (hOf t).2]
    simp only [stack_tok]
    ring
  dotm r k hk := by
    refine (dotm_at (grid0.coords t) (hOf t) rfl _ _ _ _
      (fun r d => (aQ m c (ix2 (row (bOf t) r) (col (hOf t) d)) : EReal).toReal) (dec m c (bOf t)) r k
      (fun d => (aKm m c (ix2 (⟨k, hk⟩ : Fin 16) (col (hOf t) d)) : EReal).toReal) (decm m c k)
      (fun r d => (blk0 m c t r d).trans (hQ.coe _))
      (fun d => (blk3 m c t k d).trans ((padKm_at _ k hk _).trans (hKm.coe _)))
      (fun r l => blk5_at m c hL hLm t r l) (fun r l hl => dif_neg (by omega))
      (fun l => blk6_at m c hL hLm t k l) (fun l hl => dif_neg (by omega))).trans ?_
    congr 1
    have e : cr (aL m c) (aLm m c) (bOf t) (hOf t) ⟨k, by omega⟩ = cr (aL m c) (aLm m c) 0 (hOf t) ⟨k, by omega⟩ :=
      congrArg EReal.toReal (cum_meta _ _ _ _ _ _ hk)
    unfold sc qk dec decm
    rw [dif_pos (show (k : ℕ) < 2064 by omega), dif_pos (hOf t).2, dif_pos ⟨(hOf t).2, hk⟩, e]
    simp only [fun d => stack_meta (aK m c) (aKm m c) (bOf t) (⟨k, by omega⟩ : Fin 2064) hk (hOf t) d]
    ring
  val n l := by
    unfold VA vals
    rw [join_at]
    by_cases hl : (l : ℕ) < 128
    · rw [dif_pos hl, dif_pos ⟨by omega, hl⟩, pay11_at, blk2, stack_tok]
    · rw [dif_neg hl, dif_neg (fun h => hl h.2), pay12_at]
  valm k l hk := by
    unfold VMA vals
    rw [pay13_at]
    by_cases hl : (l : ℕ) < 128
    · rw [dif_pos hl, dif_pos ⟨by omega, hl⟩, blk4, padKm_at _ k hk]
      exact (stack_meta _ _ _ (⟨k, by omega⟩ : Fin 2064) hk _ _).symm
    · rw [dif_neg hl, dif_neg (fun h => hl h.2)]
  one i d := dif_neg (fun h => by have := h.2; simp only at this; omega)

/-- The attention's array after the run. -/
theorem final (hQ : Real' (aQ m c)) (hK : Real' (aK m c)) (hKm : Real' (aKm m c)) :
    (dats m 0 c).arrAt 10 cfg0.N = att (aQ m c) (aK m c) (aKm m c) (aL m c) (aLm m c) (aV m c) (aVm m c) := by
  refine (dats m 0 c).arrAt_eq_of_covers 10 _ (by decide +kernel) fun t _ y => ?_
  blk_simp
  rw [after0_10, out_at m c t _ _ (data m c hL hLm hQ hK hKm t)]
  refine (att_at _ _ _ _ _ _ _ (bOf t) (hOf t) (y 0) (y 1)).symm.trans (congrArg _ ?_)
  unfold row col
  blk_ext [idx t]
end
end Cert.KV
end
-- ==== Proof.TailTile.lean ====
module

public import proofs.«01_k».proof.Proof.Gen.TailIdeal.Frame
public import Idealize.ShloMosaic.Lib.Pipeline.ValueKit

/-! The arithmetic of one grid point of the feed-forward tail, entry by entry. -/

@[expose] public section
set_option maxRecDepth 16384
noncomputable section
namespace Cert.FT
open Idealize.ShloMosaic Idealize.ShloMosaic.TcCoe Idealize.SL.Sem
open Cert.TailIdeal Cert.TailIdeal.Gen

/-- Entry `d` of the RMS norm of the row `x`, with gain `g`. -/
def nrm (x : Fin 2048 → EReal) (g : EReal) (d : Fin 2048) : EReal :=
  x d * Ideal.rsqrt (Ideal.div (∑ k, x k * x k) (Ideal.ofBits .f32 0x45000000#32) + Ideal.ofBits .f32 0x358637BD#32) * g

/-- The gated product `z / (1 + exp (-z)) * u`. -/
def act (z u : EReal) : EReal := Ideal.div z (1 + Ideal.exp (0 - z)) * u

/-- The column of the packed tile holding the gate of hidden column `k`. -/
def gateCol (k : Fin 512) : Fin 1024 := ⟨k.val / 256 * 512 + k.val % 256, by omega⟩
/-- The column of the packed tile holding the up-projection of hidden column `k`. -/
def upCol (k : Fin 512) : Fin 1024 := ⟨k.val / 256 * 512 + 256 + k.val % 256, by omega⟩

/-- Hidden entry `(r, k)` of a tile: normed rows `X` against the packed weights `W`. -/
def hid (X : FVec Ideal S1024x2048 .bf16) (W : FVec Ideal S2048x1024 .bf16) (r : Fin 1024) (k : Fin 512) : EReal :=
  act (∑ d : Fin 2048, X (ix2 r d) * W (ix2 d (gateCol k))) (∑ d : Fin 2048, X (ix2 r d) * W (ix2 d (upCol k)))

theorem pay7_at (G : FVec Ideal S1x2048 .f32) (X : FVec Ideal S256x2048 .f32) (r : Fin 256) (d : Fin 2048) :
    (k0_pay7 (F := Ideal) G X (ix2 r d) : EReal) = nrm (fun k => X (ix2 r k)) (G (ix2 0 d)) d := by
  unfold nrm; pointwise [k0_pay7]
theorem pay8_at (G : FVec Ideal S1x2048 .f32) (X : FVec Ideal S256x2048 .f32) (r : Fin 256) (d : Fin 2048) :
    (k0_pay8 (F := Ideal) G X (ix2 r d) : EReal) = nrm (fun k => X (ix2 r k)) (G (ix2 0 d)) d := by
  unfold nrm; pointwise [k0_pay8]
theorem pay1_at (G : FVec Ideal S1x2048 .f32) (X : FVec Ideal S256x2048 .f32) (r : Fin 256) (d : Fin 2048) :
    (k0_pay1 (F := Ideal) G X (k0_pay9 X) (ix2 r d) : EReal) = nrm (fun k => X (ix2 r k)) (G (ix2 0 d)) d := by
  unfold nrm; pointwise [k0_pay1, k0_pay9]
theorem pay2_at (G : FVec Ideal S1x2048 .f32) (X : FVec Ideal S256x2048 .f32) (r : Fin 256) (d : Fin 2048) :
    (k0_pay2 (F := Ideal) G X (ix2 r d) : EReal) = nrm (fun k => X (ix2 r k)) (G (ix2 0 d)) d := by
  unfold nrm; pointwise [k0_pay2]

theorem pay10_at (X : FVec Ideal S1024x2048 .bf16) (W : FVec Ideal S2048x1024 .bf16) (r : Fin 1024) (k : Fin 512) :
    (k0_pay10 (F := Ideal) X W (ix2 r k) : EReal) = hid X W r k := by
  unfold hid act
  pointwise [k0_pay10]
  by_cases h : k.val < 256
  · have e1 : gateCol k = ⟨k.val, by omega⟩ := Fin.ext (by show k.val / 256 * 512 + k.val % 256 = k.val; omega)
    have e2 : upCol k = ⟨256 + k.val, by omega⟩ := Fin.ext (by show k.val / 256 * 512 + 256 + k.val % 256 = 256 + k.val; omega)
    rw [dif_pos h, e1, e2]
  · have e1 : gateCol k = ⟨512 + (k.val - 256), by omega⟩ := Fin.ext (by show k.val / 256 * 512 + k.val % 256 = 512 + (k.val - 256); omega)
    have e2 : upCol k = ⟨768 + (k.val - 256), by omega⟩ := Fin.ext (by show k.val / 256 * 512 + 256 + k.val % 256 = 768 + (k.val - 256); omega)
    rw [dif_neg h, e1, e2]
/-- The two cases of the grid compute the same hidden tile. -/
theorem pay13_eq (X : FVec Ideal S1024x2048 .bf16) (W : FVec Ideal S2048x1024 .bf16) : k0_pay13 (F := Ideal) X W = k0_pay10 (F := Ideal) X W := rfl

/-- A column chunk of the result: what stood there and the product of the hidden tile with the chunk's weights. -/
def chunk (H : FVec Ideal S1024x512 .bf16) (D : FVec Ideal S512x512 .bf16) (A : FVec Ideal S1024x512 .f32) (r : Fin 1024) (j : Fin 512) : EReal :=
  A (ix2 r j) + ∑ k : Fin 512, H (ix2 r k) * D (ix2 k j)

variable (H : FVec Ideal S1024x512 .bf16) (X : FVec Ideal S1024x2048 .bf16) (W : FVec Ideal S2048x1024 .bf16)
  (D : FVec Ideal S512x512 .bf16) (A : FVec Ideal S1024x512 .f32) (r : Fin 1024) (j : Fin 512)
theorem pay3_at : (k0_pay3 (F := Ideal) H D A (ix2 r j) : EReal) = chunk H D A r j := by unfold chunk; pointwise [k0_pay3]
theorem pay4_at : (k0_pay4 (F := Ideal) H D A (ix2 r j) : EReal) = chunk H D A r j := by unfold chunk; pointwise [k0_pay4]
theorem pay5_at : (k0_pay5 (F := Ideal) H D A (ix2 r j) : EReal) = chunk H D A r j := by unfold chunk; pointwise [k0_pay5]
theorem pay6_at : (k0_pay6 (F := Ideal) H D A (ix2 r j) : EReal) = chunk H D A r j := by unfold chunk; pointwise [k0_pay6]
theorem pay11_at : (k0_pay11 (F := Ideal) X W D A (ix2 r j) : EReal) = chunk (k0_pay10 X W) D A r j := pay3_at _ D A r j
theorem pay12_at : (k0_pay12 (F := Ideal) X W D A (ix2 r j) : EReal) = chunk (k0_pay10 X W) D A r j := pay3_at _ D A r j
theorem pay14_at : (k0_pay14 (F := Ideal) X W D A (ix2 r j) : EReal) = chunk (k0_pay10 X W) D A r j := pay5_at _ D A r j
theorem pay15_at : (k0_pay15 (F := Ideal) X W D A (ix2 r j) : EReal) = chunk (k0_pay10 X W) D A r j := pay5_at _ D A r j

/-- The packed weights: columns in pairs of 256, the gate's beside the up-projection's. -/
theorem packed_at (A B : FVec Ideal S2048x5632 .bf16) (d : Fin 2048) (j : Fin 11264) : (shapeCast S2048x11264
      (concatenate S2048x22x2x256 2
        [⟨S2048x22x1x256, shapeCast S2048x22x1x256 A shapeCasts_S2048x5632_S2048x22x1x256⟩,
          ⟨S2048x22x1x256, shapeCast S2048x22x1x256 B shapeCasts_S2048x5632_S2048x22x1x256⟩]
        concatenates_S2048x22x1x256_S2048x22x1x256_S2048x22x2x256_d2)
      shapeCasts_S2048x22x2x256_S2048x11264 (ix2 d j) : EReal)
      = if _ : j.val / 256 % 2 < 1 then A (ix2 d ⟨j.val / 512 * 256 + j.val % 256, by omega⟩)
        else B (ix2 d ⟨j.val / 512 * 256 + j.val % 256, by omega⟩) := by
  pointwise []

/-- Half the down-projection. -/
theorem half_at (A : FVec Ideal S5632x2048 .f32) (d : Fin 5632) (j : Fin 2048) : (truncf (F := Ideal) FTy.bf16
      (mulf (broadcastInDim S5632x2048 ![] bcast_S_S5632x2048 (constant S_ FTy.f32 0x3F000000#32)) A)
      bitsLt_bf16_f32 (ix2 d j) : EReal) = Ideal.ofBits .f32 0x3F000000#32 * A (ix2 d j) := by
  pointwise []
end Cert.FT
end
-- ==== Proof.TailStep.lean ====
module

public import proofs.«01_k».proof.Proof.TailTile
public import Idealize.ShloMosaic.Lib.Pipeline.ReadBack

/-! One grid point of the feed-forward tail: what it leaves in the scratch and in the result block. -/

@[expose] public section
set_option maxRecDepth 16384
noncomputable section
namespace Cert.FT
open Idealize.ShloMosaic Idealize.ShloMosaic.TcCoe Idealize.SL.Sem
open Cert.TailIdeal Cert.TailIdeal.Gen

theorem eq_ix2 {a b : ℕ} (y : (⟨2, ![a, b]⟩ : Shape).Idx) : y = ix2 (y 0) (y 1) := by
  funext i; fin_cases i <;> rfl

/-- The normed rows of a block. -/
def xn (X : FVec Ideal S1024x2048 .f32) (G : FVec Ideal S1x2048 .f32) : FVec Ideal S1024x2048 .bf16 :=
  fun y => nrm (fun k => X (ix2 (y 0) k)) (G (ix2 0 (y 1))) (y 1)

/-- A chunk of 256 normed rows is the block's normed rows at those rows. -/
theorem nrm_ld (X : FVec Ideal S1024x2048 .f32) (G : FVec Ideal S1x2048 .f32) (o : ℕ)
    (h : ∀ a, (![o, 0] : Fin 2 → ℕ) a + (![256, 2048] : Fin 2 → ℕ) a ≤ S1024x2048.size a) (r : Fin 256) (d : Fin 2048)
    (y : S1024x2048.Idx) (h0 : (y 0).val = o + r.val) (h1 : (y 1).val = d.val) :
    nrm (fun k => View.ld (Val := Elt Ideal) (e' := .f32) X (Rect.unit ![o, 0] ![256, 2048] h) (ix2 r k)) (G (ix2 0 d)) d = xn X G y := by
  have e : y 1 = d := Fin.ext h1
  unfold xn
  rw [e]
  congr 1
  funext k
  exact View.ld_unit_apply_of (Val := Elt Ideal) (S := S1024x2048) (e := .f32) X _ _ h (ix2 r k) (ix2 (y 0) k) (fun a => by
    fin_cases a
    · exact h0
    · exact (Nat.zero_add _).symm)

/-- A column chunk of the result reads its columns of the weights and of what stood there. -/
theorem chunk_ld (H : FVec Ideal S1024x512 .bf16) (D : FVec Ideal S512x2048 .bf16) (A : FVec Ideal S1024x2048 .f32) (o : ℕ)
    (hD : ∀ a, (![0, o] : Fin 2 → ℕ) a + (![512, 512] : Fin 2 → ℕ) a ≤ S512x2048.size a)
    (hA : ∀ a, (![0, o] : Fin 2 → ℕ) a + (![1024, 512] : Fin 2 → ℕ) a ≤ S1024x2048.size a) (r : Fin 1024) (j : Fin 512)
    (y : S1024x2048.Idx) (h0 : (y 0).val = r.val) (h1 : (y 1).val = o + j.val) :
    chunk H (View.ld (Val := Elt Ideal) (e' := .bf16) D (Rect.unit ![0, o] ![512, 512] hD))
      (View.ld (Val := Elt Ideal) (e' := .f32) A (Rect.unit ![0, o] ![1024, 512] hA)) r j
      = A y + ∑ k : Fin 512, H (ix2 (y 0) k) * D (ix2 k (y 1)) := by
  have e : y 0 = r := Fin.ext h0
  unfold chunk
  rw [e]
  refine congrArg₂ (fun a b : EReal => a + b) ?_ (Finset.sum_congr rfl fun k _ => congrArg (fun b : EReal => H (ix2 r k) * b) ?_)
  · exact View.ld_unit_apply_of (Val := Elt Ideal) (S := S1024x2048) (e := .f32) A _ _ hA (ix2 r j) y (fun a => by
      fin_cases a
      · exact h0.trans (Nat.zero_add _).symm
      · exact h1)
  · exact View.ld_unit_apply_of (Val := Elt Ideal) (S := S512x2048) (e := .bf16) D _ _ hD (ix2 k j) (ix2 k (y 1)) (fun a => by
      fin_cases a
      · exact (Nat.zero_add _).symm
      · exact h1)

/-- The scratch read back after its four stores holds the block's normed rows. -/
theorem read_scratch (X : FVec Ideal S1024x2048 .f32) (G : FVec Ideal S1x2048 .f32) : (View.whole cc0_scratch0).readCov (Val := Elt Ideal)
        [⟨Rect.unit ![768, 0] ![256, 2048] inb_S1024x2048_S256x2048_768_0,
            k0_pay2 (F := Ideal) G (View.ld (Val := Elt Ideal) (e' := .f32) X (Rect.unit ![768, 0] ![256, 2048] inb_S1024x2048_S256x2048_768_0))⟩,
          ⟨Rect.unit ![512, 0] ![256, 2048] inb_S1024x2048_S256x2048_512_0,
            k0_pay1 (F := Ideal) G (View.ld (Val := Elt Ideal) (e' := .f32) X (Rect.unit ![512, 0] ![256, 2048] inb_S1024x2048_S256x2048_512_0))
              (k0_pay9 (F := Ideal) (View.ld (Val := Elt Ideal) (e' := .f32) X (Rect.unit ![512, 0] ![256, 2048] inb_S1024x2048_S256x2048_512_0)))⟩,
          ⟨Rect.unit ![256, 0] ![256, 2048] inb_S1024x2048_S256x2048_256_0,
            k0_pay8 (F := Ideal) G (View.ld (Val := Elt Ideal) (e' := .f32) X (Rect.unit ![256, 0] ![256, 2048] inb_S1024x2048_S256x2048_256_0))⟩,
          ⟨Rect.unit ![0, 0] ![256, 2048] inb_S1024x2048_S256x2048_0_0,
            k0_pay7 (F := Ideal) G (View.ld (Val := Elt Ideal) (e' := .f32) X (Rect.unit ![0, 0] ![256, 2048] inb_S1024x2048_S256x2048_0_0))⟩]
        (Rect.unit ![0, 0] ![1024, 2048] inb_S1024x2048_S1024x2048_0_0).toLoadRect = xn X G := by
  rw [View.readCov_eq_canon']
  funext z
  have e : (Rect.unit (s := S1024x2048) ![0, 0] ![1024, 2048] inb_S1024x2048_S1024x2048_0_0).toLoadRect.idx z = z :=
    funext fun a => Fin.ext ((Rect.idx_unit_val _ _ _ z a).trans (by fin_cases a <;> exact Nat.zero_add _))
  simp only [e]
  generalize hG : xn X G = Y
  canon_tiles z hz
  all_goals subst hG; rw [eq_ix2 z]
  · exact (pay2_at G _ _ _).trans (nrm_ld X G _ _ _ _ _ hz0 hz1)
  · exact (pay1_at G _ _ _).trans (nrm_ld X G _ _ _ _ _ hz0 hz1)
  · exact (pay8_at G _ _ _).trans (nrm_ld X G _ _ _ _ _ hz0 hz1)
  · exact (pay7_at G _ _ _).trans (nrm_ld X G _ _ _ _ _ (hz0.trans (Nat.zero_add _).symm) hz1)

/-- What a grid point adds to the entry `y` of the result block, from its normed rows, packed weights and down-projection. -/
def part (X : FVec Ideal S1024x2048 .bf16) (W : FVec Ideal S2048x1024 .bf16) (D : FVec Ideal S512x2048 .bf16) (y : S1024x2048.Idx) : EReal :=
  ∑ k : Fin 512, hid X W (y 0) k * D (ix2 k (y 1))

theorem part_ld (X : FVec Ideal S1024x2048 .bf16) (W : FVec Ideal S2048x1024 .bf16) (D : FVec Ideal S512x2048 .bf16) (A : FVec Ideal S1024x2048 .f32) (o : ℕ)
    (hD : ∀ a, (![0, o] : Fin 2 → ℕ) a + (![512, 512] : Fin 2 → ℕ) a ≤ S512x2048.size a)
    (hA : ∀ a, (![0, o] : Fin 2 → ℕ) a + (![1024, 512] : Fin 2 → ℕ) a ≤ S1024x2048.size a) (r : Fin 1024) (j : Fin 512)
    (y : S1024x2048.Idx) (h0 : (y 0).val = r.val) (h1 : (y 1).val = o + j.val) :
    chunk (k0_pay10 (F := Ideal) X W) (View.ld (Val := Elt Ideal) (e' := .bf16) D (Rect.unit ![0, o] ![512, 512] hD))
      (View.ld (Val := Elt Ideal) (e' := .f32) A (Rect.unit ![0, o] ![1024, 512] hA)) r j = A y + part X W D y := by
  rw [chunk_ld _ D A o hD hA r j y h0 h1]
  unfold part
  refine congrArg (fun b : EReal => A y + b) (Finset.sum_congr rfl fun k _ => congrArg (fun b : EReal => b * D (ix2 k (y 1))) ?_)
  exact pay10_at X W (y 0) k

/-- An entry of a block of the stream, as a number. -/
def at2 (X : FVec Ideal S1024x2048 .f32) (y : S1024x2048.Idx) : EReal := X y

variable (m : (ℓ : Loc nD τ sig) → Buf (Elt Ideal) ℓ) (c : Dev nD)

/-- The first point of a row tile writes the normed rows into the scratch. -/
theorem scratchA (t : Fin cfg0.N) (h0 : t.val % 11 = 0) :
    (outsAt0 m c t.val t.isLt).2 = xn (iblk m c 0 t) (iblk m c 1 t) := by
  funext z
  rw [outsAt0_A m c t h0 h0 (by omega)]
  frame_out
  generalize iblk m c 0 t = X
  generalize iblk m c 1 t = G
  generalize hG : xn X G = Y
  canon_tiles z hz
  all_goals subst hG; rw [eq_ix2 z]
  · exact (pay2_at G _ _ _).trans (nrm_ld X G _ _ _ _ _ hz0 hz1)
  · exact (pay1_at G _ _ _).trans (nrm_ld X G _ _ _ _ _ hz0 hz1)
  · exact (pay8_at G _ _ _).trans (nrm_ld X G _ _ _ _ _ hz0 hz1)
  · exact (pay7_at G _ _ _).trans (nrm_ld X G _ _ _ _ _ (hz0.trans (Nat.zero_add _).symm) hz1)

/-- The later points leave the scratch. -/
theorem scratchB (t : Fin cfg0.N) (h0 : ¬ t.val % 11 = 0) :
    (outsAt0 m c t.val t.isLt).2 = (outsAt0 m c (t.val - 1) (by omega)).2 := by
  rw [outsAt0_B m c t h0 h0 (by omega)]
  rfl

/-- The first point of a row tile writes the block of `x` and its part. -/
theorem stepA (t : Fin cfg0.N) (h0 : t.val % 11 = 0) (y : S1024x2048.Idx) :
    ((outsAt0 m c t.val t.isLt).1 y : EReal)
      = at2 (iblk m c 0 t) y + part (xn (iblk m c 0 t) (iblk m c 1 t)) (iblk m c 2 t) (iblk m c 3 t) y := by
  rw [outsAt0_A m c t h0 h0 (by omega)]
  frame_out
  generalize iblk m c 0 t = X
  generalize iblk m c 1 t = G
  generalize iblk m c 2 t = W
  generalize iblk m c 3 t = D
  rw [read_scratch X G]
  generalize hG : at2 X y + part (xn X G) W D y = Y
  canon_tiles y hy
  all_goals subst hG; rw [eq_ix2 y]
  · exact (pay4_at _ _ _ _ _).trans (part_ld _ W D X _ _ _ _ _ _ hy0 hy1)
  · exact (pay3_at _ _ _ _ _).trans (part_ld _ W D X _ _ _ _ _ _ hy0 hy1)
  · exact (pay12_at _ _ _ _ _ _).trans (part_ld _ W D X _ _ _ _ _ _ hy0 hy1)
  · exact (pay11_at _ _ _ _ _ _).trans (part_ld _ W D X _ _ _ _ _ _ hy0 (hy1.trans (Nat.zero_add _).symm))

/-- A later point adds its part. -/
theorem stepB (t : Fin cfg0.N) (h0 : ¬ t.val % 11 = 0) (y : S1024x2048.Idx) :
    ((outsAt0 m c t.val t.isLt).1 y : EReal)
      = at2 (outsAt0 m c (t.val - 1) (by omega)).1 y + part (outsAt0 m c (t.val - 1) (by omega)).2 (iblk m c 2 t) (iblk m c 3 t) y := by
  rw [outsAt0_B m c t h0 h0 (by omega)]
  frame_out
  generalize outsAt0 m c (t.val - 1) _ = P
  generalize iblk m c 2 t = W
  generalize iblk m c 3 t = D
  generalize hG : at2 P.1 y + part P.2 W D y = Y
  canon_tiles y hy
  all_goals subst hG; rw [eq_ix2 y, read_unread_whole]
  · exact (pay6_at _ _ _ _ _).trans (part_ld _ W D P.1 _ _ _ _ _ _ hy0 hy1)
  · exact (pay5_at _ _ _ _ _).trans (part_ld _ W D P.1 _ _ _ _ _ _ hy0 hy1)
  · exact (pay15_at _ _ _ _ _ _).trans (part_ld _ W D P.1 _ _ _ _ _ _ hy0 hy1)
  · exact (pay14_at _ _ _ _ _ _).trans (part_ld _ W D P.1 _ _ _ _ _ _ hy0 (hy1.trans (Nat.zero_add _).symm))
end Cert.FT
end
-- ==== Proof.TailValue.lean ====
module

public import proofs.«01_k».proof.Proof.TailStep
public import Idealize.ShloMosaic.Lib.Claim

/-! The feed-forward tail's result array after its launch, entry by entry over the arguments. -/

@[expose] public section
set_option maxRecDepth 16384
noncomputable section
namespace Cert.FT
open Idealize.ShloMosaic Idealize.ShloMosaic.TcCoe Idealize.SL.Sem
open Cert.TailIdeal Cert.TailIdeal.Gen

section formula
variable (X : FVec Ideal S8192x2048 .f32) (G : FVec Ideal S1x2048 .f32) (Wg Wu : FVec Ideal S2048x5632 .f32) (Wd : FVec Ideal S5632x2048 .f32)

/-- The normed stream. -/
def nrmG (R : Fin 8192) (d : Fin 2048) : EReal := nrm (fun k => X (ix2 R k)) (G (ix2 0 d)) d

/-- The hidden layer: the gate's activation times the up-projection. -/
def hidG (R : Fin 8192) (q : Fin 5632) : EReal :=
  act (∑ d : Fin 2048, nrmG X G R d * Wg (ix2 d q)) (∑ d : Fin 2048, nrmG X G R d * Wu (ix2 d q))

/-- Hidden column `q`'s share of entry `(R, j)` of the result, the down-projection halved. -/
def term (R : Fin 8192) (j : Fin 2048) (q : Fin 5632) : EReal :=
  hidG X G Wg Wu R q * (Ideal.ofBits .f32 0x3F000000#32 * Wd (ix2 q j))

/-- `term` at any natural number, zero beyond the hidden width. -/
def termN (R : Fin 8192) (j : Fin 2048) (q : ℕ) : EReal := if h : q < 5632 then term X G Wg Wu Wd R j ⟨q, h⟩ else 0

/-- The kernel's result. -/
def tail (y : S8192x2048.Idx) : EReal := X y + ∑ q : Fin 5632, term X G Wg Wu Wd (y 0) (y 1) q
end formula

variable (m : (ℓ : Loc nD τ sig) → Buf (Elt Ideal) ℓ) (c : Dev nD)

abbrev aX : FVec Ideal S8192x2048 .f32 := m (c.tc.loc main_arg0)
abbrev aG : FVec Ideal S1x2048 .f32 := m (c.tc.loc main_arg1)
abbrev aWg : FVec Ideal S2048x5632 .f32 := m (c.tc.loc main_arg2)
abbrev aWu : FVec Ideal S2048x5632 .f32 := m (c.tc.loc main_arg3)
abbrev aWd : FVec Ideal S5632x2048 .f32 := m (c.tc.loc main_arg4)

/-- Which blocks a grid point reads. -/
theorem idx : ∀ t : Fin cfg0.N, win0_0.index t = ![t.val / 11, 0] ∧ win0_1.index t = ![0, 0]
    ∧ win0_2.index t = ![0, t.val % 11] ∧ win0_3.index t = ![t.val % 11, 0] ∧ win0_4.index t = ![t.val / 11, 0] :=
  (by decide +kernel : ∀ t : Fin grid0.N, _)

theorem lt88 (t : Fin cfg0.N) : t.val < 88 := lt_of_lt_of_eq t.isLt N_0

/-- The array's row at row `r` of a grid point's tile. -/
def row (t : Fin cfg0.N) (r : Fin 1024) : Fin 8192 := ⟨t.val / 11 * 1024 + r.val, by have := lt88 t; omega⟩

theorem blk0 (t : Fin cfg0.N) (r : Fin 1024) (d : Fin 2048) :
    (iblk m c 0 t : FVec Ideal S1024x2048 .f32) (ix2 r d) = aX m c (ix2 (row t r) d) := by
  unfold row
  blk_ext [iblk, V, idx t]

theorem blk0_at (t : Fin cfg0.N) (y : S1024x2048.Idx) : at2 (iblk m c 0 t) y = aX m c (ix2 (row t (y 0)) (y 1)) :=
  (congrArg (at2 (iblk m c 0 t)) (eq_ix2 y)).trans (blk0 m c t (y 0) (y 1))

theorem blk1 (t : Fin cfg0.N) (d : Fin 2048) :
    (iblk m c 1 t : FVec Ideal S1x2048 .f32) (ix2 0 d) = aG m c (ix2 0 d) := by
  blk_ext [iblk, V, idx t]

theorem blk2 (t : Fin cfg0.N) (d : Fin 2048) (k : Fin 1024) :
    (iblk m c 2 t : FVec Ideal S2048x1024 .bf16) (ix2 d k) = V m c main_v5 (ix2 d (⟨t.val % 11 * 1024 + k.val, by omega⟩ : Fin 11264)) := by
  blk_ext [iblk, idx t]

theorem blk3 (t : Fin cfg0.N) (k : Fin 512) (j : Fin 2048) :
    (iblk m c 3 t : FVec Ideal S512x2048 .bf16) (ix2 k j) = V m c main_v8 (ix2 (⟨t.val % 11 * 512 + k.val, by omega⟩ : Fin 5632) j) := by
  blk_ext [iblk, idx t]

/-- The launch's packed weights. -/
theorem entry5 (d : Fin 2048) (j : Fin 11264) : (V m c main_v5 (ix2 d j) : EReal)
      = if _ : j.val / 256 % 2 < 1 then aWg m c (ix2 d ⟨j.val / 512 * 256 + j.val % 256, by omega⟩)
        else aWu m c (ix2 d ⟨j.val / 512 * 256 + j.val % 256, by omega⟩) := by
  entry_read
  exact packed_at _ _ d j

/-- The launch's halved down-projection. -/
theorem entry8 (q : Fin 5632) (j : Fin 2048) : (V m c main_v8 (ix2 q j) : EReal) = Ideal.ofBits .f32 0x3F000000#32 * aWd m c (ix2 q j) := by
  entry_read
  exact half_at _ q j

/-- The hidden column of the array at hidden column `k` of a grid point's tile. -/
def hcol (t : Fin cfg0.N) (k : Fin 512) : Fin 5632 := ⟨t.val % 11 * 512 + k.val, by omega⟩

theorem gate_at (t : Fin cfg0.N) (d : Fin 2048) (k : Fin 512) :
    ((iblk m c 2 t : FVec Ideal S2048x1024 .bf16) (ix2 d (gateCol k)) : EReal) = aWg m c (ix2 d (hcol t k)) := by
  rw [blk2, entry5, dif_pos (by simp only [gateCol]; omega)]
  exact congrArg (aWg m c) (congrArg (ix2 d) (Fin.ext (by simp only [gateCol, hcol]; omega)))

theorem up_at (t : Fin cfg0.N) (d : Fin 2048) (k : Fin 512) :
    ((iblk m c 2 t : FVec Ideal S2048x1024 .bf16) (ix2 d (upCol k)) : EReal) = aWu m c (ix2 d (hcol t k)) := by
  rw [blk2, entry5, dif_neg (by simp only [upCol]; omega)]
  exact congrArg (aWu m c) (congrArg (ix2 d) (Fin.ext (by simp only [upCol, hcol]; omega)))

theorem down_at (t : Fin cfg0.N) (k : Fin 512) (j : Fin 2048) :
    ((iblk m c 3 t : FVec Ideal S512x2048 .bf16) (ix2 k j) : EReal) = Ideal.ofBits .f32 0x3F000000#32 * aWd m c (ix2 (hcol t k) j) := by
  rw [blk3, entry8]; rfl

/-- The normed rows of a tile are the normed stream's. -/
theorem xn_at (t : Fin cfg0.N) (r : Fin 1024) (d : Fin 2048) :
    (xn (iblk m c 0 t) (iblk m c 1 t) (ix2 r d) : EReal) = nrmG (aX m c) (aG m c) (row t r) d := by
  show nrm (fun k => (iblk m c 0 t : FVec Ideal S1024x2048 .f32) (ix2 r k)) ((iblk m c 1 t : FVec Ideal S1x2048 .f32) (ix2 0 d)) d = _
  unfold nrmG
  rw [blk1, funext (fun k => blk0 m c t r k)]

/-- A grid point's part is its 512 hidden columns' share. -/
theorem part_at (t : Fin cfg0.N) (y : S1024x2048.Idx) :
    part (xn (iblk m c 0 t) (iblk m c 1 t)) (iblk m c 2 t) (iblk m c 3 t) y
      = ∑ k ∈ Finset.range 512, termN (aX m c) (aG m c) (aWg m c) (aWu m c) (aWd m c) (row t (y 0)) (y 1) (512 * (t.val % 11) + k) := by
  rw [Finset.sum_range]
  unfold part
  refine Finset.sum_congr rfl fun k _ => ?_
  have hk : 512 * (t.val % 11) + k.val < 5632 := by have := k.isLt; omega
  unfold termN
  rw [dif_pos hk]
  have e : (⟨512 * (t.val % 11) + k.val, hk⟩ : Fin 5632) = hcol t k := Fin.ext (by simp only [hcol]; omega)
  rw [e]
  unfold term hid hidG
  refine congrArg₂ (fun a b : EReal => a * b) (congrArg₂ act ?_ ?_) (down_at m c t k (y 1))
  · exact Finset.sum_congr rfl fun d _ => congrArg₂ (fun a b : EReal => a * b) (xn_at m c t (y 0) d) (gate_at m c t d k)
  · exact Finset.sum_congr rfl fun d _ => congrArg₂ (fun a b : EReal => a * b) (xn_at m c t (y 0) d) (up_at m c t d k)

/-- Within a row tile the points read the same rows. -/
theorem xn_step (t s : Fin cfg0.N) (h : t.val / 11 = s.val / 11) :
    xn (iblk m c 0 t) (iblk m c 1 t) = xn (iblk m c 0 s) (iblk m c 1 s) := by
  funext y
  rw [eq_ix2 y]
  have e : row t (y 0) = row s (y 0) := Fin.ext (by simp only [row, h])
  exact (xn_at m c t (y 0) (y 1)).trans ((congrArg (fun R => nrmG (aX m c) (aG m c) R (y 1)) e).trans (xn_at m c s (y 0) (y 1)).symm)

/-- What stands in the scratch and the result block after each grid point. -/
theorem inv (n : ℕ) : ∀ h : n < cfg0.N,
    (outsAt0 m c n h).2 = xn (iblk m c 0 ⟨n, h⟩) (iblk m c 1 ⟨n, h⟩)
    ∧ ∀ y : S1024x2048.Idx, ((outsAt0 m c n h).1 y : EReal) = aX m c (ix2 (row ⟨n, h⟩ (y 0)) (y 1))
      + ∑ q ∈ Finset.range (512 * (n % 11) + 512), termN (aX m c) (aG m c) (aWg m c) (aWu m c) (aWd m c) (row ⟨n, h⟩ (y 0)) (y 1) q := by
  induction n with
  | zero =>
    intro h
    refine ⟨scratchA m c ⟨0, h⟩ rfl, fun y => ?_⟩
    refine (stepA m c ⟨0, h⟩ rfl y).trans ?_
    rw [part_at, blk0_at]
    simp only [Nat.zero_mod, Nat.mul_zero, Nat.zero_add]
  | succ n ih =>
    intro h
    by_cases h0 : (n + 1) % 11 = 0
    · refine ⟨scratchA m c ⟨n + 1, h⟩ h0, fun y => ?_⟩
      refine (stepA m c ⟨n + 1, h⟩ h0 y).trans ?_
      rw [part_at, blk0_at]
      simp only [h0, Nat.mul_zero, Nat.zero_add]
    · obtain ⟨i2, i1⟩ := ih (by omega)
      have hx := xn_step m c ⟨n, by omega⟩ ⟨n + 1, h⟩ (show n / 11 = (n + 1) / 11 by omega)
      refine ⟨(scratchB m c ⟨n + 1, h⟩ h0).trans (i2.trans hx), fun y => ?_⟩
      refine (stepB m c ⟨n + 1, h⟩ h0 y).trans ?_
      have e2 : (outsAt0 m c (n + 1 - 1) (by omega)).2 = xn (iblk m c 0 ⟨n + 1, h⟩) (iblk m c 1 ⟨n + 1, h⟩) := i2.trans hx
      have e1 : at2 (outsAt0 m c (n + 1 - 1) (by omega)).1 y = _ := i1 y
      have er : row ⟨n, by omega⟩ (y 0) = row ⟨n + 1, h⟩ (y 0) := Fin.ext (by simp only [row]; omega)
      have en : 512 * ((n + 1) % 11) = 512 * (n % 11) + 512 := by omega
      show at2 (outsAt0 m c (n + 1 - 1) (by omega)).1 y + part (outsAt0 m c (n + 1 - 1) (by omega)).2 _ _ y = _
      rw [e2, e1, part_at, er]
      show _ + ∑ k ∈ Finset.range 512, termN _ _ _ _ _ _ _ (512 * ((n + 1) % 11) + k) = _
      rw [en, Finset.sum_range_add _ (512 * (n % 11) + 512) 512, add_assoc]

/-- The result array after the run. -/
theorem final : (dats m 0 c).arrAt 4 cfg0.N = tail (aX m c) (aG m c) (aWg m c) (aWu m c) (aWd m c) := by
  refine (dats m 0 c).arrAt_eq_of_covers 4 _ (by decide +kernel) fun t hf y => ?_
  blk_simp
  rw [after0_4]
  have h10 := (flush0_4 t).mp hf
  refine ((inv m c t.val t.isLt).2 y).trans ?_
  rw [h10]
  have e : ∀ i : S8192x2048.Idx, i = ix2 (row t (y 0)) (y 1) →
      aX m c (ix2 (row t (y 0)) (y 1)) + ∑ q ∈ Finset.range (512 * 10 + 512), termN (aX m c) (aG m c) (aWg m c) (aWu m c) (aWd m c) (row t (y 0)) (y 1) q
        = tail (aX m c) (aG m c) (aWg m c) (aWu m c) (aWd m c) i := by
    rintro i rfl
    unfold tail
    rw [Finset.sum_range]
    exact congrArg (fun b : EReal => aX m c (ix2 (row t (y 0)) (y 1)) + b) (Finset.sum_congr rfl fun q _ => dif_pos q.isLt)
  refine e _ ?_
  unfold row
  blk_ext [idx t]
end Cert.FT
end
-- ==== Proof.RefTail.lean ====
module

public import proofs.«01_k».proof.Proof.Gen.TailReferenceIdeal
public import proofs.«01_k».proof.Proof.TailValue
public import Idealize.ShloMosaic.Lib.Claim
public import Idealize.ShloMosaic.Lib.Pipeline.ValueKit

/-! The second reference: the feed-forward half-step's result as a term over its arguments, its run, and the
   equality of that term with the kernel's result. -/

@[expose] public section
set_option maxRecDepth 16384
noncomputable section
namespace Cert.RefFT
open Idealize.ShloMosaic Idealize.SL.Sem
open Cert.TailReferenceIdeal Cert.TailReferenceIdeal.Gen

/-- The RMS norm of the stream. -/
def normed (X : FVec Ideal S8192x2048 .f32) (G : FVec Ideal S1x2048 .f32) : FVec Ideal S8192x2048 .f32 :=
  mulf (mulf X (broadcastInDim S8192x2048 ![0, 1] bcast_S8192x1_S8192x2048_0_1
    (Host.rsqrt (addf (Host.divf (broadcastInDim S8192x1 ![0] bcast_S8192_S8192x1_0
        (Host.reduceAdd (mulf X X) (constant S_ .f32 0x00000000#32) reducesTo_S8192x2048_S8192_d1 h_S_))
        (broadcastInDim S8192x1 ![] bcast_S_S8192x1 (constant S_ .f32 0x45000000#32)))
      (broadcastInDim S8192x1 ![] bcast_S_S8192x1 (constant S_ .f32 0x358637BD#32))))))
    (broadcastInDim S8192x2048 ![0, 1] bcast_S1x2048_S8192x2048_0_1 G)

/-- The sigmoid-weighted unit. -/
def silu (Z : FVec Ideal S8192x5632 .f32) : FVec Ideal S8192x5632 .f32 :=
  mulf Z (Host.divf (broadcastInDim S8192x5632 ![] bcast_S_S8192x5632 (constant S_ .f32 0x3F800000#32))
    (addf (broadcastInDim S8192x5632 ![] bcast_S_S8192x5632 (constant S_ .f32 0x3F800000#32)) (Host.exp (Host.negf Z))))

/-- The hidden layer. -/
def hidden (N : FVec Ideal S8192x2048 .f32) (Wg Wu : FVec Ideal S2048x5632 .f32) : FVec Ideal S8192x5632 .f32 :=
  mulf (silu (Host.dotGeneral dot_S8192x2048_S2048x5632_S8192x5632_1_0_0_1_n_n none N Wg))
    (Host.dotGeneral dot_S8192x2048_S2048x5632_S8192x5632_1_0_0_1_n_n none N Wu)

/-- The reference's result over its arguments. -/
def REF (X : FVec Ideal S8192x2048 .f32) (G : FVec Ideal S1x2048 .f32) (Wg Wu : FVec Ideal S2048x5632 .f32) (Wd : FVec Ideal S5632x2048 .f32) :
    FVec Ideal S8192x2048 .f32 :=
  addf X (mulf (broadcastInDim S8192x2048 ![] bcast_S_S8192x2048 (constant S_ .f32 0x3F000000#32))
    (Host.dotGeneral dot_S8192x5632_S5632x2048_S8192x2048_1_0_0_1_n_n none (hidden (normed X G) Wg Wu) Wd))

variable (m : (ℓ : Loc nD τ sig) → Buf (Elt Ideal) ℓ) (g : Dev nD → PrngReg)

set_option maxHeartbeats 4000000 in
/-- The reference runs and its result array ends holding `REF` of its arguments. -/
theorem run : θ_run (defs (F := Ideal)) (onTc (τ := τ) (main (F := Ideal))) ⟨m, fun _ => 0, g⟩ (fun r => ∀ c : Dev nD,
          r.2.mem ((c.tc : Thread nD τ).loc main_v19)
            = REF (m (c.tc.loc main_arg0)) (m (c.tc.loc main_arg1)) (m (c.tc.loc main_arg2)) (m (c.tc.loc main_arg3)) (m (c.tc.loc main_arg4))) := by
  hlo_run
  simp -implicitDefEqProofs only [StableHlo.TRef.ofBuf_toBuf, StableHlo.TRef.toBuf, StableHlo.TRef.ofBuf, cast_eq, id]
  unfold REF hidden silu normed
  rfl

set_option maxHeartbeats 400000 in
/-- The reference runs and leaves its arguments as they were. -/
theorem args : θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run

/-- The exponential of an extended real is at least zero. -/
theorem exp_nonneg (z : EReal) : 0 ≤ Ideal.exp z := by
  induction z with
  | bot => exact le_refl _
  | top => exact le_top
  | coe r => exact EReal.coe_nonneg.mpr (Real.exp_pos r).le

/-- Dividing by `1 + exp (-z)` is multiplying by its reciprocal. -/
theorem act_eq (z u : EReal) : z * Ideal.div 1 (1 + Ideal.exp (-z)) * u = Cert.FT.act z u := by
  have h : (1 + Ideal.exp (-z) : EReal) ≠ 0 :=
    (lt_of_lt_of_le zero_lt_one (le_add_of_nonneg_right (exp_nonneg _))).ne'
  unfold Cert.FT.act
  rw [zero_sub, Ideal.div, Ideal.div, if_neg h, if_neg h, one_mul]

/-- One half. -/
theorem half_eq : Ideal.ofBits .f32 0x3F000000#32 = ((1 / 2 : ℝ) : EReal) := by
  simp [Ideal.ofBits, Ideal.ieee]; rw [← EReal.coe_mul]; norm_num

/-- A nonnegative number passes into a sum of extended reals. -/
theorem mul_sum_coe {ι : Type} (s : Finset ι) (f : ι → EReal) (a : ℝ) (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.mpr ha) (EReal.coe_ne_top a) _ _

theorem normed_at (X : FVec Ideal S8192x2048 .f32) (G : FVec Ideal S1x2048 .f32) (R : Fin 8192) (d : Fin 2048) :
    (normed X G (ix2 R d) : EReal) = Cert.FT.nrmG X G R d := by
  unfold Cert.FT.nrmG Cert.FT.nrm
  pointwise [normed]

theorem hidden_at (N : FVec Ideal S8192x2048 .f32) (Wg Wu : FVec Ideal S2048x5632 .f32) (R : Fin 8192) (q : Fin 5632) :
    (hidden N Wg Wu (ix2 R q) : EReal)
      = Cert.FT.act (∑ d : Fin 2048, N (ix2 R d) * Wg (ix2 d q)) (∑ d : Fin 2048, N (ix2 R d) * Wu (ix2 d q)) := by
  rw [← act_eq]
  pointwise [hidden, silu]

theorem out_at (X : FVec Ideal S8192x2048 .f32) (H : FVec Ideal S8192x5632 .f32) (Wd : FVec Ideal S5632x2048 .f32) (R : Fin 8192) (j : Fin 2048) :
    (addf X (mulf (broadcastInDim S8192x2048 ![] bcast_S_S8192x2048 (constant S_ .f32 0x3F000000#32))
      (Host.dotGeneral dot_S8192x5632_S5632x2048_S8192x2048_1_0_0_1_n_n none H Wd)) (ix2 R j) : EReal)
      = X (ix2 R j) + Ideal.ofBits .f32 0x3F000000#32 * ∑ q : Fin 5632, H (ix2 R q) * Wd (ix2 q j) := by
  pointwise []

/-- The reference's result is the kernel's. -/
theorem ref_eq (X : FVec Ideal S8192x2048 .f32) (G : FVec Ideal S1x2048 .f32) (Wg Wu : FVec Ideal S2048x5632 .f32) (Wd : FVec Ideal S5632x2048 .f32) :
    REF X G Wg Wu Wd = Cert.FT.tail X G Wg Wu Wd := by
  funext y
  rw [Cert.FT.eq_ix2 y]
  refine (out_at X _ Wd (y 0) (y 1)).trans ?_
  refine congrArg (fun b : EReal => X (ix2 (y 0) (y 1)) + b) ?_
  rw [half_eq, mul_sum_coe _ _ _ (by norm_num)]
  refine Finset.sum_congr rfl fun q _ => ?_
  have e : (hidden (normed X G) Wg Wu (ix2 (y 0) q) : EReal) = Cert.FT.hidG X G Wg Wu (y 0) q := by
    refine (hidden_at (normed X G) Wg Wu (y 0) q).trans ?_
    unfold Cert.FT.hidG
    exact congrArg₂ Cert.FT.act (Finset.sum_congr rfl fun d _ => congrArg (fun b : EReal => b * Wg (ix2 d q)) (normed_at X G (y 0) d))
      (Finset.sum_congr rfl fun d _ => congrArg (fun b : EReal => b * Wu (ix2 d q)) (normed_at X G (y 0) d))
  show _ = Cert.FT.hidG X G Wg Wu (y 0) q * (Ideal.ofBits .f32 0x3F000000#32 * Wd (ix2 q (y 1)))
  rw [half_eq, e]
  exact mul_left_comm _ _ _
end Cert.RefFT
end
-- ==== Proof.RestStep2.lean ====
module

public import proofs.«01_k».proof.Proof.RestIdealOut
public import proofs.«01_k».proof.Proof.TailStep

/-! One grid point of the first half-step over the sequence rows: what it leaves in the scratch and in the result block. -/

@[expose] public section
set_option maxRecDepth 16384
noncomputable section
namespace Cert.FR
open Idealize.ShloMosaic Idealize.ShloMosaic.TcCoe Idealize.SL.Sem
open Cert.RestIdeal Cert.RestIdeal.Gen Cert.RestIdeal.Body Cert.FT

/-- The hidden tile of a grid point. -/
abbrev ht (X : FVec Ideal S1024x2048 .bf16) (W : FVec Ideal S2048x1024 .bf16) : FVec Ideal S1024x512 .bf16 :=
  Cert.TailIdeal.Gen.k0_pay10 (F := Ideal) X W

section payloads
variable (G : FVec Ideal S1x2048 .f32) (Z : FVec Ideal S256x2048 .f32) (X : FVec Ideal S1024x2048 .bf16) (W : FVec Ideal S2048x1024 .bf16)
  (D : FVec Ideal S512x512 .bf16) (A : FVec Ideal S1024x512 .f32) (r : Fin 1024) (j : Fin 512) (s : Fin 256) (d : Fin 2048)
theorem n8 : (k0_pay8 (F := Ideal) G Z (ix2 s d) : EReal) = nrm (fun k => Z (ix2 s k)) (G (ix2 0 d)) d := pay7_at G Z s d
theorem n9 : (k0_pay9 (F := Ideal) G Z (ix2 s d) : EReal) = nrm (fun k => Z (ix2 s k)) (G (ix2 0 d)) d := pay8_at G Z s d
theorem n1 : (k0_pay1 (F := Ideal) G Z (k0_pay10 Z) (ix2 s d) : EReal) = nrm (fun k => Z (ix2 s k)) (G (ix2 0 d)) d := pay1_at G Z s d
theorem n2 : (k0_pay2 (F := Ideal) G Z (ix2 s d) : EReal) = nrm (fun k => Z (ix2 s k)) (G (ix2 0 d)) d := pay2_at G Z s d
theorem c4 : (k0_pay4 (F := Ideal) (k0_pay13 X W) (k0_pay14 X W) D A (ix2 r j) : EReal) = chunk (ht X W) D A r j := pay3_at (ht X W) D A r j
theorem c5 : (k0_pay5 (F := Ideal) (k0_pay13 X W) (k0_pay14 X W) D A (ix2 r j) : EReal) = chunk (ht X W) D A r j := pay3_at (ht X W) D A r j
theorem c6 : (k0_pay6 (F := Ideal) (k0_pay13 X W) (k0_pay14 X W) D A (ix2 r j) : EReal) = chunk (ht X W) D A r j := pay3_at (ht X W) D A r j
theorem c7 : (k0_pay7 (F := Ideal) (k0_pay13 X W) (k0_pay14 X W) D A (ix2 r j) : EReal) = chunk (ht X W) D A r j := pay3_at (ht X W) D A r j
theorem c20 : (k0_pay20 (F := Ideal) (k0_pay17 X W) (k0_pay18 X W) D A (ix2 r j) : EReal) = chunk (ht X W) D A r j := pay5_at (ht X W) D A r j
theorem c21 : (k0_pay21 (F := Ideal) (k0_pay17 X W) (k0_pay18 X W) D A (ix2 r j) : EReal) = chunk (ht X W) D A r j := pay5_at (ht X W) D A r j
theorem c22 : (k0_pay22 (F := Ideal) (k0_pay17 X W) (k0_pay18 X W) D A (ix2 r j) : EReal) = chunk (ht X W) D A r j := pay5_at (ht X W) D A r j
theorem c23 : (k0_pay23 (F := Ideal) (k0_pay17 X W) (k0_pay18 X W) D A (ix2 r j) : EReal) = chunk (ht X W) D A r j := pay5_at (ht X W) D A r j
end payloads

/-- The scratch read back after its four stores holds the block's normed rows. -/
theorem read_scratch (X : FVec Ideal S1024x2048 .f32) (G : FVec Ideal S1x2048 .f32) : (View.whole cc0_scratch0).readCov (Val := Elt Ideal)
        [⟨Rect.unit ![768, 0] ![256, 2048] inb_S1024x2048_S256x2048_768_0,
            k0_pay2 (F := Ideal) G (View.ld (Val := Elt Ideal) (e' := .f32) X (Rect.unit ![768, 0] ![256, 2048] inb_S1024x2048_S256x2048_768_0))⟩,
          ⟨Rect.unit ![512, 0] ![256, 2048] inb_S1024x2048_S256x2048_512_0,
            k0_pay1 (F := Ideal) G (View.ld (Val := Elt Ideal) (e' := .f32) X (Rect.unit ![512, 0] ![256, 2048] inb_S1024x2048_S256x2048_512_0))
              (k0_pay10 (F := Ideal) (View.ld (Val := Elt Ideal) (e' := .f32) X (Rect.unit ![512, 0] ![256, 2048] inb_S1024x2048_S256x2048_512_0)))⟩,
          ⟨Rect.unit ![256, 0] ![256, 2048] inb_S1024x2048_S256x2048_256_0,
            k0_pay9 (F := Ideal) G (View.ld (Val := Elt Ideal) (e' := .f32) X (Rect.unit ![256, 0] ![256, 2048] inb_S1024x2048_S256x2048_256_0))⟩,
          ⟨Rect.unit ![0, 0] ![256, 2048] inb_S1024x2048_S256x2048_0_0,
            k0_pay8 (F := Ideal) G (View.ld (Val := Elt Ideal) (e' := .f32) X (Rect.unit ![0, 0] ![256, 2048] inb_S1024x2048_S256x2048_0_0))⟩]
        (Rect.unit ![0, 0] ![1024, 2048] inb_S1024x2048_S1024x2048_0_0).toLoadRect = xn X G := by
  rw [View.readCov_eq_canon']
  funext z
  have e : (Rect.unit (s := S1024x2048) ![0, 0] ![1024, 2048] inb_S1024x2048_S1024x2048_0_0).toLoadRect.idx z = z :=
    funext fun a => Fin.ext ((Rect.idx_unit_val _ _ _ z a).trans (by fin_cases a <;> exact Nat.zero_add _))
  simp only [e]
  generalize hG : xn X G = Y
  canon_tiles z hz
  all_goals subst hG; rw [Cert.FT.eq_ix2 z]
  · exact (n2 G _ _ _).trans (nrm_ld X G _ _ _ _ _ hz0 hz1)
  · exact (n1 G _ _ _).trans (nrm_ld X G _ _ _ _ _ hz0 hz1)
  · exact (n9 G _ _ _).trans (nrm_ld X G _ _ _ _ _ hz0 hz1)
  · exact (n8 G _ _ _).trans (nrm_ld X G _ _ _ _ _ (hz0.trans (Nat.zero_add _).symm) hz1)

variable (m : (ℓ : Loc nD τ sig) → Buf (Elt Ideal) ℓ) (c : Dev nD)

/-- The first point of a row tile writes the normed rows into the scratch. -/
theorem scratchA (t : Fin cfg0.N) (h0 : t.val % 11 = 0) :
    (outsAt0 m c t.val t.isLt).2 = xn (iblk m c 0 t) (iblk m c 1 t) := by
  funext z
  rw [outsAt0_A m c t h0 h0 (by omega)]
  frame_out
  generalize iblk m c 0 t = X
  generalize iblk m c 1 t = G
  generalize hG : xn X G = Y
  canon_tiles z hz
  all_goals subst hG; rw [Cert.FT.eq_ix2 z]
  · exact (n2 G _ _ _).trans (nrm_ld X G _ _ _ _ _ hz0 hz1)
  · exact (n1 G _ _ _).trans (nrm_ld X G _ _ _ _ _ hz0 hz1)
  · exact (n9 G _ _ _).trans (nrm_ld X G _ _ _ _ _ hz0 hz1)
  · exact (n8 G _ _ _).trans (nrm_ld X G _ _ _ _ _ (hz0.trans (Nat.zero_add _).symm) hz1)

/-- The later points leave the scratch. -/
theorem scratchB (t : Fin cfg0.N) (h0 : ¬ t.val % 11 = 0) :
    (outsAt0 m c t.val t.isLt).2 = (outsAt0 m c (t.val - 1) (by omega)).2 := by
  rw [outsAt0_B m c t h0 h0 (by omega)]
  rfl

/-- The first point of a row tile writes the block of `x` and its part. -/
theorem stepA (t : Fin cfg0.N) (h0 : t.val % 11 = 0) (y : S1024x2048.Idx) :
    ((outsAt0 m c t.val t.isLt).1 y : EReal)
      = at2 (iblk m c 0 t) y + part (xn (iblk m c 0 t) (iblk m c 1 t)) (iblk m c 2 t) (iblk m c 3 t) y := by
  rw [outsAt0_A m c t h0 h0 (by omega)]
  frame_out
  generalize iblk m c 0 t = X
  generalize iblk m c 1 t = G
  generalize iblk m c 2 t = W
  generalize iblk m c 3 t = D
  rw [read_scratch X G]
  generalize hG : at2 X y + part (xn X G) W D y = Y
  canon_tiles y hy
  all_goals subst hG; rw [Cert.FT.eq_ix2 y]
  · exact (c7 _ _ _ _ _ _).trans (part_ld _ W D X _ _ _ _ _ _ hy0 hy1)
  · exact (c6 _ _ _ _ _ _).trans (part_ld _ W D X _ _ _ _ _ _ hy0 hy1)
  · exact (c5 _ _ _ _ _ _).trans (part_ld _ W D X _ _ _ _ _ _ hy0 hy1)
  · exact (c4 _ _ _ _ _ _).trans (part_ld _ W D X _ _ _ _ _ _ hy0 (hy1.trans (Nat.zero_add _).symm))

/-- A later point adds its part. -/
theorem stepB (t : Fin cfg0.N) (h0 : ¬ t.val % 11 = 0) (y : S1024x2048.Idx) :
    ((outsAt0 m c t.val t.isLt).1 y : EReal)
      = at2 (outsAt0 m c (t.val - 1) (by omega)).1 y + part (outsAt0 m c (t.val - 1) (by omega)).2 (iblk m c 2 t) (iblk m c 3 t) y := by
  rw [outsAt0_B m c t h0 h0 (by omega)]
  frame_out
  generalize outsAt0 m c (t.val - 1) _ = P
  generalize iblk m c 2 t = W
  generalize iblk m c 3 t = D
  generalize hG : at2 P.1 y + part P.2 W D y = Y
  canon_tiles y hy
  all_goals subst hG; rw [Cert.FT.eq_ix2 y, read_unread_whole]
  · exact (c23 _ _ _ _ _ _).trans (part_ld _ W D P.1 _ _ _ _ _ _ hy0 hy1)
  · exact (c22 _ _ _ _ _ _).trans (part_ld _ W D P.1 _ _ _ _ _ _ hy0 hy1)
  · exact (c21 _ _ _ _ _ _).trans (part_ld _ W D P.1 _ _ _ _ _ _ hy0 hy1)
  · exact (c20 _ _ _ _ _ _).trans (part_ld _ W D P.1 _ _ _ _ _ _ hy0 (hy1.trans (Nat.zero_add _).symm))
end Cert.FR
end
-- ==== Proof.RestValue.lean ====
module

public import proofs.«01_k».proof.Proof.RestStep2
public import proofs.«01_k».proof.Proof.RestIdealBody
public import proofs.«01_k».proof.Proof.TailValue
public import Idealize.ShloMosaic.Lib.Claim

/-! The result array of the first half-step over the sequence rows after its launch, entry by entry over the arguments. -/

@[expose] public section
set_option maxRecDepth 16384
noncomputable section
namespace Cert.FR
open Idealize.ShloMosaic Idealize.ShloMosaic.TcCoe Idealize.SL.Sem
open Cert.RestIdeal Cert.RestIdeal.Gen Cert.RestIdeal.Body Cert.FT

/-- The kernel's result: the rows of the stream from the 1024th on. -/
def rest (X : FVec Ideal S8192x2048 .f32) (G : FVec Ideal S1x2048 .f32) (Wg Wu : FVec Ideal S2048x5632 .f32) (Wd : FVec Ideal S5632x2048 .f32)
    (y : S7168x2048.Idx) : EReal := tail X G Wg Wu Wd (ix2 (⟨1024 + (y 0).val, by have : (y 0).val < 7168 := (y 0).isLt; omega⟩ : Fin 8192) (y 1))

variable (m : (ℓ : Loc nD τ sig) → Buf (Elt Ideal) ℓ) (c : Dev nD)

abbrev aX : FVec Ideal S8192x2048 .f32 := m (c.tc.loc main_arg0)
abbrev aG : FVec Ideal S1x2048 .f32 := m (c.tc.loc main_arg1)
abbrev aWg : FVec Ideal S2048x5632 .f32 := m (c.tc.loc main_arg2)
abbrev aWu : FVec Ideal S2048x5632 .f32 := m (c.tc.loc main_arg3)
abbrev aWd : FVec Ideal S5632x2048 .f32 := m (c.tc.loc main_arg4)

/-- Which blocks a grid point reads. -/
theorem idx : ∀ t : Fin cfg0.N, win0_0.index t = ![t.val / 11 + 1, 0] ∧ win0_1.index t = ![0, 0]
    ∧ win0_2.index t = ![0, t.val % 11] ∧ win0_3.index t = ![t.val % 11, 0] ∧ win0_5.index t = ![t.val / 11, 0] :=
  (by decide +kernel : ∀ t : Fin grid0.N, _)

theorem lt77 (t : Fin cfg0.N) : t.val < 77 := lt_of_lt_of_eq t.isLt N_0

/-- The array's row at row `r` of a grid point's tile. -/
def row (t : Fin cfg0.N) (r : Fin 1024) : Fin 8192 := ⟨(t.val / 11 + 1) * 1024 + r.val, by have := lt77 t; omega⟩

theorem blk0 (t : Fin cfg0.N) (r : Fin 1024) (d : Fin 2048) :
    (iblk m c 0 t : FVec Ideal S1024x2048 .f32) (ix2 r d) = aX m c (ix2 (row t r) d) := by
  unfold row
  blk_ext [iblk, V, idx t]

theorem blk0_at (t : Fin cfg0.N) (y : S1024x2048.Idx) : at2 (iblk m c 0 t) y = aX m c (ix2 (row t (y 0)) (y 1)) :=
  (congrArg (at2 (iblk m c 0 t)) (Cert.FT.eq_ix2 y)).trans (blk0 m c t (y 0) (y 1))

theorem blk1 (t : Fin cfg0.N) (d : Fin 2048) :
    (iblk m c 1 t : FVec Ideal S1x2048 .f32) (ix2 0 d) = aG m c (ix2 0 d) := by
  blk_ext [iblk, V, idx t]

theorem blk2 (t : Fin cfg0.N) (d : Fin 2048) (k : Fin 1024) :
    (iblk m c 2 t : FVec Ideal S2048x1024 .bf16) (ix2 d k) = V m c main_v5 (ix2 d (⟨t.val % 11 * 1024 + k.val, by omega⟩ : Fin 11264)) := by
  blk_ext [iblk, idx t]

theorem blk3 (t : Fin cfg0.N) (k : Fin 512) (j : Fin 2048) :
    (iblk m c 3 t : FVec Ideal S512x2048 .bf16) (ix2 k j) = V m c main_v8 (ix2 (⟨t.val % 11 * 512 + k.val, by omega⟩ : Fin 5632) j) := by
  blk_ext [iblk, idx t]

/-- The launch's packed weights. -/
theorem entry5 (d : Fin 2048) (j : Fin 11264) : (V m c main_v5 (ix2 d j) : EReal)
      = if _ : j.val / 256 % 2 < 1 then aWg m c (ix2 d ⟨j.val / 512 * 256 + j.val % 256, by omega⟩)
        else aWu m c (ix2 d ⟨j.val / 512 * 256 + j.val % 256, by omega⟩) := by
  entry_read
  exact packed_at _ _ d j

/-- The launch's halved down-projection. -/
theorem entry8 (q : Fin 5632) (j : Fin 2048) : (V m c main_v8 (ix2 q j) : EReal) = Ideal.ofBits .f32 0x3F000000#32 * aWd m c (ix2 q j) := by
  entry_read
  exact half_at _ q j

/-- The hidden column of the array at hidden column `k` of a grid point's tile. -/
def hcol (t : Fin cfg0.N) (k : Fin 512) : Fin 5632 := ⟨t.val % 11 * 512 + k.val, by omega⟩

theorem gate_at (t : Fin cfg0.N) (d : Fin 2048) (k : Fin 512) :
    ((iblk m c 2 t : FVec Ideal S2048x1024 .bf16) (ix2 d (gateCol k)) : EReal) = aWg m c (ix2 d (hcol t k)) := by
  rw [blk2, entry5, dif_pos (by simp only [gateCol]; omega)]
  exact congrArg (aWg m c) (congrArg (ix2 d) (Fin.ext (by simp only [gateCol, hcol]; omega)))

theorem up_at (t : Fin cfg0.N) (d : Fin 2048) (k : Fin 512) :
    ((iblk m c 2 t : FVec Ideal S2048x1024 .bf16) (ix2 d (upCol k)) : EReal) = aWu m c (ix2 d (hcol t k)) := by
  rw [blk2, entry5, dif_neg (by simp only [upCol]; omega)]
  exact congrArg (aWu m c) (congrArg (ix2 d) (Fin.ext (by simp only [upCol, hcol]; omega)))

theorem down_at (t : Fin cfg0.N) (k : Fin 512) (j : Fin 2048) :
    ((iblk m c 3 t : FVec Ideal S512x2048 .bf16) (ix2 k j) : EReal) = Ideal.ofBits .f32 0x3F000000#32 * aWd m c (ix2 (hcol t k) j) := by
  rw [blk3, entry8]; rfl

/-- The normed rows of a tile are the normed stream's. -/
theorem xn_at (t : Fin cfg0.N) (r : Fin 1024) (d : Fin 2048) :
    (xn (iblk m c 0 t) (iblk m c 1 t) (ix2 r d) : EReal) = nrmG (aX m c) (aG m c) (row t r) d := by
  show nrm (fun k => (iblk m c 0 t : FVec Ideal S1024x2048 .f32) (ix2 r k)) ((iblk m c 1 t : FVec Ideal S1x2048 .f32) (ix2 0 d)) d = _
  unfold nrmG
  rw [blk1, funext (fun k => blk0 m c t r k)]

/-- A grid point's part is its 512 hidden columns' share. -/
theorem part_at (t : Fin cfg0.N) (y : S1024x2048.Idx) :
    part (xn (iblk m c 0 t) (iblk m c 1 t)) (iblk m c 2 t) (iblk m c 3 t) y
      = ∑ k ∈ Finset.range 512, termN (aX m c) (aG m c) (aWg m c) (aWu m c) (aWd m c) (row t (y 0)) (y 1) (512 * (t.val % 11) + k) := by
  rw [Finset.sum_range]
  unfold part
  refine Finset.sum_congr rfl fun k _ => ?_
  have hk : 512 * (t.val % 11) + k.val < 5632 := by have := k.isLt; omega
  unfold termN
  rw [dif_pos hk]
  have e : (⟨512 * (t.val % 11) + k.val, hk⟩ : Fin 5632) = hcol t k := Fin.ext (by simp only [hcol]; omega)
  rw [e]
  unfold term hid hidG
  refine congrArg₂ (fun a b : EReal => a * b) (congrArg₂ act ?_ ?_) (down_at m c t k (y 1))
  · exact Finset.sum_congr rfl fun d _ => congrArg₂ (fun a b : EReal => a * b) (xn_at m c t (y 0) d) (gate_at m c t d k)
  · exact Finset.sum_congr rfl fun d _ => congrArg₂ (fun a b : EReal => a * b) (xn_at m c t (y 0) d) (up_at m c t d k)

/-- Within a row tile the points read the same rows. -/
theorem xn_step (t s : Fin cfg0.N) (h : t.val / 11 = s.val / 11) :
    xn (iblk m c 0 t) (iblk m c 1 t) = xn (iblk m c 0 s) (iblk m c 1 s) := by
  funext y
  rw [Cert.FT.eq_ix2 y]
  have e : row t (y 0) = row s (y 0) := Fin.ext (by simp only [row, h])
  exact (xn_at m c t (y 0) (y 1)).trans ((congrArg (fun R => nrmG (aX m c) (aG m c) R (y 1)) e).trans (xn_at m c s (y 0) (y 1)).symm)

/-- What stands in the scratch and the result block after each grid point. -/
theorem inv (n : ℕ) : ∀ h : n < cfg0.N,
    (outsAt0 m c n h).2 = xn (iblk m c 0 ⟨n, h⟩) (iblk m c 1 ⟨n, h⟩)
    ∧ ∀ y : S1024x2048.Idx, ((outsAt0 m c n h).1 y : EReal) = aX m c (ix2 (row ⟨n, h⟩ (y 0)) (y 1))
      + ∑ q ∈ Finset.range (512 * (n % 11) + 512), termN (aX m c) (aG m c) (aWg m c) (aWu m c) (aWd m c) (row ⟨n, h⟩ (y 0)) (y 1) q := by
  induction n with
  | zero =>
    intro h
    refine ⟨scratchA m c ⟨0, h⟩ rfl, fun y => ?_⟩
    refine (stepA m c ⟨0, h⟩ rfl y).trans ?_
    rw [part_at, blk0_at]
    simp only [Nat.zero_mod, Nat.mul_zero, Nat.zero_add]
  | succ n ih =>
    intro h
    by_cases h0 : (n + 1) % 11 = 0
    · refine ⟨scratchA m c ⟨n + 1, h⟩ h0, fun y => ?_⟩
      refine (stepA m c ⟨n + 1, h⟩ h0 y).trans ?_
      rw [part_at, blk0_at]
      simp only [h0, Nat.mul_zero, Nat.zero_add]
    · obtain ⟨i2, i1⟩ := ih (by omega)
      have hx := xn_step m c ⟨n, by omega⟩ ⟨n + 1, h⟩ (show n / 11 = (n + 1) / 11 by omega)
      refine ⟨(scratchB m c ⟨n + 1, h⟩ h0).trans (i2.trans hx), fun y => ?_⟩
      refine (stepB m c ⟨n + 1, h⟩ h0 y).trans ?_
      have e2 : (outsAt0 m c (n + 1 - 1) (by omega)).2 = xn (iblk m c 0 ⟨n + 1, h⟩) (iblk m c 1 ⟨n + 1, h⟩) := i2.trans hx
      have e1 : at2 (outsAt0 m c (n + 1 - 1) (by omega)).1 y = _ := i1 y
      have er : row ⟨n, by omega⟩ (y 0) = row ⟨n + 1, h⟩ (y 0) := Fin.ext (by simp only [row]; omega)
      have en : 512 * ((n + 1) % 11) = 512 * (n % 11) + 512 := by omega
      show at2 (outsAt0 m c (n + 1 - 1) (by omega)).1 y + part (outsAt0 m c (n + 1 - 1) (by omega)).2 _ _ y = _
      rw [e2, e1, part_at, er]
      show _ + ∑ k ∈ Finset.range 512, termN _ _ _ _ _ _ _ (512 * ((n + 1) % 11) + k) = _
      rw [en, Finset.sum_range_add _ (512 * (n % 11) + 512) 512, add_assoc]

/-- The result array after the run. -/
theorem final : (dats m 0 c).arrAt 5 cfg0.N = rest (aX m c) (aG m c) (aWg m c) (aWu m c) (aWd m c) := by
  refine (dats m 0 c).arrAt_eq_of_covers 5 _ (by decide +kernel) fun t hf y => ?_
  blk_simp
  rw [after0_5]
  have h10 := (flush0_5 t).mp hf
  refine ((inv m c t.val t.isLt).2 y).trans ?_
  rw [h10]
  have e : ∀ i : S7168x2048.Idx, i = ix2 (⟨t.val / 11 * 1024 + (y 0).val, by have := lt77 t; have : (y 0).val < 1024 := (y 0).isLt; omega⟩ : Fin 7168) (y 1) →
      aX m c (ix2 (row t (y 0)) (y 1)) + ∑ q ∈ Finset.range (512 * 10 + 512), termN (aX m c) (aG m c) (aWg m c) (aWu m c) (aWd m c) (row t (y 0)) (y 1) q
        = rest (aX m c) (aG m c) (aWg m c) (aWu m c) (aWd m c) i := by
    rintro i rfl
    have er : (⟨1024 + (t.val / 11 * 1024 + (y 0).val), by have := lt77 t; have : (y 0).val < 1024 := (y 0).isLt; omega⟩ : Fin 8192) = row t (y 0) :=
      Fin.ext (by simp only [row]; omega)
    show _ = tail (aX m c) (aG m c) (aWg m c) (aWu m c) (aWd m c) (ix2 (⟨1024 + (t.val / 11 * 1024 + (y 0).val), _⟩ : Fin 8192) (y 1))
    rw [er]
    unfold tail
    rw [Finset.sum_range]
    exact congrArg (fun b : EReal => aX m c (ix2 (row t (y 0)) (y 1)) + b) (Finset.sum_congr rfl fun q _ => dif_pos q.isLt)
  refine e _ ?_
  blk_ext [idx t]
end Cert.FR
end
-- ==== Proof.RefRest.lean ====
module

public import proofs.«01_k».proof.Proof.Gen.RestReferenceIdeal
public import proofs.«01_k».proof.Proof.RefTail
public import proofs.«01_k».proof.Proof.RestValue
public import Idealize.ShloMosaic.Lib.Claim
public import Idealize.ShloMosaic.Lib.Pipeline.ValueKit

/-! The third reference: the first feed-forward half-step's result as a term over its arguments, its run, and the
   equality of that term with the kernel's result. -/

@[expose] public section
set_option maxRecDepth 16384
noncomputable section
namespace Cert.RefFR
open Idealize.ShloMosaic Idealize.SL.Sem
open Cert.RestReferenceIdeal Cert.RestReferenceIdeal.Gen

/-- The RMS norm of the stream. -/
def normed (X : FVec Ideal S7168x2048 .f32) (G : FVec Ideal S1x2048 .f32) : FVec Ideal S7168x2048 .f32 :=
  mulf (mulf X (broadcastInDim S7168x2048 ![0, 1] bcast_S7168x1_S7168x2048_0_1
    (Host.rsqrt (addf (Host.divf (broadcastInDim S7168x1 ![0] bcast_S7168_S7168x1_0
        (Host.reduceAdd (mulf X X) (constant S_ .f32 0x00000000#32) reducesTo_S7168x2048_S7168_d1 h_S_))
        (broadcastInDim S7168x1 ![] bcast_S_S7168x1 (constant S_ .f32 0x45000000#32)))
      (broadcastInDim S7168x1 ![] bcast_S_S7168x1 (constant S_ .f32 0x358637BD#32))))))
    (broadcastInDim S7168x2048 ![0, 1] bcast_S1x2048_S7168x2048_0_1 G)

/-- The sigmoid-weighted unit. -/
def silu (Z : FVec Ideal S7168x5632 .f32) : FVec Ideal S7168x5632 .f32 :=
  mulf Z (Host.divf (broadcastInDim S7168x5632 ![] bcast_S_S7168x5632 (constant S_ .f32 0x3F800000#32))
    (addf (broadcastInDim S7168x5632 ![] bcast_S_S7168x5632 (constant S_ .f32 0x3F800000#32)) (Host.exp (Host.negf Z))))

/-- The hidden layer. -/
def hidden (N : FVec Ideal S7168x2048 .f32) (Wg Wu : FVec Ideal S2048x5632 .f32) : FVec Ideal S7168x5632 .f32 :=
  mulf (silu (Host.dotGeneral dot_S7168x2048_S2048x5632_S7168x5632_1_0_0_1_n_n none N Wg))
    (Host.dotGeneral dot_S7168x2048_S2048x5632_S7168x5632_1_0_0_1_n_n none N Wu)

/-- The rows of the stream from the 1024th on. -/
def rows (X : FVec Ideal S8192x2048 .f32) : FVec Ideal S7168x2048 .f32 := extractStridedSlice S7168x2048 ![1024, 0] X slices_S8192x2048_S7168x2048_1024_0

/-- The half-step over the rows it is given. -/
def step (Y : FVec Ideal S7168x2048 .f32) (G : FVec Ideal S1x2048 .f32) (Wg Wu : FVec Ideal S2048x5632 .f32) (Wd : FVec Ideal S5632x2048 .f32) :
    FVec Ideal S7168x2048 .f32 :=
  addf Y (mulf (broadcastInDim S7168x2048 ![] bcast_S_S7168x2048 (constant S_ .f32 0x3F000000#32))
    (Host.dotGeneral dot_S7168x5632_S5632x2048_S7168x2048_1_0_0_1_n_n none (hidden (normed Y G) Wg Wu) Wd))

/-- The reference's result over its arguments. -/
def REF (X : FVec Ideal S8192x2048 .f32) (G : FVec Ideal S1x2048 .f32) (Wg Wu : FVec Ideal S2048x5632 .f32) (Wd : FVec Ideal S5632x2048 .f32) :
    FVec Ideal S7168x2048 .f32 := step (rows X) G Wg Wu Wd

variable (m : (ℓ : Loc nD τ sig) → Buf (Elt Ideal) ℓ) (g : Dev nD → PrngReg)

set_option maxHeartbeats 4000000 in
/-- The reference runs and its result array ends holding `REF` of its arguments. -/
theorem run : θ_run (defs (F := Ideal)) (onTc (τ := τ) (main (F := Ideal))) ⟨m, fun _ => 0, g⟩ (fun r => ∀ c : Dev nD,
          r.2.mem ((c.tc : Thread nD τ).loc main_v20)
            = REF (m (c.tc.loc main_arg0)) (m (c.tc.loc main_arg1)) (m (c.tc.loc main_arg2)) (m (c.tc.loc main_arg3)) (m (c.tc.loc main_arg4))) := by
  hlo_run
  simp -implicitDefEqProofs only [StableHlo.TRef.ofBuf_toBuf, StableHlo.TRef.toBuf, StableHlo.TRef.ofBuf, cast_eq, id]
  unfold REF step rows hidden silu normed
  rfl

set_option maxHeartbeats 400000 in
/-- The reference runs and leaves its arguments as they were. -/
theorem args : θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run

theorem normed_at (X : FVec Ideal S7168x2048 .f32) (G : FVec Ideal S1x2048 .f32) (R : Fin 7168) (d : Fin 2048) :
    (normed X G (ix2 R d) : EReal) = Cert.FT.nrm (fun k => X (ix2 R k)) (G (ix2 0 d)) d := by
  unfold Cert.FT.nrm
  pointwise [normed]

theorem hidden_at (N : FVec Ideal S7168x2048 .f32) (Wg Wu : FVec Ideal S2048x5632 .f32) (R : Fin 7168) (q : Fin 5632) :
    (hidden N Wg Wu (ix2 R q) : EReal)
      = Cert.FT.act (∑ d : Fin 2048, N (ix2 R d) * Wg (ix2 d q)) (∑ d : Fin 2048, N (ix2 R d) * Wu (ix2 d q)) := by
  rw [← Cert.RefFT.act_eq]
  pointwise [hidden, silu]

theorem out_at (X : FVec Ideal S7168x2048 .f32) (H : FVec Ideal S7168x5632 .f32) (Wd : FVec Ideal S5632x2048 .f32) (R : Fin 7168) (j : Fin 2048) :
    (addf X (mulf (broadcastInDim S7168x2048 ![] bcast_S_S7168x2048 (constant S_ .f32 0x3F000000#32))
      (Host.dotGeneral dot_S7168x5632_S5632x2048_S7168x2048_1_0_0_1_n_n none H Wd)) (ix2 R j) : EReal)
      = X (ix2 R j) + Ideal.ofBits .f32 0x3F000000#32 * ∑ q : Fin 5632, H (ix2 R q) * Wd (ix2 q j) := by
  pointwise []

theorem rows_at (X : FVec Ideal S8192x2048 .f32) (R : Fin 7168) (d : Fin 2048) :
    (rows X (ix2 R d) : EReal) = X (ix2 (⟨1024 + R.val, by omega⟩ : Fin 8192) d) := by
  pointwise [rows]

theorem step_at (Y : FVec Ideal S7168x2048 .f32) (G : FVec Ideal S1x2048 .f32) (Wg Wu : FVec Ideal S2048x5632 .f32) (Wd : FVec Ideal S5632x2048 .f32)
    (X : FVec Ideal S8192x2048 .f32) (R : Fin 7168) (R' : Fin 8192) (h : ∀ d : Fin 2048, (Y (ix2 R d) : EReal) = X (ix2 R' d)) (j : Fin 2048) :
    (step Y G Wg Wu Wd (ix2 R j) : EReal) = Cert.FT.tail X G Wg Wu Wd (ix2 R' j) := by
  refine (out_at Y _ Wd R j).trans ?_
  rw [h j]
  refine congrArg (fun b : EReal => X (ix2 R' j) + b) ?_
  rw [Cert.RefFT.half_eq, Cert.RefFT.mul_sum_coe _ _ _ (by norm_num)]
  refine Finset.sum_congr rfl fun q _ => ?_
  have n : ∀ d : Fin 2048, (normed Y G (ix2 R d) : EReal) = Cert.FT.nrmG X G R' d := fun d => by
    refine (normed_at Y G R d).trans ?_
    unfold Cert.FT.nrmG
    exact congrArg (fun f : Fin 2048 → EReal => Cert.FT.nrm f (G (ix2 0 d)) d) (funext h)
  have e : (hidden (normed Y G) Wg Wu (ix2 R q) : EReal) = Cert.FT.hidG X G Wg Wu R' q := by
    refine (hidden_at (normed Y G) Wg Wu R q).trans ?_
    unfold Cert.FT.hidG
    exact congrArg₂ Cert.FT.act (Finset.sum_congr rfl fun d _ => congrArg (fun b : EReal => b * Wg (ix2 d q)) (n d))
      (Finset.sum_congr rfl fun d _ => congrArg (fun b : EReal => b * Wu (ix2 d q)) (n d))
  show _ = Cert.FT.hidG X G Wg Wu R' q * (Ideal.ofBits .f32 0x3F000000#32 * Wd (ix2 q j))
  rw [Cert.RefFT.half_eq, e]
  exact mul_left_comm _ _ _

/-- The reference's result is the kernel's. -/
theorem ref_eq (X : FVec Ideal S8192x2048 .f32) (G : FVec Ideal S1x2048 .f32) (Wg Wu : FVec Ideal S2048x5632 .f32) (Wd : FVec Ideal S5632x2048 .f32) :
    REF X G Wg Wu Wd = Cert.FR.rest X G Wg Wu Wd := by
  funext y
  rw [Cert.FT.eq_ix2 y]
  exact step_at (rows X) G Wg Wu Wd X (y 0) _ (rows_at X (y 0)) (y 1)
end Cert.RefFR
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Tail.Frame
public import proofs.«01_k».proof.Proof.Gen.TailIdeal.Frame
public import proofs.«01_k».proof.Proof.Gen.TailReferenceIdeal
public import proofs.«01_k».proof.Proof.RestBody
public import proofs.«01_k».proof.Proof.RestIdealBody
public import proofs.«01_k».proof.Proof.Gen.RestReferenceIdeal
public import proofs.«01_k».proof.Proof.RefFrame
public import proofs.«01_k».proof.Proof.RefValue
public import proofs.«01_k».proof.Proof.Pre
public import proofs.«01_k».proof.Proof.Point
public import proofs.«01_k».proof.Proof.TailValue
public import proofs.«01_k».proof.Proof.RefTail
public import proofs.«01_k».proof.Proof.RestValue
public import proofs.«01_k».proof.Proof.RefRest
public import Idealize.ShloMosaic.Lib.Claim
public import Idealize.ShloMosaic.Lib.Pipeline.ValueKit
public import Idealize.ShloMosaic.Adequacy
public import Idealize.ShloMosaic.Init

@[expose] public section

noncomputable section

namespace Cert.Proof

open Idealize.ShloMosaic Idealize.SL.Sem Cert.Kernel

/-- The reference runs, leaves its arguments as they were and every counter at zero. -/
theorem frame_reference : Cert.quiescent_ReferenceIdeal (hReferenceIdeal := Cert.ReferenceIdeal.Gen.facts) := fun m ρ _ =>
  (θ_run Cert.ReferenceIdeal.defs _ _).mono (fun r h => ⟨h, Idealize.ShloMosaic.sem_eq_zero_of_no_sems (by decide) r.2⟩)
    (Cert.RefAttn.args m ρ)

/-- The reference's result over the kernel's arguments, where the two programs' arguments agree and the kernel's are finite. -/
theorem reference_value (m : (ℓ : Loc Cert.KernelIdeal.nD Cert.KernelIdeal.τ Cert.KernelIdeal.sig) → Buf (Elt Ideal) ℓ) (c : Dev Cert.KernelIdeal.nD)
    (hpre : Cert.Pre_KernelIdeal_finite (hPre_finite := Cert.Attn.finiteFacts) m) :
    Cert.RefAttn.REF (Cert.KV.aQ m c) (Cert.KV.aK m c) (Cert.KV.aV m c) (Cert.KV.aKm m c) (Cert.KV.aVm m c) (Cert.KV.aL m c) (Cert.KV.aLm m c)
      = (Cert.KernelIdeal.Gen.dats m 0 c).arrAt 10 Cert.KernelIdeal.cfg0.N := by
  obtain ⟨hq, hk, hkm, hl, hlm⟩ := @Cert.Attn.real_of_finite Cert.Attn.finiteFacts _ _ _ _ _ _ _ _ _ _ (hpre c)
  exact (Cert.RefAttn.ref_eq _ _ _ _ _ _ _ hq hk hkm hl hlm).trans (Cert.KV.final m c hl hlm hq hk hkm).symm

/-- What the kernel's run leaves in its result. -/
theorem kernel_value (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v61_0) = (Cert.KernelIdeal.Gen.dats m 0 c).arrAt 10 Cert.KernelIdeal.cfg0.N) := by
  run_from (Cert.KernelIdeal.Gen.run_main m g)

/-- Over finite arguments the kernel's attention is the reference's. -/
theorem algebraic : Cert.algebraic_KernelIdeal_ReferenceIdeal_pre_finite (hKernelIdeal := Cert.KernelIdeal.Gen.facts)
    (hReferenceIdeal := Cert.ReferenceIdeal.Gen.facts) (hPre_finite := Cert.Attn.finiteFacts) := by
  intro m g m' g' hpre hagree
  refine ⟨fun c => (Cert.KernelIdeal.Gen.dats m 0 c).arrAt 10 Cert.KernelIdeal.cfg0.N, ?_, ?_⟩
  · exact (θ_run Cert.KernelIdeal.defs _ _).mono (fun r h c => ⟨h.1 c, h.2 c⟩) (θ_run_and (kernel_value m g) (Cert.KernelIdeal.Gen.unchanged m g))
  · refine (θ_run Cert.ReferenceIdeal.defs _ _).mono (fun r h c => ?_) (θ_run_and (Cert.RefAttn.run m' g') (Cert.RefAttn.args m' g'))
    have e := hagree c
    refine ⟨(h.1 c).trans ?_, h.2 c⟩
    refine Eq.trans ?_ (reference_value m c hpre)
    rw [e.1, e.2.1, e.2.2.1, e.2.2.2.1, e.2.2.2.2.1, e.2.2.2.2.2.1, e.2.2.2.2.2.2.1]

/-- The second reference runs, leaves its arguments as they were and every counter at zero. -/
theorem frame_tail_reference : Cert.quiescent_TailReferenceIdeal (hTailReferenceIdeal := Cert.TailReferenceIdeal.Gen.facts) := fun m ρ _ =>
  (θ_run Cert.TailReferenceIdeal.defs _ _).mono (fun r h => ⟨h, Idealize.ShloMosaic.sem_eq_zero_of_no_sems (by decide) r.2⟩)
    (Cert.RefFT.args m ρ)

/-- What the feed-forward kernel's run leaves in its result. -/
theorem tail_value (m : (ℓ : Loc Cert.TailIdeal.nD Cert.TailIdeal.τ Cert.TailIdeal.sig) → Buf (Elt Ideal) ℓ) (g : Dev Cert.TailIdeal.nD → PrngReg) :
    θ_run (Cert.TailIdeal.defs (F := Ideal)) (onTc (τ := Cert.TailIdeal.τ) (Cert.TailIdeal.main (F := Ideal))) ⟨m, fun _ => 0, g⟩ (fun r => ∀ c : Dev Cert.TailIdeal.nD,
      r.2.mem ((c.tc : Thread Cert.TailIdeal.nD Cert.TailIdeal.τ).loc Cert.TailIdeal.main_v9) = (Cert.TailIdeal.Gen.dats m 0 c).arrAt 4 Cert.TailIdeal.cfg0.N) := by
  run_from (Cert.TailIdeal.Gen.run_main m g)

/-- On any arguments the kernel's feed-forward half-step is the reference's. -/
theorem algebraic_tail : Cert.algebraic_TailIdeal_TailReferenceIdeal (hTailIdeal := Cert.TailIdeal.Gen.facts)
    (hTailReferenceIdeal := Cert.TailReferenceIdeal.Gen.facts) := by
  intro m g m' g' _ hagree
  refine ⟨fun c => (Cert.TailIdeal.Gen.dats m 0 c).arrAt 4 Cert.TailIdeal.cfg0.N, ?_, ?_⟩
  · exact (θ_run Cert.TailIdeal.defs _ _).mono (fun r h c => ⟨h.1 c, h.2 c⟩) (θ_run_and (tail_value m g) (Cert.TailIdeal.Gen.unchanged m g))
  · refine (θ_run Cert.TailReferenceIdeal.defs _ _).mono (fun r h c => ?_) (θ_run_and (Cert.RefFT.run m' g') (Cert.RefFT.args m' g'))
    have e := hagree c
    refine ⟨(h.1 c).trans ?_, h.2 c⟩
    refine Eq.trans ?_ ((Cert.RefFT.ref_eq _ _ _ _ _).trans (Cert.FT.final m c).symm)
    rw [e.1, e.2.1, e.2.2.1, e.2.2.2.1, e.2.2.2.2]

/-- The third reference runs, leaves its arguments as they were and every counter at zero. -/
theorem frame_rest_reference : Cert.quiescent_RestReferenceIdeal (hRestReferenceIdeal := Cert.RestReferenceIdeal.Gen.facts) := fun m ρ _ =>
  (θ_run Cert.RestReferenceIdeal.defs _ _).mono (fun r h => ⟨h, Idealize.ShloMosaic.sem_eq_zero_of_no_sems (by decide) r.2⟩)
    (Cert.RefFR.args m ρ)

/-- On any arguments the kernel's first half-step, on the rows from the 1024th on, is the reference's. -/
theorem algebraic_rest : Cert.algebraic_RestIdeal_RestReferenceIdeal (hRestIdeal := Cert.RestIdeal.Gen.facts)
    (hRestReferenceIdeal := Cert.RestReferenceIdeal.Gen.facts) := by
  intro m g m' g' _ hagree
  refine ⟨fun c => (Cert.RestIdeal.Body.dats m 0 c).arrAt 5 Cert.RestIdeal.cfg0.N, ?_, ?_⟩
  · exact (θ_run Cert.RestIdeal.defs _ _).mono (fun r h c => ⟨h.1 c, h.2.1 c⟩)
      (θ_run_and (Cert.RestIdeal.Body.rest_out m g) (Cert.RestIdeal.Body.rest_frame m g))
  · refine (θ_run Cert.RestReferenceIdeal.defs _ _).mono (fun r h c => ?_) (θ_run_and (Cert.RefFR.run m' g') (Cert.RefFR.args m' g'))
    have e := hagree c
    refine ⟨(h.1 c).trans ?_, h.2 c⟩
    refine Eq.trans ?_ ((Cert.RefFR.ref_eq _ _ _ _ _).trans (Cert.FR.final m c).symm)
    rw [e.1, e.2.1, e.2.2.1, e.2.2.2.1, e.2.2.2.2.1]

theorem claim : Cert.Claim := ⟨Cert.Kernel.Gen.facts, Cert.KernelIdeal.Gen.facts, Cert.ReferenceIdeal.Gen.facts,
  Cert.Tail.Gen.facts, Cert.TailIdeal.Gen.facts, Cert.TailReferenceIdeal.Gen.facts,
  Cert.Rest.Gen.facts, Cert.RestIdeal.Gen.facts, Cert.RestReferenceIdeal.Gen.facts, Cert.Attn.finiteFacts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Tail.Gen.frame m ρ, fun m ρ _ => Cert.TailIdeal.Gen.frame m ρ, frame_tail_reference,
  fun m ρ _ => Cert.Rest.Body.rest_frame m ρ, fun m ρ _ => Cert.RestIdeal.Body.rest_frame m ρ, frame_rest_reference,
  IdealRules.named_const.statement Cert.KernelIdeal.κ "exp2_scale" .f32 0x3E0293EE#32 _ rfl, algebraic, trivial, algebraic_tail,
  trivial, algebraic_rest⟩

end Cert.Proof

end
